-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_lse [hPre_finite_lse : Cert.Pre_finite_lse.Facts] (m : (ℓ : Loc Cert.MergeIdeal.nD Cert.MergeIdeal.τ Cert.MergeIdeal.sig) → Buf (Elt Ideal) ℓ) : Prop :=
  ∀ c : Dev Cert.MergeIdeal.nD,
    (Cert.Pre_finite_lse.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_lse [hPre_finite_lse : Cert.Pre_finite_lse.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_lse.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Split (m : (ℓ : Loc Cert.Split.nD Cert.Split.τ Cert.Split.sig) → Buf (Elt Bits) ℓ) : Prop :=
  True

def Pre_SplitIdeal (m : (ℓ : Loc Cert.SplitIdeal.nD Cert.SplitIdeal.τ Cert.SplitIdeal.sig) → Buf (Elt Ideal) ℓ) : Prop :=
  True

def Pre_SplitRefIdeal (m : (ℓ : Loc Cert.SplitRefIdeal.nD Cert.SplitRefIdeal.τ Cert.SplitRefIdeal.sig) → Buf (Elt Ideal) ℓ) : Prop :=
  True

def Pre_Four (m : (ℓ : Loc Cert.Four.nD Cert.Four.τ Cert.Four.sig) → Buf (Elt Bits) ℓ) : Prop :=
  True

def Pre_FourIdeal (m : (ℓ : Loc Cert.FourIdeal.nD Cert.FourIdeal.τ Cert.FourIdeal.sig) → Buf (Elt Ideal) ℓ) : Prop :=
  True

def Pre_FourIdeal_finite_four [hPre_finite_four : Cert.Pre_finite_four.Facts] (m : (ℓ : Loc Cert.FourIdeal.nD Cert.FourIdeal.τ Cert.FourIdeal.sig) → Buf (Elt Ideal) ℓ) : Prop :=
  ∀ c : Dev Cert.FourIdeal.nD,
    (Cert.Pre_finite_four.fn (F := Ideal) (m ((c.tc : Thread Cert.FourIdeal.nD Cert.FourIdeal.τ).loc Cert.FourIdeal.main_arg0)) (m ((c.tc : Thread Cert.FourIdeal.nD Cert.FourIdeal.τ).loc Cert.FourIdeal.main_arg1)) (m ((c.tc : Thread Cert.FourIdeal.nD Cert.FourIdeal.τ).loc Cert.FourIdeal.main_arg2))) = (fun _ => 1#1)

def Pre_FourRefIdeal (m : (ℓ : Loc Cert.FourRefIdeal.nD Cert.FourRefIdeal.τ Cert.FourRefIdeal.sig) → Buf (Elt Ideal) ℓ) : Prop :=
  True

def Pre_FourRefIdeal_finite_four [hPre_finite_four : Cert.Pre_finite_four.Facts] (m : (ℓ : Loc Cert.FourRefIdeal.nD Cert.FourRefIdeal.τ Cert.FourRefIdeal.sig) → Buf (Elt Ideal) ℓ) : Prop :=
  ∀ c : Dev Cert.FourRefIdeal.nD,
    (Cert.Pre_finite_four.fn (F := Ideal) (m ((c.tc : Thread Cert.FourRefIdeal.nD Cert.FourRefIdeal.τ).loc Cert.FourRefIdeal.main_arg0)) (m ((c.tc : Thread Cert.FourRefIdeal.nD Cert.FourRefIdeal.τ).loc Cert.FourRefIdeal.main_arg1)) (m ((c.tc : Thread Cert.FourRefIdeal.nD Cert.FourRefIdeal.τ).loc Cert.FourRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeIdeal_pre_finite_lse [hMergeIdeal : Cert.MergeIdeal.Facts] [hPre_finite_lse : Cert.Pre_finite_lse.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_lse m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_MergeRefIdeal_pre_finite_lse [hMergeRefIdeal : Cert.MergeRefIdeal.Facts] [hPre_finite_lse : Cert.Pre_finite_lse.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_lse m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_Split [hSplit : Cert.Split.Facts] : Prop :=
  ∀ (m : (ℓ : Loc Cert.Split.nD Cert.Split.τ Cert.Split.sig) → Buf (Elt Bits) ℓ) (g : Dev Cert.Split.nD → PrngReg), Pre_Split m →
    θ_run (Cert.Split.defs (F := Bits)) (onTc (τ := Cert.Split.τ) (Cert.Split.main (F := Bits))) ⟨m, fun _ => 0, g⟩ (fun r => (∀ c : Dev Cert.Split.nD,
      r.2.mem ((c.tc : Thread Cert.Split.nD Cert.Split.τ).loc Cert.Split.main_arg0) = m ((c.tc : Thread Cert.Split.nD Cert.Split.τ).loc Cert.Split.main_arg0)
      ∧ r.2.mem ((c.tc : Thread Cert.Split.nD Cert.Split.τ).loc Cert.Split.main_arg1) = m ((c.tc : Thread Cert.Split.nD Cert.Split.τ).loc Cert.Split.main_arg1)
      ∧ r.2.mem ((c.tc : Thread Cert.Split.nD Cert.Split.τ).loc Cert.Split.main_arg2) = m ((c.tc : Thread Cert.Split.nD Cert.Split.τ).loc Cert.Split.main_arg2)
      ∧ r.2.mem ((c.tc : Thread Cert.Split.nD Cert.Split.τ).loc Cert.Split.main_arg3) = m ((c.tc : Thread Cert.Split.nD Cert.Split.τ).loc Cert.Split.main_arg3)
      ∧ r.2.mem ((c.tc : Thread Cert.Split.nD Cert.Split.τ).loc Cert.Split.main_arg4) = m ((c.tc : Thread Cert.Split.nD Cert.Split.τ).loc Cert.Split.main_arg4)
      ∧ r.2.mem ((c.tc : Thread Cert.Split.nD Cert.Split.τ).loc Cert.Split.main_arg5) = m ((c.tc : Thread Cert.Split.nD Cert.Split.τ).loc Cert.Split.main_arg5))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
      ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1)
      ∧ r.2.mem ((c.tc : Thread Cert.SplitIdeal.nD Cert.SplitIdeal.τ).loc Cert.SplitIdeal.main_arg2) = m ((c.tc : Thread Cert.SplitIdeal.nD Cert.SplitIdeal.τ).loc Cert.SplitIdeal.main_arg2)
      ∧ r.2.mem ((c.tc : Thread Cert.SplitIdeal.nD Cert.SplitIdeal.τ).loc Cert.SplitIdeal.main_arg3) = m ((c.tc : Thread Cert.SplitIdeal.nD Cert.SplitIdeal.τ).loc Cert.SplitIdeal.main_arg3)
      ∧ r.2.mem ((c.tc : Thread Cert.SplitIdeal.nD Cert.SplitIdeal.τ).loc Cert.SplitIdeal.main_arg4) = m ((c.tc : Thread Cert.SplitIdeal.nD Cert.SplitIdeal.τ).loc Cert.SplitIdeal.main_arg4)
      ∧ r.2.mem ((c.tc : Thread Cert.SplitIdeal.nD Cert.SplitIdeal.τ).loc Cert.SplitIdeal.main_arg5) = m ((c.tc : Thread Cert.SplitIdeal.nD Cert.SplitIdeal.τ).loc Cert.SplitIdeal.main_arg5))
      ∧ r.2.sem = fun _ => 0)

def quiescent_SplitRefIdeal [hSplitRefIdeal : Cert.SplitRefIdeal.Facts] : Prop :=
  ∀ (m : (ℓ : Loc Cert.SplitRefIdeal.nD Cert.SplitRefIdeal.τ Cert.SplitRefIdeal.sig) → Buf (Elt Ideal) ℓ) (g : Dev Cert.SplitRefIdeal.nD → PrngReg), Pre_SplitRefIdeal m →
    θ_run (Cert.SplitRefIdeal.defs (F := Ideal)) (onTc (τ := Cert.SplitRefIdeal.τ) (Cert.SplitRefIdeal.main (F := Ideal))) ⟨m, fun _ => 0, g⟩ (fun r => (∀ c : Dev Cert.SplitRefIdeal.nD,
      r.2.mem ((c.tc : Thread Cert.SplitRefIdeal.nD Cert.SplitRefIdeal.τ).loc Cert.SplitRefIdeal.main_arg0) = m ((c.tc : Thread Cert.SplitRefIdeal.nD Cert.SplitRefIdeal.τ).loc Cert.SplitRefIdeal.main_arg0)
      ∧ r.2.mem ((c.tc : Thread Cert.SplitRefIdeal.nD Cert.SplitRefIdeal.τ).loc Cert.SplitRefIdeal.main_arg1) = m ((c.tc : Thread Cert.SplitRefIdeal.nD Cert.SplitRefIdeal.τ).loc Cert.SplitRefIdeal.main_arg1)
      ∧ r.2.mem ((c.tc : Thread Cert.SplitRefIdeal.nD Cert.SplitRefIdeal.τ).loc Cert.SplitRefIdeal.main_arg2) = m ((c.tc : Thread Cert.SplitRefIdeal.nD Cert.SplitRefIdeal.τ).loc Cert.SplitRefIdeal.main_arg2)
      ∧ r.2.mem ((c.tc : Thread Cert.SplitRefIdeal.nD Cert.SplitRefIdeal.τ).loc Cert.SplitRefIdeal.main_arg3) = m ((c.tc : Thread Cert.SplitRefIdeal.nD Cert.SplitRefIdeal.τ).loc Cert.SplitRefIdeal.main_arg3)
      ∧ r.2.mem ((c.tc : Thread Cert.SplitRefIdeal.nD Cert.SplitRefIdeal.τ).loc Cert.SplitRefIdeal.main_arg4) = m ((c.tc : Thread Cert.SplitRefIdeal.nD Cert.SplitRefIdeal.τ).loc Cert.SplitRefIdeal.main_arg4)
      ∧ r.2.mem ((c.tc : Thread Cert.SplitRefIdeal.nD Cert.SplitRefIdeal.τ).loc Cert.SplitRefIdeal.main_arg5) = m ((c.tc : Thread Cert.SplitRefIdeal.nD Cert.SplitRefIdeal.τ).loc Cert.SplitRefIdeal.main_arg5))
      ∧ r.2.sem = fun _ => 0)

def quiescent_Four [hFour : Cert.Four.Facts] : Prop :=
  ∀ (m : (ℓ : Loc Cert.Four.nD Cert.Four.τ Cert.Four.sig) → Buf (Elt Bits) ℓ) (g : Dev Cert.Four.nD → PrngReg), Pre_Four m →
    θ_run (Cert.Four.defs (F := Bits)) (onTc (τ := Cert.Four.τ) (Cert.Four.main (F := Bits))) ⟨m, fun _ => 0, g⟩ (fun r => (∀ c : Dev Cert.Four.nD,
      r.2.mem ((c.tc : Thread Cert.Four.nD Cert.Four.τ).loc Cert.Four.main_arg0) = m ((c.tc : Thread Cert.Four.nD Cert.Four.τ).loc Cert.Four.main_arg0)
      ∧ r.2.mem ((c.tc : Thread Cert.Four.nD Cert.Four.τ).loc Cert.Four.main_arg1) = m ((c.tc : Thread Cert.Four.nD Cert.Four.τ).loc Cert.Four.main_arg1)
      ∧ r.2.mem ((c.tc : Thread Cert.Four.nD Cert.Four.τ).loc Cert.Four.main_arg2) = m ((c.tc : Thread Cert.Four.nD Cert.Four.τ).loc Cert.Four.main_arg2))
      ∧ r.2.sem = fun _ => 0)

def quiescent_FourIdeal [hFourIdeal : Cert.FourIdeal.Facts] : Prop :=
  ∀ (m : (ℓ : Loc Cert.FourIdeal.nD Cert.FourIdeal.τ Cert.FourIdeal.sig) → Buf (Elt Ideal) ℓ) (g : Dev Cert.FourIdeal.nD → PrngReg), Pre_FourIdeal m →
    θ_run (Cert.FourIdeal.defs (F := Ideal)) (onTc (τ := Cert.FourIdeal.τ) (Cert.FourIdeal.main (F := Ideal))) ⟨m, fun _ => 0, g⟩ (fun r => (∀ c : Dev Cert.FourIdeal.nD,
      r.2.mem ((c.tc : Thread Cert.FourIdeal.nD Cert.FourIdeal.τ).loc Cert.FourIdeal.main_arg0) = m ((c.tc : Thread Cert.FourIdeal.nD Cert.FourIdeal.τ).loc Cert.FourIdeal.main_arg0)
      ∧ r.2.mem ((c.tc : Thread Cert.FourIdeal.nD Cert.FourIdeal.τ).loc Cert.FourIdeal.main_arg1) = m ((c.tc : Thread Cert.FourIdeal.nD Cert.FourIdeal.τ).loc Cert.FourIdeal.main_arg1)
      ∧ r.2.mem ((c.tc : Thread Cert.FourIdeal.nD Cert.FourIdeal.τ).loc Cert.FourIdeal.main_arg2) = m ((c.tc : Thread Cert.FourIdeal.nD Cert.FourIdeal.τ).loc Cert.FourIdeal.main_arg2))
      ∧ r.2.sem = fun _ => 0)

def quiescent_FourIdeal_pre_finite_four [hFourIdeal : Cert.FourIdeal.Facts] [hPre_finite_four : Cert.Pre_finite_four.Facts] : Prop :=
  ∀ (m : (ℓ : Loc Cert.FourIdeal.nD Cert.FourIdeal.τ Cert.FourIdeal.sig) → Buf (Elt Ideal) ℓ) (g : Dev Cert.FourIdeal.nD → PrngReg), Pre_FourIdeal_finite_four m →
    θ_run (Cert.FourIdeal.defs (F := Ideal)) (onTc (τ := Cert.FourIdeal.τ) (Cert.FourIdeal.main (F := Ideal))) ⟨m, fun _ => 0, g⟩ (fun r => (∀ c : Dev Cert.FourIdeal.nD,
      r.2.mem ((c.tc : Thread Cert.FourIdeal.nD Cert.FourIdeal.τ).loc Cert.FourIdeal.main_arg0) = m ((c.tc : Thread Cert.FourIdeal.nD Cert.FourIdeal.τ).loc Cert.FourIdeal.main_arg0)
      ∧ r.2.mem ((c.tc : Thread Cert.FourIdeal.nD Cert.FourIdeal.τ).loc Cert.FourIdeal.main_arg1) = m ((c.tc : Thread Cert.FourIdeal.nD Cert.FourIdeal.τ).loc Cert.FourIdeal.main_arg1)
      ∧ r.2.mem ((c.tc : Thread Cert.FourIdeal.nD Cert.FourIdeal.τ).loc Cert.FourIdeal.main_arg2) = m ((c.tc : Thread Cert.FourIdeal.nD Cert.FourIdeal.τ).loc Cert.FourIdeal.main_arg2))
      ∧ r.2.sem = fun _ => 0)

def quiescent_FourRefIdeal [hFourRefIdeal : Cert.FourRefIdeal.Facts] : Prop :=
  ∀ (m : (ℓ : Loc Cert.FourRefIdeal.nD Cert.FourRefIdeal.τ Cert.FourRefIdeal.sig) → Buf (Elt Ideal) ℓ) (g : Dev Cert.FourRefIdeal.nD → PrngReg), Pre_FourRefIdeal m →
    θ_run (Cert.FourRefIdeal.defs (F := Ideal)) (onTc (τ := Cert.FourRefIdeal.τ) (Cert.FourRefIdeal.main (F := Ideal))) ⟨m, fun _ => 0, g⟩ (fun r => (∀ c : Dev Cert.FourRefIdeal.nD,
      r.2.mem ((c.tc : Thread Cert.FourRefIdeal.nD Cert.FourRefIdeal.τ).loc Cert.FourRefIdeal.main_arg0) = m ((c.tc : Thread Cert.FourRefIdeal.nD Cert.FourRefIdeal.τ).loc Cert.FourRefIdeal.main_arg0)
      ∧ r.2.mem ((c.tc : Thread Cert.FourRefIdeal.nD Cert.FourRefIdeal.τ).loc Cert.FourRefIdeal.main_arg1) = m ((c.tc : Thread Cert.FourRefIdeal.nD Cert.FourRefIdeal.τ).loc Cert.FourRefIdeal.main_arg1)
      ∧ r.2.mem ((c.tc : Thread Cert.FourRefIdeal.nD Cert.FourRefIdeal.τ).loc Cert.FourRefIdeal.main_arg2) = m ((c.tc : Thread Cert.FourRefIdeal.nD Cert.FourRefIdeal.τ).loc Cert.FourRefIdeal.main_arg2))
      ∧ r.2.sem = fun _ => 0)

def quiescent_FourRefIdeal_pre_finite_four [hFourRefIdeal : Cert.FourRefIdeal.Facts] [hPre_finite_four : Cert.Pre_finite_four.Facts] : Prop :=
  ∀ (m : (ℓ : Loc Cert.FourRefIdeal.nD Cert.FourRefIdeal.τ Cert.FourRefIdeal.sig) → Buf (Elt Ideal) ℓ) (g : Dev Cert.FourRefIdeal.nD → PrngReg), Pre_FourRefIdeal_finite_four m →
    θ_run (Cert.FourRefIdeal.defs (F := Ideal)) (onTc (τ := Cert.FourRefIdeal.τ) (Cert.FourRefIdeal.main (F := Ideal))) ⟨m, fun _ => 0, g⟩ (fun r => (∀ c : Dev Cert.FourRefIdeal.nD,
      r.2.mem ((c.tc : Thread Cert.FourRefIdeal.nD Cert.FourRefIdeal.τ).loc Cert.FourRefIdeal.main_arg0) = m ((c.tc : Thread Cert.FourRefIdeal.nD Cert.FourRefIdeal.τ).loc Cert.FourRefIdeal.main_arg0)
      ∧ r.2.mem ((c.tc : Thread Cert.FourRefIdeal.nD Cert.FourRefIdeal.τ).loc Cert.FourRefIdeal.main_arg1) = m ((c.tc : Thread Cert.FourRefIdeal.nD Cert.FourRefIdeal.τ).loc Cert.FourRefIdeal.main_arg1)
      ∧ r.2.mem ((c.tc : Thread Cert.FourRefIdeal.nD Cert.FourRefIdeal.τ).loc Cert.FourRefIdeal.main_arg2) = m ((c.tc : Thread Cert.FourRefIdeal.nD Cert.FourRefIdeal.τ).loc Cert.FourRefIdeal.main_arg2))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v0)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v67) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8))

def preserves_Merge_MergeIdeal : Prop :=
  True

def algebraic_MergeIdeal_MergeRefIdeal_pre_finite_lse [hMergeIdeal : Cert.MergeIdeal.Facts] [hMergeRefIdeal : Cert.MergeRefIdeal.Facts] [hPre_finite_lse : Cert.Pre_finite_lse.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_lse m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v107) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v60) = v0 c
          ∧ r.2.mem ((c.tc : Thread Cert.ProjRefIdeal.nD Cert.ProjRefIdeal.τ).loc Cert.ProjRefIdeal.main_v63) = v1 c
          ∧ r.2.mem ((c.tc : Thread Cert.ProjRefIdeal.nD Cert.ProjRefIdeal.τ).loc Cert.ProjRefIdeal.main_v66) = v2 c
          ∧ r.2.mem ((c.tc : Thread Cert.ProjRefIdeal.nD Cert.ProjRefIdeal.τ).loc Cert.ProjRefIdeal.main_v67) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_Split_SplitIdeal : Prop :=
  True

def algebraic_SplitIdeal_SplitRefIdeal [hSplitIdeal : Cert.SplitIdeal.Facts] [hSplitRefIdeal : Cert.SplitRefIdeal.Facts] : Prop :=
  ∀ (m : (ℓ : Loc Cert.SplitIdeal.nD Cert.SplitIdeal.τ Cert.SplitIdeal.sig) → Buf (Elt Ideal) ℓ) (g : Dev Cert.SplitIdeal.nD → PrngReg)
    (m' : (ℓ : Loc Cert.SplitRefIdeal.nD Cert.SplitRefIdeal.τ Cert.SplitRefIdeal.sig) → Buf (Elt Ideal) ℓ) (g' : Dev Cert.SplitRefIdeal.nD → PrngReg), Pre_SplitIdeal m →
    (∀ c : Dev Cert.SplitIdeal.nD,
      m' ((c.tc : Thread Cert.SplitRefIdeal.nD Cert.SplitRefIdeal.τ).loc Cert.SplitRefIdeal.main_arg0) = m ((c.tc : Thread Cert.SplitIdeal.nD Cert.SplitIdeal.τ).loc Cert.SplitIdeal.main_arg0)
      ∧ m' ((c.tc : Thread Cert.SplitRefIdeal.nD Cert.SplitRefIdeal.τ).loc Cert.SplitRefIdeal.main_arg1) = m ((c.tc : Thread Cert.SplitIdeal.nD Cert.SplitIdeal.τ).loc Cert.SplitIdeal.main_arg1)
      ∧ m' ((c.tc : Thread Cert.SplitRefIdeal.nD Cert.SplitRefIdeal.τ).loc Cert.SplitRefIdeal.main_arg2) = m ((c.tc : Thread Cert.SplitIdeal.nD Cert.SplitIdeal.τ).loc Cert.SplitIdeal.main_arg2)
      ∧ m' ((c.tc : Thread Cert.SplitRefIdeal.nD Cert.SplitRefIdeal.τ).loc Cert.SplitRefIdeal.main_arg3) = m ((c.tc : Thread Cert.SplitIdeal.nD Cert.SplitIdeal.τ).loc Cert.SplitIdeal.main_arg3)
      ∧ m' ((c.tc : Thread Cert.SplitRefIdeal.nD Cert.SplitRefIdeal.τ).loc Cert.SplitRefIdeal.main_arg4) = m ((c.tc : Thread Cert.SplitIdeal.nD Cert.SplitIdeal.τ).loc Cert.SplitIdeal.main_arg4)
      ∧ m' ((c.tc : Thread Cert.SplitRefIdeal.nD Cert.SplitRefIdeal.τ).loc Cert.SplitRefIdeal.main_arg5) = m ((c.tc : Thread Cert.SplitIdeal.nD Cert.SplitIdeal.τ).loc Cert.SplitIdeal.main_arg5)) →
    ∃ (v0 : (c : Dev Cert.SplitIdeal.nD) → Buf (Elt Ideal) ((c.tc : Thread Cert.SplitIdeal.nD Cert.SplitIdeal.τ).loc Cert.SplitIdeal.main_v0_0)) (v1 : (c : Dev Cert.SplitIdeal.nD) → Buf (Elt Ideal) ((c.tc : Thread Cert.SplitIdeal.nD Cert.SplitIdeal.τ).loc Cert.SplitIdeal.main_v0_1)) (v2 : (c : Dev Cert.SplitIdeal.nD) → Buf (Elt Ideal) ((c.tc : Thread Cert.SplitIdeal.nD Cert.SplitIdeal.τ).loc Cert.SplitIdeal.main_v0_2)) (v3 : (c : Dev Cert.SplitIdeal.nD) → Buf (Elt Ideal) ((c.tc : Thread Cert.SplitIdeal.nD Cert.SplitIdeal.τ).loc Cert.SplitIdeal.main_v0_3)) (v4 : (c : Dev Cert.SplitIdeal.nD) → Buf (Elt Ideal) ((c.tc : Thread Cert.SplitIdeal.nD Cert.SplitIdeal.τ).loc Cert.SplitIdeal.main_v0_4)) (v5 : (c : Dev Cert.SplitIdeal.nD) → Buf (Elt Ideal) ((c.tc : Thread Cert.SplitIdeal.nD Cert.SplitIdeal.τ).loc Cert.SplitIdeal.main_v0_5)) (v6 : (c : Dev Cert.SplitIdeal.nD) → Buf (Elt Ideal) ((c.tc : Thread Cert.SplitIdeal.nD Cert.SplitIdeal.τ).loc Cert.SplitIdeal.main_v0_6)) (v7 : (c : Dev Cert.SplitIdeal.nD) → Buf (Elt Ideal) ((c.tc : Thread Cert.SplitIdeal.nD Cert.SplitIdeal.τ).loc Cert.SplitIdeal.main_v0_7)) (v8 : (c : Dev Cert.SplitIdeal.nD) → Buf (Elt Ideal) ((c.tc : Thread Cert.SplitIdeal.nD Cert.SplitIdeal.τ).loc Cert.SplitIdeal.main_v0_8)),
      θ_run (Cert.SplitIdeal.defs (F := Ideal)) (onTc (τ := Cert.SplitIdeal.τ) (Cert.SplitIdeal.main (F := Ideal))) ⟨m, fun _ => 0, g⟩ (fun r => ∀ c : Dev Cert.SplitIdeal.nD,
          r.2.mem ((c.tc : Thread Cert.SplitIdeal.nD Cert.SplitIdeal.τ).loc Cert.SplitIdeal.main_v0_0) = v0 c
          ∧ r.2.mem ((c.tc : Thread Cert.SplitIdeal.nD Cert.SplitIdeal.τ).loc Cert.SplitIdeal.main_v0_1) = v1 c
          ∧ r.2.mem ((c.tc : Thread Cert.SplitIdeal.nD Cert.SplitIdeal.τ).loc Cert.SplitIdeal.main_v0_2) = v2 c
          ∧ r.2.mem ((c.tc : Thread Cert.SplitIdeal.nD Cert.SplitIdeal.τ).loc Cert.SplitIdeal.main_v0_3) = v3 c
          ∧ r.2.mem ((c.tc : Thread Cert.SplitIdeal.nD Cert.SplitIdeal.τ).loc Cert.SplitIdeal.main_v0_4) = v4 c
          ∧ r.2.mem ((c.tc : Thread Cert.SplitIdeal.nD Cert.SplitIdeal.τ).loc Cert.SplitIdeal.main_v0_5) = v5 c
          ∧ r.2.mem ((c.tc : Thread Cert.SplitIdeal.nD Cert.SplitIdeal.τ).loc Cert.SplitIdeal.main_v0_6) = v6 c
          ∧ r.2.mem ((c.tc : Thread Cert.SplitIdeal.nD Cert.SplitIdeal.τ).loc Cert.SplitIdeal.main_v0_7) = v7 c
          ∧ r.2.mem ((c.tc : Thread Cert.SplitIdeal.nD Cert.SplitIdeal.τ).loc Cert.SplitIdeal.main_v0_8) = v8 c
          ∧ r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
          ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1)
          ∧ r.2.mem ((c.tc : Thread Cert.SplitIdeal.nD Cert.SplitIdeal.τ).loc Cert.SplitIdeal.main_arg2) = m ((c.tc : Thread Cert.SplitIdeal.nD Cert.SplitIdeal.τ).loc Cert.SplitIdeal.main_arg2)
          ∧ r.2.mem ((c.tc : Thread Cert.SplitIdeal.nD Cert.SplitIdeal.τ).loc Cert.SplitIdeal.main_arg3) = m ((c.tc : Thread Cert.SplitIdeal.nD Cert.SplitIdeal.τ).loc Cert.SplitIdeal.main_arg3)
          ∧ r.2.mem ((c.tc : Thread Cert.SplitIdeal.nD Cert.SplitIdeal.τ).loc Cert.SplitIdeal.main_arg4) = m ((c.tc : Thread Cert.SplitIdeal.nD Cert.SplitIdeal.τ).loc Cert.SplitIdeal.main_arg4)
          ∧ r.2.mem ((c.tc : Thread Cert.SplitIdeal.nD Cert.SplitIdeal.τ).loc Cert.SplitIdeal.main_arg5) = m ((c.tc : Thread Cert.SplitIdeal.nD Cert.SplitIdeal.τ).loc Cert.SplitIdeal.main_arg5))
      ∧ θ_run (Cert.SplitRefIdeal.defs (F := Ideal)) (onTc (τ := Cert.SplitRefIdeal.τ) (Cert.SplitRefIdeal.main (F := Ideal))) ⟨m', fun _ => 0, g'⟩ (fun r => ∀ c : Dev Cert.SplitRefIdeal.nD,
          r.2.mem ((c.tc : Thread Cert.SplitRefIdeal.nD Cert.SplitRefIdeal.τ).loc Cert.SplitRefIdeal.main_v64) = v0 c
          ∧ r.2.mem ((c.tc : Thread Cert.SplitRefIdeal.nD Cert.SplitRefIdeal.τ).loc Cert.SplitRefIdeal.main_v67) = v1 c
          ∧ r.2.mem ((c.tc : Thread Cert.SplitRefIdeal.nD Cert.SplitRefIdeal.τ).loc Cert.SplitRefIdeal.main_v70) = v2 c
          ∧ r.2.mem ((c.tc : Thread Cert.SplitRefIdeal.nD Cert.SplitRefIdeal.τ).loc Cert.SplitRefIdeal.main_v73) = v3 c
          ∧ r.2.mem ((c.tc : Thread Cert.SplitRefIdeal.nD Cert.SplitRefIdeal.τ).loc Cert.SplitRefIdeal.main_v76) = v4 c
          ∧ r.2.mem ((c.tc : Thread Cert.SplitRefIdeal.nD Cert.SplitRefIdeal.τ).loc Cert.SplitRefIdeal.main_v79) = v5 c
          ∧ r.2.mem ((c.tc : Thread Cert.SplitRefIdeal.nD Cert.SplitRefIdeal.τ).loc Cert.SplitRefIdeal.main_v82) = v6 c
          ∧ r.2.mem ((c.tc : Thread Cert.SplitRefIdeal.nD Cert.SplitRefIdeal.τ).loc Cert.SplitRefIdeal.main_v85) = v7 c
          ∧ r.2.mem ((c.tc : Thread Cert.SplitRefIdeal.nD Cert.SplitRefIdeal.τ).loc Cert.SplitRefIdeal.main_v88) = v8 c
          ∧ r.2.mem ((c.tc : Thread Cert.SplitRefIdeal.nD Cert.SplitRefIdeal.τ).loc Cert.SplitRefIdeal.main_arg0) = m' ((c.tc : Thread Cert.SplitRefIdeal.nD Cert.SplitRefIdeal.τ).loc Cert.SplitRefIdeal.main_arg0)
          ∧ r.2.mem ((c.tc : Thread Cert.SplitRefIdeal.nD Cert.SplitRefIdeal.τ).loc Cert.SplitRefIdeal.main_arg1) = m' ((c.tc : Thread Cert.SplitRefIdeal.nD Cert.SplitRefIdeal.τ).loc Cert.SplitRefIdeal.main_arg1)
          ∧ r.2.mem ((c.tc : Thread Cert.SplitRefIdeal.nD Cert.SplitRefIdeal.τ).loc Cert.SplitRefIdeal.main_arg2) = m' ((c.tc : Thread Cert.SplitRefIdeal.nD Cert.SplitRefIdeal.τ).loc Cert.SplitRefIdeal.main_arg2)
          ∧ r.2.mem ((c.tc : Thread Cert.SplitRefIdeal.nD Cert.SplitRefIdeal.τ).loc Cert.SplitRefIdeal.main_arg3) = m' ((c.tc : Thread Cert.SplitRefIdeal.nD Cert.SplitRefIdeal.τ).loc Cert.SplitRefIdeal.main_arg3)
          ∧ r.2.mem ((c.tc : Thread Cert.SplitRefIdeal.nD Cert.SplitRefIdeal.τ).loc Cert.SplitRefIdeal.main_arg4) = m' ((c.tc : Thread Cert.SplitRefIdeal.nD Cert.SplitRefIdeal.τ).loc Cert.SplitRefIdeal.main_arg4)
          ∧ r.2.mem ((c.tc : Thread Cert.SplitRefIdeal.nD Cert.SplitRefIdeal.τ).loc Cert.SplitRefIdeal.main_arg5) = m' ((c.tc : Thread Cert.SplitRefIdeal.nD Cert.SplitRefIdeal.τ).loc Cert.SplitRefIdeal.main_arg5))

def preserves_Four_FourIdeal : Prop :=
  IdealRules.named_const.Statement Cert.FourIdeal.κ "inv_ln2" .f32 0x3FB8AA3B#32 (((Real.log 2)⁻¹ : ℝ) : EReal)

def algebraic_FourIdeal_FourRefIdeal_pre_finite_four [hFourIdeal : Cert.FourIdeal.Facts] [hFourRefIdeal : Cert.FourRefIdeal.Facts] [hPre_finite_four : Cert.Pre_finite_four.Facts] : Prop :=
  ∀ (m : (ℓ : Loc Cert.FourIdeal.nD Cert.FourIdeal.τ Cert.FourIdeal.sig) → Buf (Elt Ideal) ℓ) (g : Dev Cert.FourIdeal.nD → PrngReg)
    (m' : (ℓ : Loc Cert.FourRefIdeal.nD Cert.FourRefIdeal.τ Cert.FourRefIdeal.sig) → Buf (Elt Ideal) ℓ) (g' : Dev Cert.FourRefIdeal.nD → PrngReg), Pre_FourIdeal_finite_four m →
    (∀ c : Dev Cert.FourIdeal.nD,
      m' ((c.tc : Thread Cert.FourRefIdeal.nD Cert.FourRefIdeal.τ).loc Cert.FourRefIdeal.main_arg0) = m ((c.tc : Thread Cert.FourIdeal.nD Cert.FourIdeal.τ).loc Cert.FourIdeal.main_arg0)
      ∧ m' ((c.tc : Thread Cert.FourRefIdeal.nD Cert.FourRefIdeal.τ).loc Cert.FourRefIdeal.main_arg1) = m ((c.tc : Thread Cert.FourIdeal.nD Cert.FourIdeal.τ).loc Cert.FourIdeal.main_arg1)
      ∧ m' ((c.tc : Thread Cert.FourRefIdeal.nD Cert.FourRefIdeal.τ).loc Cert.FourRefIdeal.main_arg2) = m ((c.tc : Thread Cert.FourIdeal.nD Cert.FourIdeal.τ).loc Cert.FourIdeal.main_arg2)) →
    ∃ (v0 : (c : Dev Cert.FourIdeal.nD) → Buf (Elt Ideal) ((c.tc : Thread Cert.FourIdeal.nD Cert.FourIdeal.τ).loc Cert.FourIdeal.main_v0_0)) (v1 : (c : Dev Cert.FourIdeal.nD) → Buf (Elt Ideal) ((c.tc : Thread Cert.FourIdeal.nD Cert.FourIdeal.τ).loc Cert.FourIdeal.main_v0_1)),
      θ_run (Cert.FourIdeal.defs (F := Ideal)) (onTc (τ := Cert.FourIdeal.τ) (Cert.FourIdeal.main (F := Ideal))) ⟨m, fun _ => 0, g⟩ (fun r => ∀ c : Dev Cert.FourIdeal.nD,
          r.2.mem ((c.tc : Thread Cert.FourIdeal.nD Cert.FourIdeal.τ).loc Cert.FourIdeal.main_v0_0) = v0 c
          ∧ r.2.mem ((c.tc : Thread Cert.FourIdeal.nD Cert.FourIdeal.τ).loc Cert.FourIdeal.main_v0_1) = v1 c
          ∧ r.2.mem ((c.tc : Thread Cert.FourIdeal.nD Cert.FourIdeal.τ).loc Cert.FourIdeal.main_arg0) = m ((c.tc : Thread Cert.FourIdeal.nD Cert.FourIdeal.τ).loc Cert.FourIdeal.main_arg0)
          ∧ r.2.mem ((c.tc : Thread Cert.FourIdeal.nD Cert.FourIdeal.τ).loc Cert.FourIdeal.main_arg1) = m ((c.tc : Thread Cert.FourIdeal.nD Cert.FourIdeal.τ).loc Cert.FourIdeal.main_arg1)
          ∧ r.2.mem ((c.tc : Thread Cert.FourIdeal.nD Cert.FourIdeal.τ).loc Cert.FourIdeal.main_arg2) = m ((c.tc : Thread Cert.FourIdeal.nD Cert.FourIdeal.τ).loc Cert.FourIdeal.main_arg2))
      ∧ θ_run (Cert.FourRefIdeal.defs (F := Ideal)) (onTc (τ := Cert.FourRefIdeal.τ) (Cert.FourRefIdeal.main (F := Ideal))) ⟨m', fun _ => 0, g'⟩ (fun r => ∀ c : Dev Cert.FourRefIdeal.nD,
          r.2.mem ((c.tc : Thread Cert.FourRefIdeal.nD Cert.FourRefIdeal.τ).loc Cert.FourRefIdeal.main_v75) = v0 c
          ∧ r.2.mem ((c.tc : Thread Cert.FourRefIdeal.nD Cert.FourRefIdeal.τ).loc Cert.FourRefIdeal.main_v77) = v1 c
          ∧ r.2.mem ((c.tc : Thread Cert.FourRefIdeal.nD Cert.FourRefIdeal.τ).loc Cert.FourRefIdeal.main_arg0) = m' ((c.tc : Thread Cert.FourRefIdeal.nD Cert.FourRefIdeal.τ).loc Cert.FourRefIdeal.main_arg0)
          ∧ r.2.mem ((c.tc : Thread Cert.FourRefIdeal.nD Cert.FourRefIdeal.τ).loc Cert.FourRefIdeal.main_arg1) = m' ((c.tc : Thread Cert.FourRefIdeal.nD Cert.FourRefIdeal.τ).loc Cert.FourRefIdeal.main_arg1)
          ∧ r.2.mem ((c.tc : Thread Cert.FourRefIdeal.nD Cert.FourRefIdeal.τ).loc Cert.FourRefIdeal.main_arg2) = m' ((c.tc : Thread Cert.FourRefIdeal.nD Cert.FourRefIdeal.τ).loc Cert.FourRefIdeal.main_arg2))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailRefIdeal : Cert.TailRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hSplit : Cert.Split.Facts) (hSplitIdeal : Cert.SplitIdeal.Facts) (hSplitRefIdeal : Cert.SplitRefIdeal.Facts) (hFour : Cert.Four.Facts) (hFourIdeal : Cert.FourIdeal.Facts) (hFourRefIdeal : Cert.FourRefIdeal.Facts) (hPre_finite : Cert.Pre_finite.Facts) (hPre_finite_lse : Cert.Pre_finite_lse.Facts) (hPre_finite_four : Cert.Pre_finite_four.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Tail (hTail := hTail)
    ∧ quiescent_TailIdeal (hTailIdeal := hTailIdeal)
    ∧ quiescent_TailRefIdeal (hTailRefIdeal := hTailRefIdeal)
    ∧ quiescent_Merge (hMerge := hMerge)
    ∧ quiescent_MergeIdeal (hMergeIdeal := hMergeIdeal)
    ∧ quiescent_MergeIdeal_pre_finite_lse (hMergeIdeal := hMergeIdeal) (hPre_finite_lse := hPre_finite_lse)
    ∧ quiescent_MergeRefIdeal (hMergeRefIdeal := hMergeRefIdeal)
    ∧ quiescent_MergeRefIdeal_pre_finite_lse (hMergeRefIdeal := hMergeRefIdeal) (hPre_finite_lse := hPre_finite_lse)
    ∧ quiescent_Proj (hProj := hProj)
    ∧ quiescent_ProjIdeal (hProjIdeal := hProjIdeal)
    ∧ quiescent_ProjRefIdeal (hProjRefIdeal := hProjRefIdeal)
    ∧ quiescent_Split (hSplit := hSplit)
    ∧ quiescent_SplitIdeal (hSplitIdeal := hSplitIdeal)
    ∧ quiescent_SplitRefIdeal (hSplitRefIdeal := hSplitRefIdeal)
    ∧ quiescent_Four (hFour := hFour)
    ∧ quiescent_FourIdeal (hFourIdeal := hFourIdeal)
    ∧ quiescent_FourIdeal_pre_finite_four (hFourIdeal := hFourIdeal) (hPre_finite_four := hPre_finite_four)
    ∧ quiescent_FourRefIdeal (hFourRefIdeal := hFourRefIdeal)
    ∧ quiescent_FourRefIdeal_pre_finite_four (hFourRefIdeal := hFourRefIdeal) (hPre_finite_four := hPre_finite_four)
    ∧ preserves_Kernel_KernelIdeal
    ∧ algebraic_KernelIdeal_ReferenceIdeal_pre_finite (hKernelIdeal := hKernelIdeal) (hReferenceIdeal := hReferenceIdeal) (hPre_finite := hPre_finite)
    ∧ preserves_Tail_TailIdeal
    ∧ algebraic_TailIdeal_TailRefIdeal (hTailIdeal := hTailIdeal) (hTailRefIdeal := hTailRefIdeal)
    ∧ preserves_Merge_MergeIdeal
    ∧ algebraic_MergeIdeal_MergeRefIdeal_pre_finite_lse (hMergeIdeal := hMergeIdeal) (hMergeRefIdeal := hMergeRefIdeal) (hPre_finite_lse := hPre_finite_lse)
    ∧ preserves_Proj_ProjIdeal
    ∧ algebraic_ProjIdeal_ProjRefIdeal (hProjIdeal := hProjIdeal) (hProjRefIdeal := hProjRefIdeal)
    ∧ preserves_Split_SplitIdeal
    ∧ algebraic_SplitIdeal_SplitRefIdeal (hSplitIdeal := hSplitIdeal) (hSplitRefIdeal := hSplitRefIdeal)
    ∧ preserves_Four_FourIdeal
    ∧ algebraic_FourIdeal_FourRefIdeal_pre_finite_four (hFourIdeal := hFourIdeal) (hFourRefIdeal := hFourRefIdeal) (hPre_finite_four := hPre_finite_four)
-- ==== Pre_finite.lean ====
abbrev S4x1x8192x256 : Shape := ⟨4, ![4, 1, 8192, 256]⟩
abbrev S_ : Shape := ⟨0, ![]⟩

class Facts : Prop where
  bitsLt_bf16_f32 : FTy.bits .bf16 < FTy.bits .f32
  bcast_S_S4x1x8192x256 : S_.BroadcastsInDim S4x1x8192x256 (![] : Fin 0 → Fin S4x1x8192x256.rank)
  reducesTo_S4x1x8192x256_S_d0_1_2_3 : S4x1x8192x256.ReducesTo [0, 1, 2, 3] S_
  h_S_ : 0 < S_.numel

variable [Facts]

def fn {F : FTy → Type} [FloatOps F] (main_arg0 : FVec F S4x1x8192x256 .bf16) (main_arg1 : FVec F S4x1x8192x256 .bf16) (main_arg2 : FVec F S4x1x8192x256 .bf16) : IVec S_ 1 :=
  let main_v0 : FVec F S4x1x8192x256 .f32 := (extf .f32 · bitsLt_bf16_f32) main_arg0
  let main_v1 : FVec F S4x1x8192x256 .f32 := Host.absf main_v0
  let main_cst : FVec F S_ .f32 := constant S_ .f32 0x7F800000#32
  let main_v2 : FVec F S4x1x8192x256 .f32 := broadcastInDim S4x1x8192x256 ![] bcast_S_S4x1x8192x256 main_cst
  let main_v3 : IVec S4x1x8192x256 1 := cmpf .olt main_v1 main_v2
  let main_c : IVec S_ 1 := constantI S_ 1 1#1
  let main_v4 : IVec S_ 1 := (fun x v => Host.reduce IntOp.andi x v reducesTo_S4x1x8192x256_S_d0_1_2_3 h_S_) main_v3 main_c
  let main_v5 : FVec F S4x1x8192x256 .f32 := (extf .f32 · bitsLt_bf16_f32) main_arg1
  let main_v6 : FVec F S4x1x8192x256 .f32 := Host.absf main_v5
  let main_cst_0 : FVec F S_ .f32 := constant S_ .f32 0x7F800000#32
  let main_v7 : FVec F S4x1x8192x256 .f32 := broadcastInDim S4x1x8192x256 ![] bcast_S_S4x1x8192x256 main_cst_0
  let main_v8 : IVec S4x1x8192x256 1 := cmpf .olt main_v6 main_v7
  let main_c_1 : IVec S_ 1 := constantI S_ 1 1#1
  let main_v9 : IVec S_ 1 := (fun x v => Host.reduce IntOp.andi x v reducesTo_S4x1x8192x256_S_d0_1_2_3 h_S_) main_v8 main_c_1
  let main_v10 : IVec S_ 1 := andi main_v4 main_v9
  main_v10
-- ==== Pre_finite_four.lean ====
abbrev S4x4x2048x256 : Shape := ⟨4, ![4, 4, 2048, 256]⟩
abbrev S_ : Shape := ⟨0, ![]⟩

class Facts : Prop where
  bitsLt_bf16_f32 : FTy.bits .bf16 < FTy.bits .f32
  bcast_S_S4x4x2048x256 : S_.BroadcastsInDim S4x4x2048x256 (![] : Fin 0 → Fin S4x4x2048x256.rank)
  reducesTo_S4x4x2048x256_S_d0_1_2_3 : S4x4x2048x256.ReducesTo [0, 1, 2, 3] S_
  h_S_ : 0 < S_.numel

variable [Facts]

def fn {F : FTy → Type} [FloatOps F] (main_arg0 : FVec F S4x4x2048x256 .bf16) (main_arg1 : FVec F S4x4x2048x256 .bf16) (main_arg2 : FVec F S4x4x2048x256 .bf16) : IVec S_ 1 :=
  let main_v0 : FVec F S4x4x2048x256 .f32 := (extf .f32 · bitsLt_bf16_f32) main_arg0
  let main_v1 : FVec F S4x4x2048x256 .f32 := Host.absf main_v0
  let main_cst : FVec F S_ .f32 := constant S_ .f32 0x7F800000#32
  let main_v2 : FVec F S4x4x2048x256 .f32 := broadcastInDim S4x4x2048x256 ![] bcast_S_S4x4x2048x256 main_cst
  let main_v3 : IVec S4x4x2048x256 1 := cmpf .olt main_v1 main_v2
  let main_c : IVec S_ 1 := constantI S_ 1 1#1
  let main_v4 : IVec S_ 1 := (fun x v => Host.reduce IntOp.andi x v reducesTo_S4x4x2048x256_S_d0_1_2_3 h_S_) main_v3 main_c
  let main_v5 : FVec F S4x4x2048x256 .f32 := (extf .f32 · bitsLt_bf16_f32) main_arg1
  let main_v6 : FVec F S4x4x2048x256 .f32 := Host.absf main_v5
  let main_cst_0 : FVec F S_ .f32 := constant S_ .f32 0x7F800000#32
  let main_v7 : FVec F S4x4x2048x256 .f32 := broadcastInDim S4x4x2048x256 ![] bcast_S_S4x4x2048x256 main_cst_0
  let main_v8 : IVec S4x4x2048x256 1 := cmpf .olt main_v6 main_v7
  let main_c_1 : IVec S_ 1 := constantI S_ 1 1#1
  let main_v9 : IVec S_ 1 := (fun x v => Host.reduce IntOp.andi x v reducesTo_S4x4x2048x256_S_d0_1_2_3 h_S_) main_v8 main_c_1
  let main_v10 : IVec S_ 1 := andi main_v4 main_v9
  main_v10
-- ==== Pre_finite_lse.lean ====
abbrev S4x1x8192x256 : Shape := ⟨4, ![4, 1, 8192, 256]⟩
abbrev S4x4x2048x256 : Shape := ⟨4, ![4, 4, 2048, 256]⟩
abbrev S4x16x512x256 : Shape := ⟨4, ![4, 16, 512, 256]⟩
abbrev S32768x1024 : Shape := ⟨2, ![32768, 1024]⟩
abbrev S768x1024 : Shape := ⟨2, ![768, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S4x1x8192x256 : S_.BroadcastsInDim S4x1x8192x256 (![] : Fin 0 → Fin S4x1x8192x256.rank)
  reducesTo_S4x1x8192x256_S_d0_1_2_3 : S4x1x8192x256.ReducesTo [0, 1, 2, 3] S_
  h_S_ : 0 < S_.numel
  bcast_S_S4x4x2048x256 : S_.BroadcastsInDim S4x4x2048x256 (![] : Fin 0 → Fin S4x4x2048x256.rank)
  reducesTo_S4x4x2048x256_S_d0_1_2_3 : S4x4x2048x256.ReducesTo [0, 1, 2, 3] S_
  bcast_S_S4x16x512x256 : S_.BroadcastsInDim S4x16x512x256 (![] : Fin 0 → Fin S4x16x512x256.rank)
  reducesTo_S4x16x512x256_S_d0_1_2_3 : S4x16x512x256.ReducesTo [0, 1, 2, 3] S_

variable [Facts]

def fn {F : FTy → Type} [FloatOps F] (main_arg0 : FVec F S4x1x8192x256 .bf16) (main_arg1 : FVec F S4x4x2048x256 .bf16) (main_arg2 : FVec F S4x16x512x256 .bf16) (main_arg3 : FVec F S4x1x8192x256 .f32) (main_arg4 : FVec F S4x4x2048x256 .f32) (main_arg5 : FVec F S4x16x512x256 .f32) (main_arg6 : FVec F S32768x1024 .f32) (main_arg7 : FVec F S768x1024 .bf16) (main_arg8 : FVec F S1x1024 .f32) (main_arg9 : FVec F S1x1024 .f32) (main_arg10 : FVec F S1024x4096 .bf16) (main_arg11 : FVec F S4096x1024 .bf16) (main_arg12 : FVec F S1x1024 .f32) (main_arg13 : FVec F S1x1024 .f32) : IVec S_ 1 :=
  let main_v0 : FVec F S4x1x8192x256 .f32 := Host.absf main_arg3
  let main_cst : FVec F S_ .f32 := constant S_ .f32 0x7F800000#32
  let main_v1 : FVec F S4x1x8192x256 .f32 := broadcastInDim S4x1x8192x256 ![] bcast_S_S4x1x8192x256 main_cst
  let main_v2 : IVec S4x1x8192x256 1 := cmpf .olt main_v0 main_v1
  let main_c : IVec S_ 1 := constantI S_ 1 1#1
  let main_v3 : IVec S_ 1 := (fun x v => Host.reduce IntOp.andi x v reducesTo_S4x1x8192x256_S_d0_1_2_3 h_S_) main_v2 main_c
  let main_v4 : FVec F S4x4x2048x256 .f32 := Host.absf main_arg4
  let main_cst_0 : FVec F S_ .f32 := constant S_ .f32 0x7F800000#32
  let main_v5 : FVec F S4x4x2048x256 .f32 := broadcastInDim S4x4x2048x256 ![] bcast_S_S4x4x2048x256 main_cst_0
  let main_v6 : IVec S4x4x2048x256 1 := cmpf .olt main_v4 main_v5
  let main_c_1 : IVec S_ 1 := constantI S_ 1 1#1
  let main_v7 : IVec S_ 1 := (fun x v => Host.reduce IntOp.andi x v reducesTo_S4x4x2048x256_S_d0_1_2_3 h_S_) main_v6 main_c_1
  let main_v8 : IVec S_ 1 := andi main_v3 main_v7
  let main_v9 : FVec F S4x16x512x256 .f32 := Host.absf main_arg5
  let main_cst_2 : FVec F S_ .f32 := constant S_ .f32 0x7F800000#32
  let main_v10 : FVec F S4x16x512x256 .f32 := broadcastInDim S4x16x512x256 ![] bcast_S_S4x16x512x256 main_cst_2
  let main_v11 : IVec S4x16x512x256 1 := cmpf .olt main_v9 main_v10
  let main_c_3 : IVec S_ 1 := constantI S_ 1 1#1
  let main_v12 : IVec S_ 1 := (fun x v => Host.reduce IntOp.andi x v reducesTo_S4x16x512x256_S_d0_1_2_3 h_S_) main_v11 main_c_3
  let main_v13 : IVec S_ 1 := andi main_v8 main_v12
  main_v13
-- ==== Kernel.lean ====
abbrev S4x1x8192x256 : Shape := ⟨4, ![4, 1, 8192, 256]⟩
abbrev S1x1x1024x256 : Shape := ⟨4, ![1, 1, 1024, 256]⟩
abbrev S1x1x128x256 : Shape := ⟨4, ![1, 1, 128, 256]⟩
abbrev S1024x256 : Shape := ⟨2, ![1024, 256]⟩
abbrev S128x256 : Shape := ⟨2, ![128, 256]⟩
abbrev S1152x256 : Shape := ⟨2, ![1152, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x1x128x128 : Shape := ⟨4, ![1, 1, 128, 128]⟩

abbrev nBuf : Space → Nat
  | .hbm => 5
  | .vmem => 14
  | .smem => 0
  | _ => 0

abbrev bufTy : (tb : Table) → Fin (tcTables nBuf tb) → BufTy
  | .hbm, ⟨0, _⟩ => ⟨S4x1x8192x256, .bf16⟩
  | .hbm, ⟨1, _⟩ => ⟨S4x1x8192x256, .bf16⟩
  | .hbm, ⟨2, _⟩ => ⟨S4x1x8192x256, .bf16⟩
  | .hbm, ⟨3, _⟩ => ⟨S4x1x8192x256, .bf16⟩
  | .hbm, ⟨4, _⟩ => ⟨S4x1x8192x256, .f32⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1x1024x256, .bf16⟩
  | .local _ .vmem, ⟨3, _⟩ => ⟨S1x1x1024x256, .bf16⟩
  | .local _ .vmem, ⟨4, _⟩ => ⟨S1x1x128x256, .bf16⟩
  | .local _ .vmem, ⟨5, _⟩ => ⟨S1x1x128x256, .bf16⟩
  | .local _ .vmem, ⟨6, _⟩ => ⟨S1x1x1024x256, .bf16⟩
  | .local _ .vmem, ⟨7, _⟩ => ⟨S1x1x1024x256, .bf16⟩
  | .local _ .vmem, ⟨8, _⟩ => ⟨S1x1x128x256, .bf16⟩
  | .local _ .vmem, ⟨9, _⟩ => ⟨S1x1x128x256, .bf16⟩
  | .local _ .vmem, ⟨10, _⟩ => ⟨S1x1x1024x256, .bf16⟩
  | .local _ .vmem, ⟨11, _⟩ => ⟨S1x1x1024x256, .bf16⟩
  | .local _ .vmem, ⟨12, _⟩ => ⟨S1x1x1024x256, .f32⟩
  | .local _ .vmem, ⟨13, _⟩ => ⟨S1x1x1024x256, .f32⟩
  | _, _ => ⟨S4x1x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S4x1x8192x256 : Shape := ⟨4, ![4, 1, 8192, 256]⟩
abbrev S_ : Shape := ⟨0, ![]⟩
abbrev S4x64x128x2x2x2x32 : Shape := ⟨7, ![4, 64, 128, 2, 2, 2, 32]⟩
abbrev S4x64x2x2x128x2x32 : Shape := ⟨7, ![4, 64, 2, 2, 128, 2, 32]⟩
abbrev S4x64x4x128x64 : Shape := ⟨5, ![4, 64, 4, 128, 64]⟩
abbrev S4x65x4x128x64 : Shape := ⟨5, ![4, 65, 4, 128, 64]⟩
abbrev S4x64x4x256x64 : Shape := ⟨5, ![4, 64, 4, 256, 64]⟩
abbrev S4x64x128x4x64 : Shape := ⟨5, ![4, 64, 128, 4, 64]⟩
abbrev S4x64x4x128x256 : Shape := ⟨5, ![4, 64, 4, 128, 256]⟩
abbrev S64 : Shape := ⟨1, ![64]⟩
abbrev S64x1x1 : Shape := ⟨3, ![64, 1, 1]⟩
abbrev S128 : Shape := ⟨1, ![128]⟩
abbrev S1x128x1 : Shape := ⟨3, ![1, 128, 1]⟩
abbrev S64x128x1 : Shape := ⟨3, ![64, 128, 1]⟩
abbrev S256 : Shape := ⟨1, ![256]⟩
abbrev S1x1x256 : Shape := ⟨3, ![1, 1, 256]⟩
abbrev S64x1x256 : Shape := ⟨3, ![64, 1, 256]⟩
abbrev S64x128x256 : Shape := ⟨3, ![64, 128, 256]⟩
abbrev S1x64x1x128x256 : Shape := ⟨5, ![1, 64, 1, 128, 256]⟩
abbrev S4x64x4x128 : Shape := ⟨4, ![4, 64, 4, 128]⟩
abbrev S4x64x4x128x1 : Shape := ⟨5, ![4, 64, 4, 128, 1]⟩
abbrev S4x64x4x64x128 : Shape := ⟨5, ![4, 64, 4, 64, 128]⟩
abbrev S4x64x128x4 : Shape := ⟨4, ![4, 64, 128, 4]⟩
abbrev S4x1x8192x4 : Shape := ⟨4, ![4, 1, 8192, 4]⟩
abbrev S4x1x8192x4x64 : Shape := ⟨5, ![4, 1, 8192, 4, 64]⟩

abbrev nBuf : Space → Nat
  | .hbm => 98
  | .vmem => 0
  | .smem => 0
  | _ => 0

abbrev bufTy : (tb : Table) → Fin (tcTables nBuf tb) → BufTy
  | .hbm, ⟨0, _⟩ => ⟨S4x1x8192x256, .bf16⟩
  | .hbm, ⟨1, _⟩ => ⟨S4x1x8192x256, .bf16⟩
  | .hbm, ⟨2, _⟩ => ⟨S4x1x8192x256, .bf16⟩
  | .hbm, ⟨3, _⟩ => ⟨S_, .f32⟩
  | .hbm, ⟨4, _⟩ => ⟨S_, .f32⟩
  | .hbm, ⟨5, _⟩ => ⟨S4x1x8192x256, .f32⟩
  | .hbm, ⟨6, _⟩ => ⟨S4x64x128x2x2x2x32, .f32⟩
  | .hbm, ⟨7, _⟩ => ⟨S4x64x2x2x128x2x32, .f32⟩
  | .hbm, ⟨8, _⟩ => ⟨S4x64x4x128x64, .f32⟩
  | .hbm, ⟨9, _⟩ => ⟨S4x1x8192x256, .f32⟩
  | .hbm, ⟨10, _⟩ => ⟨S4x64x128x2x2x2x32, .f32⟩
  | .hbm, ⟨11, _⟩ => ⟨S4x64x2x2x128x2x32, .f32⟩
  | .hbm, ⟨12, _⟩ => ⟨S4x64x4x128x64, .f32⟩
  | .hbm, ⟨13, _⟩ => ⟨S_, .i32⟩
  | .hbm, ⟨14, _⟩ => ⟨S_, .f32⟩
  | .hbm, ⟨15, _⟩ => ⟨S4x65x4x128x64, .f32⟩
  | .hbm, ⟨16, _⟩ => ⟨S4x64x4x128x64, .f32⟩
  | .hbm, ⟨17, _⟩ => ⟨S4x64x4x256x64, .f32⟩
  | .hbm, ⟨18, _⟩ => ⟨S4x1x8192x256, .f32⟩
  | .hbm, ⟨19, _⟩ => ⟨S4x64x128x4x64, .f32⟩
  | .hbm, ⟨20, _⟩ => ⟨S4x64x4x128x64, .f32⟩
  | .hbm, ⟨21, _⟩ => ⟨S_, .i32⟩
  | .hbm, ⟨22, _⟩ => ⟨S_, .f32⟩
  | .hbm, ⟨23, _⟩ => ⟨S4x65x4x128x64, .f32⟩
  | .hbm, ⟨24, _⟩ => ⟨S4x64x4x128x64, .f32⟩
  | .hbm, ⟨25, _⟩ => ⟨S4x64x4x256x64, .f32⟩
  | .hbm, ⟨26, _⟩ => ⟨S4x64x4x128x256, .f32⟩
  | .hbm, ⟨27, _⟩ => ⟨S4x64x4x128x256, .f32⟩
  | .hbm, ⟨28, _⟩ => ⟨S4x64x4x128x256, .f32⟩
  | .hbm, ⟨29, _⟩ => ⟨S64, .i32⟩
  | .hbm, ⟨30, _⟩ => ⟨S64x1x1, .i32⟩
  | .hbm, ⟨31, _⟩ => ⟨S_, .i32⟩
  | .hbm, ⟨32, _⟩ => ⟨S64x1x1, .i32⟩
  | .hbm, ⟨33, _⟩ => ⟨S64x1x1, .i32⟩
  | .hbm, ⟨34, _⟩ => ⟨S128, .i32⟩
  | .hbm, ⟨35, _⟩ => ⟨S1x128x1, .i32⟩
  | .hbm, ⟨36, _⟩ => ⟨S64x128x1, .i32⟩
  | .hbm, ⟨37, _⟩ => ⟨S64x128x1, .i32⟩
  | .hbm, ⟨38, _⟩ => ⟨S64x128x1, .i32⟩
  | .hbm, ⟨39, _⟩ => ⟨S64, .i32⟩
  | .hbm, ⟨40, _⟩ => ⟨S64x1x1, .i32⟩
  | .hbm, ⟨41, _⟩ => ⟨S_, .i32⟩
  | .hbm, ⟨42, _⟩ => ⟨S64x1x1, .i32⟩
  | .hbm, ⟨43, _⟩ => ⟨S64x1x1, .i32⟩
  | .hbm, ⟨44, _⟩ => ⟨S_, .i32⟩
  | .hbm, ⟨45, _⟩ => ⟨S64x1x1, .i32⟩
  | .hbm, ⟨46, _⟩ => ⟨S64x1x1, .i32⟩
  | .hbm, ⟨47, _⟩ => ⟨S256, .i32⟩
  | .hbm, ⟨48, _⟩ => ⟨S1x1x256, .i32⟩
  | .hbm, ⟨49, _⟩ => ⟨S64x1x256, .i32⟩
  | .hbm, ⟨50, _⟩ => ⟨S64x1x256, .i32⟩
  | .hbm, ⟨51, _⟩ => ⟨S64x1x256, .i32⟩
  | .hbm, ⟨52, _⟩ => ⟨S64x128x256, .i32⟩
  | .hbm, ⟨53, _⟩ => ⟨S64x128x256, .i32⟩
  | .hbm, ⟨54, _⟩ => ⟨S64x128x256, .i32⟩
  | .hbm, ⟨55, _⟩ => ⟨S_, .i32⟩
  | .hbm, ⟨56, _⟩ => ⟨S64x128x256, .i32⟩
  | .hbm, ⟨57, _⟩ => ⟨S64x128x256, .i1⟩
  | .hbm, ⟨58, _⟩ => ⟨S_, .i32⟩
  | .hbm, ⟨59, _⟩ => ⟨S64x128x256, .i32⟩
  | .hbm, ⟨60, _⟩ => ⟨S64x128x256, .i1⟩
  | .hbm, ⟨61, _⟩ => ⟨S64x128x256, .i1⟩
  | .hbm, ⟨62, _⟩ => ⟨S_, .i32⟩
  | .hbm, ⟨63, _⟩ => ⟨S64x1x256, .i32⟩
  | .hbm, ⟨64, _⟩ => ⟨S64x1x256, .i1⟩
  | .hbm, ⟨65, _⟩ => ⟨S64x128x256, .i1⟩
  | .hbm, ⟨66, _⟩ => ⟨S64x128x256, .i1⟩
  | .hbm, ⟨67, _⟩ => ⟨S1x64x1x128x256, .i1⟩
  | .hbm, ⟨68, _⟩ => ⟨S_, .f32⟩
  | .hbm, ⟨69, _⟩ => ⟨S_, .f32⟩
  | .hbm, ⟨70, _⟩ => ⟨S4x64x4x128x256, .i1⟩
  | .hbm, ⟨71, _⟩ => ⟨S4x64x4x128x256, .f32⟩
  | .hbm, ⟨72, _⟩ => ⟨S4x64x4x128x256, .f32⟩
  | .hbm, ⟨73, _⟩ => ⟨S_, .f32⟩
  | .hbm, ⟨74, _⟩ => ⟨S4x64x4x128, .f32⟩
  | .hbm, ⟨75, _⟩ => ⟨S4x64x4x128x1, .f32⟩
  | .hbm, ⟨76, _⟩ => ⟨S4x64x4x128, .f32⟩
  | .hbm, ⟨77, _⟩ => ⟨S4x64x4x128x256, .f32⟩
  | .hbm, ⟨78, _⟩ => ⟨S4x64x4x128x256, .f32⟩
  | .hbm, ⟨79, _⟩ => ⟨S4x64x4x128x256, .f32⟩
  | .hbm, ⟨80, _⟩ => ⟨S_, .f32⟩
  | .hbm, ⟨81, _⟩ => ⟨S4x64x4x128, .f32⟩
  | .hbm, ⟨82, _⟩ => ⟨S4x64x4x128, .f32⟩
  | .hbm, ⟨83, _⟩ => ⟨S4x64x4x128, .f32⟩
  | .hbm, ⟨84, _⟩ => ⟨S4x64x4x128x1, .f32⟩
  | .hbm, ⟨85, _⟩ => ⟨S4x64x4x128x256, .f32⟩
  | .hbm, ⟨86, _⟩ => ⟨S4x64x4x128x256, .f32⟩
  | .hbm, ⟨87, _⟩ => ⟨S4x64x4x128x256, .f32⟩
  | .hbm, ⟨88, _⟩ => ⟨S4x64x4x64x128, .f32⟩
  | .hbm, ⟨89, _⟩ => ⟨S4x64x128x4x64, .f32⟩
  | .hbm, ⟨90, _⟩ => ⟨S4x1x8192x256, .f32⟩
  | .hbm, ⟨91, _⟩ => ⟨S4x64x4x128, .f32⟩
  | .hbm, ⟨92, _⟩ => ⟨S4x64x4x128, .f32⟩
  | .hbm, ⟨93, _⟩ => ⟨S4x64x128x4, .f32⟩
  | .hbm, ⟨94, _⟩ => ⟨S4x1x8192x4, .f32⟩
  | .hbm, ⟨95, _⟩ => ⟨S4x1x8192x256, .bf16⟩
  | .hbm, ⟨96, _⟩ => ⟨S4x1x8192x4x64, .f32⟩
  | .hbm, ⟨97, _⟩ => ⟨S4x1x8192x256, .f32⟩
  | _, _ => ⟨S4x1x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_4 : Ref sig .tc := ⟨.hbm, 55, rfl⟩
abbrev main_v44 : Ref sig .tc := ⟨.hbm, 56, rfl⟩
abbrev main_v45 : Ref sig .tc := ⟨.hbm, 57, rfl⟩
abbrev main_c_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Tail.lean ====
abbrev S4x1x8192x1024 : Shape := ⟨4, ![4, 1, 8192, 1024]⟩
abbrev S32768x1024 : Shape := ⟨2, ![32768, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S1x1x512x1024 : Shape := ⟨4, ![1, 1, 512, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S4x1x8192x1024, .bf16⟩
  | .hbm, ⟨1, _⟩ => ⟨S32768x1024, .f32⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S1x1x512x1024, .bf16⟩
  | .local _ .vmem, ⟨1, _⟩ => ⟨S1x1x512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S4x1x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== TailRefIdeal.lean ====
abbrev S4x1x8192x1024 : Shape := ⟨4, ![4, 1, 8192, 1024]⟩
abbrev S32768x1024 : Shape := ⟨2, ![32768, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S1024 : Shape := ⟨1, ![1024]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 91
  | .vmem => 0
  | .smem => 0
  | _ => 0

abbrev bufTy : (tb : Table) → Fin (tcTables nBuf tb) → BufTy
  | .hbm, ⟨0, _⟩ => ⟨S4x1x8192x1024, .bf16⟩
  | .hbm, ⟨1, _⟩ => ⟨S32768x1024, .f32⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S4x1x8192x1024, .f32⟩
  | .hbm, ⟨10, _⟩ => ⟨S32768x1024, .f32⟩
  | .hbm, ⟨11, _⟩ => ⟨S1024x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S_, .f32⟩
  | .hbm, ⟨49, _⟩ => ⟨S32768x1024, .f32⟩
  | .hbm, ⟨50, _⟩ => ⟨S32768x1024, .f32⟩
  | .hbm, ⟨51, _⟩ => ⟨S1024x4096, .f32⟩
  | .hbm, ⟨52, _⟩ => ⟨S4096x1024, .f32⟩
  | .hbm, ⟨53, _⟩ => ⟨S32768x4096, .f32⟩
  | .hbm, ⟨54, _⟩ => ⟨S_, .f32⟩
  | .hbm, ⟨55, _⟩ => ⟨S32768x4096, .f32⟩
  | .hbm, ⟨56, _⟩ => ⟨S32768x4096, .f32⟩
  | .hbm, ⟨57, _⟩ => ⟨S32768x4096, .f32⟩
  | .hbm, ⟨58, _⟩ => ⟨S32768x1024, .f32⟩
  | .hbm, ⟨59, _⟩ => ⟨S32768x1024, .f32⟩
  | .hbm, ⟨60, _⟩ => ⟨S1024, .f32⟩
  | .hbm, ⟨61, _⟩ => ⟨S1024, .f32⟩
  | .hbm, ⟨62, _⟩ => ⟨S_, .f32⟩
  | .hbm, ⟨63, _⟩ => ⟨S32768, .f32⟩
  | .hbm, ⟨64, _⟩ => ⟨S32768x1, .f32⟩
  | .hbm, ⟨65, _⟩ => ⟨S_, .f32⟩
  | .hbm, ⟨66, _⟩ => ⟨S32768x1, .f32⟩
  | .hbm, ⟨67, _⟩ => ⟨S32768x1, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1024, .f32⟩
  | .hbm, ⟨78, _⟩ => ⟨S32768x1024, .f32⟩
  | .hbm, ⟨79, _⟩ => ⟨S_, .f32⟩
  | .hbm, ⟨80, _⟩ => ⟨S32768x1, .f32⟩
  | .hbm, ⟨81, _⟩ => ⟨S32768x1, .f32⟩
  | .hbm, ⟨82, _⟩ => ⟨S32768x1, .f32⟩
  | .hbm, ⟨83, _⟩ => ⟨S32768x1024, .f32⟩
  | .hbm, ⟨84, _⟩ => ⟨S32768x1024, .f32⟩
  | .hbm, ⟨85, _⟩ => ⟨S1x1024, .f32⟩
  | .hbm, ⟨86, _⟩ => ⟨S32768x1024, .f32⟩
  | .hbm, ⟨87, _⟩ => ⟨S32768x1024, .f32⟩
  | .hbm, ⟨88, _⟩ => ⟨S1x1024, .f32⟩
  | .hbm, ⟨89, _⟩ => ⟨S32768x1024, .f32⟩
  | .hbm, ⟨90, _⟩ => ⟨S32768x1024, .f32⟩
  | _, _ => ⟨S4x1x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_cst : Ref sig .tc := ⟨.hbm, 54, rfl⟩
abbrev main_call0_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Merge.lean ====
abbrev S4x1x8192x256 : Shape := ⟨4, ![4, 1, 8192, 256]⟩
abbrev S4x4x2048x256 : Shape := ⟨4, ![4, 4, 2048, 256]⟩
abbrev S4x16x512x256 : Shape := ⟨4, ![4, 16, 512, 256]⟩
abbrev S32768x1024 : Shape := ⟨2, ![32768, 1024]⟩
abbrev S768x1024 : Shape := ⟨2, ![768, 1024]⟩
abbrev S1x1024 : Shape := ⟨2, ![1, 1024]⟩
abbrev S1024x4096 : Shape := ⟨2, ![1024, 4096]⟩
abbrev S4096x1024 : Shape := ⟨2, ![4096, 1024]⟩
abbrev S1x1x512x256 : Shape := ⟨4, ![1, 1, 512, 256]⟩
abbrev S1x4x128x256 : Shape := ⟨4, ![1, 4, 128, 256]⟩
abbrev S1x16x32x256 : Shape := ⟨4, ![1, 16, 32, 256]⟩
abbrev S512x1024 : Shape := ⟨2, ![512, 1024]⟩
abbrev S12x512x128 : Shape := ⟨3, ![12, 512, 128]⟩
abbrev S512x256 : Shape := ⟨2, ![512, 256]⟩
abbrev S1x1x128x128 : Shape := ⟨4, ![1, 1, 128, 128]⟩
abbrev S128x128 : Shape := ⟨2, ![128, 128]⟩
abbrev S1x128x128 : Shape := ⟨3, ![1, 128, 128]⟩
abbrev S1x512x128 : Shape := ⟨3, ![1, 512, 128]⟩
abbrev S512x128 : Shape := ⟨2, ![512, 128]⟩
abbrev S1x1x32x128 : Shape := ⟨4, ![1, 1, 32, 128]⟩
abbrev S32x128 : Shape := ⟨2, ![32, 128]⟩
abbrev S1x32x128 : Shape := ⟨3, ![1, 32, 128]⟩
abbrev S512x768 : Shape := ⟨2, ![512, 768]⟩
abbrev S256x768 : Shape := ⟨2, ![256, 768]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 15
  | .vmem => 24
  | .smem => 0
  | _ => 0

abbrev bufTy : (tb : Table) → Fin (tcTables nBuf tb) → BufTy
  | .hbm, ⟨0, _⟩ => ⟨S4x1x8192x256, .bf16⟩
  | .hbm, ⟨1, _⟩ => ⟨S4x4x2048x256, .bf16⟩
  | .hbm, ⟨2, _⟩ => ⟨S4x16x512x256, .bf16⟩
  | .hbm, ⟨3, _⟩ => ⟨S4x1x8192x256, .f32⟩
  | .hbm, ⟨4, _⟩ => ⟨S4x4x2048x256, .f32⟩
  | .hbm, ⟨5, _⟩ => ⟨S4x16x512x256, .f32⟩
  | .hbm, ⟨6, _⟩ => ⟨S32768x1024, .f32⟩
  | .hbm, ⟨7, _⟩ => ⟨S768x1024, .bf16⟩
  | .hbm, ⟨8, _⟩ => ⟨S1x1024, .f32⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S1x1024, .f32⟩
  | .hbm, ⟨13, _⟩ => ⟨S1x1024, .f32⟩
  | .hbm, ⟨14, _⟩ => ⟨S32768x1024, .f32⟩
  | .local _ .vmem, ⟨0, _⟩ => ⟨S1x1x512x256, .bf16⟩
  | .local _ .vmem, ⟨1, _⟩ => ⟨S1x1x512x256, .bf16⟩
  | .local _ .vmem, ⟨2, _⟩ => ⟨S1x4x128x256, .bf16⟩
  | .local _ .vmem, ⟨3, _⟩ => ⟨S1x4x128x256, .bf16⟩
  | .local _ .vmem, ⟨4, _⟩ => ⟨S1x16x32x256, .bf16⟩
  | .local _ .vmem, ⟨5, _⟩ => ⟨S1x16x32x256, .bf16⟩
  | .local _ .vmem, ⟨6, _⟩ => ⟨S1x1x512x256, .f32⟩
  | .local _ .vmem, ⟨7, _⟩ => ⟨S1x1x512x256, .f32⟩
  | .local _ .vmem, ⟨8, _⟩ => ⟨S1x4x128x256, .f32⟩
  | .local _ .vmem, ⟨9, _⟩ => ⟨S1x4x128x256, .f32⟩
  | .local _ .vmem, ⟨10, _⟩ => ⟨S1x16x32x256, .f32⟩
  | .local _ .vmem, ⟨11, _⟩ => ⟨S1x16x32x256, .f32⟩
  | .local _ .vmem, ⟨12, _⟩ => ⟨S512x1024, .f32⟩
  | .local _ .vmem, ⟨13, _⟩ => ⟨S512x1024, .f32⟩
  | .local _ .vmem, ⟨14, _⟩ => ⟨S768x1024, .bf16⟩
  | .local _ .vmem, ⟨15, _⟩ => ⟨S1x1024, .f32⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S12x512x128, .f32⟩
  | _, _ => ⟨S4x1x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S768x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S4x1x8192x256 : Shape := ⟨4, ![4, 1, 8192, 256]⟩
abbrev S4x4x2048x256 : Shape := ⟨4, ![4, 4, 2048, 256]⟩
abbrev S4x16x512x256 : Shape := ⟨4, ![4, 16, 512, 256]⟩
abbrev S32768x1024 : Shape := ⟨2, ![32768, 1024]⟩
abbrev S768x1024 : Shape := ⟨2, ![768, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S4x8192x1x256 : Shape := ⟨4, ![4, 8192, 1, 256]⟩
abbrev S32768x256 : Shape := ⟨2, ![32768, 256]⟩
abbrev S4x2048x4x256 : Shape := ⟨4, ![4, 2048, 4, 256]⟩
abbrev S4x512x16x256 : Shape := ⟨4, ![4, 512, 16, 256]⟩
abbrev S1x32768x256 : Shape := ⟨3, ![1, 32768, 256]⟩
abbrev S3x32768x256 : Shape := ⟨3, ![3, 32768, 256]⟩
abbrev S32768x3x256 : Shape := ⟨3, ![32768, 3, 256]⟩
abbrev S32768x768 : Shape := ⟨2, ![32768, 768]⟩
abbrev S1024 : Shape := ⟨1, ![1024]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 139
  | .vmem => 0
  | .smem => 0
  | _ => 0

abbrev hbmTy0_0 (i : Nat) : BufTy := match i % 128 with
  | 0 => ⟨S4x1x8192x256, .bf16⟩
  | 1 => ⟨S4x4x2048x256, .bf16⟩
  | 2 => ⟨S4x16x512x256, .bf16⟩
  | 3 => ⟨S4x1x8192x256, .f32⟩
  | 4 => ⟨S4x4x2048x256, .f32⟩
  | 5 => ⟨S4x16x512x256, .f32⟩
  | 6 => ⟨S32768x1024, .f32⟩
  | 7 => ⟨S768x1024, .bf16⟩
  | 8 => ⟨S1x1024, .f32⟩
  | 9 => ⟨S1x1024, .f32⟩
  | 10 => ⟨S1024x4096, .bf16⟩
  | 11 => ⟨S4096x1024, .bf16⟩
  | 12 => ⟨S1x1024, .f32⟩
  | 13 => ⟨S1x1024, .f32⟩
  | 14 => ⟨S_, .f32⟩
  | 15 => ⟨S_, .f32⟩
  | 16 => ⟨S4x8192x1x256, .f32⟩
  | 17 => ⟨S32768x256, .f32⟩
  | 18 => ⟨S32768x256, .f32⟩
  | 19 => ⟨S32768x256, .f32⟩
  | 20 => ⟨S4x2048x4x256, .f32⟩
  | 21 => ⟨S32768x256, .f32⟩
  | 22 => ⟨S32768x256, .f32⟩
  | 23 => ⟨S32768x256, .f32⟩
  | 24 => ⟨S4x512x16x256, .f32⟩
  | 25 => ⟨S32768x256, .f32⟩
  | 26 => ⟨S32768x256, .f32⟩
  | 27 => ⟨S32768x256, .f32⟩
  | 28 => ⟨S1x32768x256, .f32⟩
  | 29 => ⟨S1x32768x256, .f32⟩
  | 30 => ⟨S1x32768x256, .f32⟩
  | 31 => ⟨S3x32768x256, .f32⟩
  | 32 => ⟨S_, .f32⟩
  | 33 => ⟨S32768x256, .f32⟩
  | 34 => ⟨S1x32768x256, .f32⟩
  | 35 => ⟨S3x32768x256, .f32⟩
  | 36 => ⟨S3x32768x256, .f32⟩
  | 37 => ⟨S3x32768x256, .f32⟩
  | 38 => ⟨S_, .f32⟩
  | 39 => ⟨S32768x256, .f32⟩
  | 40 => ⟨S1x32768x256, .f32⟩
  | 41 => ⟨S3x32768x256, .f32⟩
  | 42 => ⟨S3x32768x256, .f32⟩
  | 43 => ⟨S4x1x8192x256, .f32⟩
  | 44 => ⟨S4x8192x1x256, .f32⟩
  | 45 => ⟨S32768x256, .f32⟩
  | 46 => ⟨S4x4x2048x256, .f32⟩
  | 47 => ⟨S4x2048x4x256, .f32⟩
  | 48 => ⟨S32768x256, .f32⟩
  | 49 => ⟨S4x16x512x256, .f32⟩
  | 50 => ⟨S4x512x16x256, .f32⟩
  | 51 => ⟨S32768x256, .f32⟩
  | 52 => ⟨S1x32768x256, .f32⟩
  | 53 => ⟨S1x32768x256, .f32⟩
  | 54 => ⟨S1x32768x256, .f32⟩
  | 55 => ⟨S3x32768x256, .f32⟩
  | 56 => ⟨S3x32768x256, .f32⟩
  | 57 => ⟨S32768x3x256, .f32⟩
  | 58 => ⟨S32768x768, .f32⟩
  | 59 => ⟨S768x1024, .f32⟩
  | 60 => ⟨S32768x1024, .f32⟩
  | 61 => ⟨S_, .f32⟩
  | 62 => ⟨S32768x1024, .f32⟩
  | 63 => ⟨S32768x1024, .f32⟩
  | 64 => ⟨S32768x1024, .f32⟩
  | 65 => ⟨S1024, .f32⟩
  | 66 => ⟨S1024, .f32⟩
  | 67 => ⟨S_, .f32⟩
  | 68 => ⟨S32768, .f32⟩
  | 69 => ⟨S32768x1, .f32⟩
  | 70 => ⟨S_, .f32⟩
  | 71 => ⟨S32768x1, .f32⟩
  | 72 => ⟨S32768x1, .f32⟩
  | 73 => ⟨S32768x1024, .f32⟩
  | 74 => ⟨S32768x1024, .f32⟩
  | 75 => ⟨S32768x1024, .f32⟩
  | 76 => ⟨S_, .f32⟩
  | 77 => ⟨S32768, .f32⟩
  | 78 => ⟨S32768x1, .f32⟩
  | 79 => ⟨S_, .f32⟩
  | 80 => ⟨S32768x1, .f32⟩
  | 81 => ⟨S32768x1, .f32⟩
  | 82 => ⟨S32768x1024, .f32⟩
  | 83 => ⟨S32768x1024, .f32⟩
  | 84 => ⟨S_, .f32⟩
  | 85 => ⟨S32768x1, .f32⟩
  | 86 => ⟨S32768x1, .f32⟩
  | 87 => ⟨S32768x1, .f32⟩
  | 88 => ⟨S32768x1024, .f32⟩
  | 89 => ⟨S32768x1024, .f32⟩
  | 90 => ⟨S1x1024, .f32⟩
  | 91 => ⟨S32768x1024, .f32⟩
  | 92 => ⟨S32768x1024, .f32⟩
  | 93 => ⟨S1x1024, .f32⟩
  | 94 => ⟨S32768x1024, .f32⟩
  | 95 => ⟨S32768x1024, .f32⟩
  | 96 => ⟨S_, .f32⟩
  | 97 => ⟨S32768x1024, .f32⟩
  | 98 => ⟨S32768x1024, .f32⟩
  | 99 => ⟨S1024x4096, .f32⟩
  | 100 => ⟨S4096x1024, .f32⟩
  | 101 => ⟨S32768x4096, .f32⟩
  | 102 => ⟨S_, .f32⟩
  | 103 => ⟨S32768x4096, .f32⟩
  | 104 => ⟨S32768x4096, .f32⟩
  | 105 => ⟨S32768x4096, .f32⟩
  | 106 => ⟨S32768x1024, .f32⟩
  | 107 => ⟨S32768x1024, .f32⟩
  | 108 => ⟨S1024, .f32⟩
  | 109 => ⟨S1024, .f32⟩
  | 110 => ⟨S_, .f32⟩
  | 111 => ⟨S32768, .f32⟩
  | 112 => ⟨S32768x1, .f32⟩
  | 113 => ⟨S_, .f32⟩
  | 114 => ⟨S32768x1, .f32⟩
  | 115 => ⟨S32768x1, .f32⟩
  | 116 => ⟨S32768x1024, .f32⟩
  | 117 => ⟨S32768x1024, .f32⟩
  | 118 => ⟨S32768x1024, .f32⟩
  | 119 => ⟨S_, .f32⟩
  | 120 => ⟨S32768, .f32⟩
  | 121 => ⟨S32768x1, .f32⟩
  | 122 => ⟨S_, .f32⟩
  | 123 => ⟨S32768x1, .f32⟩
  | 124 => ⟨S32768x1, .f32⟩
  | 125 => ⟨S32768x1024, .f32⟩
  | 126 => ⟨S32768x1024, .f32⟩
  | 127 => ⟨S_, .f32⟩
  | _ => ⟨S4x1x8192x256, .bf16⟩

abbrev hbmTy0_1 (i : Nat) : BufTy := match i % 128 with
  | 0 => ⟨S32768x1, .f32⟩
  | 1 => ⟨S32768x1, .f32⟩
  | 2 => ⟨S32768x1, .f32⟩
  | 3 => ⟨S32768x1024, .f32⟩
  | 4 => ⟨S32768x1024, .f32⟩
  | 5 => ⟨S1x1024, .f32⟩
  | 6 => ⟨S32768x1024, .f32⟩
  | 7 => ⟨S32768x1024, .f32⟩
  | 8 => ⟨S1x1024, .f32⟩
  | 9 => ⟨S32768x1024, .f32⟩
  | 10 => ⟨S32768x1024, .f32⟩
  | _ => ⟨S4x1x8192x256, .bf16⟩

abbrev hbmTy (i : Nat) : BufTy := match i / 128 with
  | 0 => hbmTy0_0 i
  | 1 => hbmTy0_1 i
  | _ => ⟨S4x1x8192x256, .bf16⟩

abbrev bufTy : (tb : Table) → Fin (tcTables nBuf tb) → BufTy
  | .hbm, ⟨i, _⟩ => hbmTy i
  | _, _ => ⟨S4x1x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_2 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_3 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_5 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_7 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_8 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_call0_cst : Ref sig .tc := ⟨.hbm, 102, rfl⟩
abbrev main_call0_v0 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_9 : Ref sig .tc := ⟨.hbm, 110, rfl⟩
abbrev main_v84 : Ref sig .tc := ⟨.hbm, 111, rfl⟩
abbrev main_v85 : Ref sig .tc := ⟨.hbm, 112, rfl⟩
abbrev main_cst_10 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_11 : Ref sig .tc := ⟨.hbm, 119, rfl⟩
abbrev main_v91 : Ref sig .tc := ⟨.hbm, 120, rfl⟩
abbrev main_v92 : Ref sig .tc := ⟨.hbm, 121, rfl⟩
abbrev main_cst_12 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_13 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩

abbrev nD : Nat := 1
abbrev τ : Topo := Topo.v7x

variable {F : FTy → Type} [FloatOps F]
-- ==== Proj.lean ====
abbrev S4x8192x1024 : Shape := ⟨3, ![4, 8192, 1024]⟩
abbrev S1024x1024 : Shape := ⟨2, ![1024, 1024]⟩
abbrev S8192x128 : Shape := ⟨2, ![8192, 128]⟩
abbrev S128x8192 : Shape := ⟨2, ![128, 8192]⟩
abbrev S4x8x32x128x256 : Shape := ⟨5, ![4, 8, 32, 128, 256]⟩
abbrev S4x8x4x1024 : Shape := ⟨4, ![4, 8, 4, 1024]⟩
abbrev S1x1024x1024 : Shape := ⟨3, ![1, 1024, 1024]⟩
abbrev S1024x128 : Shape := ⟨2, ![1024, 128]⟩
abbrev S128x1024 : Shape := ⟨2, ![128, 1024]⟩
abbrev S1x8x4x128x256 : Shape := ⟨5, ![1, 8, 4, 128, 256]⟩
abbrev S1x1x4x1024 : Shape := ⟨4, ![1, 1, 4, 1024]⟩
abbrev S1x1024x128 : Shape := ⟨3, ![1, 1024, 128]⟩
abbrev S256x128 : Shape := ⟨2, ![256, 128]⟩
abbrev S128 : Shape := ⟨1, ![128]⟩
abbrev S1x128 : Shape := ⟨2, ![1, 128]⟩
abbrev S1x1x1x128 : Shape := ⟨4, ![1, 1, 1, 128]⟩
abbrev S64x1024 : Shape := ⟨2, ![64, 1024]⟩
abbrev S128x256 : Shape := ⟨2, ![128, 256]⟩
abbrev S1x1x1x128x256 : Shape := ⟨5, ![1, 1, 1, 128, 256]⟩

abbrev nBuf : Space → Nat
  | .hbm => 12
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S8192x128, .f32⟩
  | .hbm, ⟨5, _⟩ => ⟨S8192x128, .f32⟩
  | .hbm, ⟨6, _⟩ => ⟨S128x8192, .f32⟩
  | .hbm, ⟨7, _⟩ => ⟨S128x8192, .f32⟩
  | .hbm, ⟨8, _⟩ => ⟨S4x8192x1024, .bf16⟩
  | .hbm, ⟨9, _⟩ => ⟨S4x8x32x128x256, .bf16⟩
  | .hbm, ⟨10, _⟩ => ⟨S4x8x32x128x256, .bf16⟩
  | .hbm, ⟨11, _⟩ => ⟨S4x8x4x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S1x1024x1024, .bf16⟩
  | .local _ .vmem, ⟨14, _⟩ => ⟨S1x1024x1024, .bf16⟩
  | .local _ .vmem, ⟨15, _⟩ => ⟨S1x8x4x128x256, .bf16⟩
  | .local _ .vmem, ⟨16, _⟩ => ⟨S1x8x4x128x256, .bf16⟩
  | .local _ .vmem, ⟨17, _⟩ => ⟨S1x8x4x128x256, .bf16⟩
  | .local _ .vmem, ⟨18, _⟩ => ⟨S1x8x4x128x256, .bf16⟩
  | .local _ .vmem, ⟨19, _⟩ => ⟨S1x1x4x1024, .f32⟩
  | .local _ .vmem, ⟨20, _⟩ => ⟨S1x1x4x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x4x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x4x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x4x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjRefIdeal.lean ====
abbrev S4x8192x1024 : Shape := ⟨3, ![4, 8192, 1024]⟩
abbrev S1024x1024 : Shape := ⟨2, ![1024, 1024]⟩
abbrev S8192x128 : Shape := ⟨2, ![8192, 128]⟩
abbrev S128x8192 : Shape := ⟨2, ![128, 8192]⟩
abbrev S32768x1024 : Shape := ⟨2, ![32768, 1024]⟩
abbrev S4x8192x8x128 : Shape := ⟨4, ![4, 8192, 8, 128]⟩
abbrev S4x8192x8x64 : Shape := ⟨4, ![4, 8192, 8, 64]⟩
abbrev S8192x64 : Shape := ⟨2, ![8192, 64]⟩
abbrev S1x8192x1x64 : Shape := ⟨4, ![1, 8192, 1, 64]⟩
abbrev S4x32x256x1024 : Shape := ⟨4, ![4, 32, 256, 1024]⟩
abbrev S_ : Shape := ⟨0, ![]⟩
abbrev S4x32x1024 : Shape := ⟨3, ![4, 32, 1024]⟩
abbrev S4x32x256x8x128 : Shape := ⟨5, ![4, 32, 256, 8, 128]⟩
abbrev S4x8x32x128x256 : Shape := ⟨5, ![4, 8, 32, 128, 256]⟩
abbrev S4x8x4x1024 : Shape := ⟨4, ![4, 8, 4, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S8192x128, .f32⟩
  | .hbm, ⟨5, _⟩ => ⟨S8192x128, .f32⟩
  | .hbm, ⟨6, _⟩ => ⟨S128x8192, .f32⟩
  | .hbm, ⟨7, _⟩ => ⟨S128x8192, .f32⟩
  | .hbm, ⟨8, _⟩ => ⟨S32768x1024, .f32⟩
  | .hbm, ⟨9, _⟩ => ⟨S1024x1024, .f32⟩
  | .hbm, ⟨10, _⟩ => ⟨S32768x1024, .f32⟩
  | .hbm, ⟨11, _⟩ => ⟨S4x8192x8x128, .f32⟩
  | .hbm, ⟨12, _⟩ => ⟨S4x8192x8x64, .f32⟩
  | .hbm, ⟨13, _⟩ => ⟨S4x8192x8x64, .f32⟩
  | .hbm, ⟨14, _⟩ => ⟨S8192x64, .f32⟩
  | .hbm, ⟨15, _⟩ => ⟨S8192x64, .f32⟩
  | .hbm, ⟨16, _⟩ => ⟨S1x8192x1x64, .f32⟩
  | .hbm, ⟨17, _⟩ => ⟨S1x8192x1x64, .f32⟩
  | .hbm, ⟨18, _⟩ => ⟨S8192x64, .f32⟩
  | .hbm, ⟨19, _⟩ => ⟨S8192x64, .f32⟩
  | .hbm, ⟨20, _⟩ => ⟨S1x8192x1x64, .f32⟩
  | .hbm, ⟨21, _⟩ => ⟨S1x8192x1x64, .f32⟩
  | .hbm, ⟨22, _⟩ => ⟨S4x8192x8x64, .f32⟩
  | .hbm, ⟨23, _⟩ => ⟨S4x8192x8x64, .f32⟩
  | .hbm, ⟨24, _⟩ => ⟨S4x8192x8x64, .f32⟩
  | .hbm, ⟨25, _⟩ => ⟨S4x8192x8x64, .f32⟩
  | .hbm, ⟨26, _⟩ => ⟨S4x8192x8x64, .f32⟩
  | .hbm, ⟨27, _⟩ => ⟨S4x8192x8x64, .f32⟩
  | .hbm, ⟨28, _⟩ => ⟨S4x8192x8x64, .f32⟩
  | .hbm, ⟨29, _⟩ => ⟨S4x8192x8x64, .f32⟩
  | .hbm, ⟨30, _⟩ => ⟨S4x8192x8x64, .f32⟩
  | .hbm, ⟨31, _⟩ => ⟨S4x8192x8x64, .f32⟩
  | .hbm, ⟨32, _⟩ => ⟨S4x8192x8x128, .f32⟩
  | .hbm, ⟨33, _⟩ => ⟨S1024x1024, .f32⟩
  | .hbm, ⟨34, _⟩ => ⟨S1024x1024, .f32⟩
  | .hbm, ⟨35, _⟩ => ⟨S32768x1024, .f32⟩
  | .hbm, ⟨36, _⟩ => ⟨S4x8192x8x128, .f32⟩
  | .hbm, ⟨37, _⟩ => ⟨S8192x128, .f32⟩
  | .hbm, ⟨38, _⟩ => ⟨S8192x128, .f32⟩
  | .hbm, ⟨39, _⟩ => ⟨S4x8192x8x64, .f32⟩
  | .hbm, ⟨40, _⟩ => ⟨S4x8192x8x64, .f32⟩
  | .hbm, ⟨41, _⟩ => ⟨S8192x64, .f32⟩
  | .hbm, ⟨42, _⟩ => ⟨S8192x64, .f32⟩
  | .hbm, ⟨43, _⟩ => ⟨S1x8192x1x64, .f32⟩
  | .hbm, ⟨44, _⟩ => ⟨S1x8192x1x64, .f32⟩
  | .hbm, ⟨45, _⟩ => ⟨S8192x64, .f32⟩
  | .hbm, ⟨46, _⟩ => ⟨S8192x64, .f32⟩
  | .hbm, ⟨47, _⟩ => ⟨S1x8192x1x64, .f32⟩
  | .hbm, ⟨48, _⟩ => ⟨S1x8192x1x64, .f32⟩
  | .hbm, ⟨49, _⟩ => ⟨S4x8192x8x64, .f32⟩
  | .hbm, ⟨50, _⟩ => ⟨S4x8192x8x64, .f32⟩
  | .hbm, ⟨51, _⟩ => ⟨S4x8192x8x64, .f32⟩
  | .hbm, ⟨52, _⟩ => ⟨S4x8192x8x64, .f32⟩
  | .hbm, ⟨53, _⟩ => ⟨S4x8192x8x64, .f32⟩
  | .hbm, ⟨54, _⟩ => ⟨S4x8192x8x64, .f32⟩
  | .hbm, ⟨55, _⟩ => ⟨S4x8192x8x64, .f32⟩
  | .hbm, ⟨56, _⟩ => ⟨S4x8192x8x64, .f32⟩
  | .hbm, ⟨57, _⟩ => ⟨S4x8192x8x64, .f32⟩
  | .hbm, ⟨58, _⟩ => ⟨S4x8192x8x64, .f32⟩
  | .hbm, ⟨59, _⟩ => ⟨S4x8192x8x128, .f32⟩
  | .hbm, ⟨60, _⟩ => ⟨S1024x1024, .f32⟩
  | .hbm, ⟨61, _⟩ => ⟨S1024x1024, .f32⟩
  | .hbm, ⟨62, _⟩ => ⟨S32768x1024, .f32⟩
  | .hbm, ⟨63, _⟩ => ⟨S4x32x256x1024, .f32⟩
  | .hbm, ⟨64, _⟩ => ⟨S_, .f32⟩
  | .hbm, ⟨65, _⟩ => ⟨S4x32x1024, .f32⟩
  | .hbm, ⟨66, _⟩ => ⟨S_, .f32⟩
  | .hbm, ⟨67, _⟩ => ⟨S4x32x1024, .f32⟩
  | .hbm, ⟨68, _⟩ => ⟨S4x32x1024, .f32⟩
  | .hbm, ⟨69, _⟩ => ⟨S4x8192x1024, .f32⟩
  | .hbm, ⟨70, _⟩ => ⟨S4x8192x1024, .bf16⟩
  | .hbm, ⟨71, _⟩ => ⟨S4x32x256x8x128, .f32⟩
  | .hbm, ⟨72, _⟩ => ⟨S4x8x32x128x256, .f32⟩
  | .hbm, ⟨73, _⟩ => ⟨S4x8x32x128x256, .bf16⟩
  | .hbm, ⟨74, _⟩ => ⟨S4x32x256x8x128, .f32⟩
  | .hbm, ⟨75, _⟩ => ⟨S4x8x32x128x256, .f32⟩
  | .hbm, ⟨76, _⟩ => ⟨S4x8x32x128x256, .bf16⟩
  | .hbm, ⟨77, _⟩ => ⟨S4x8x4x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst : Ref sig .tc := ⟨.hbm, 64, rfl⟩
abbrev main_v56 : Ref sig .tc := ⟨.hbm, 65, rfl⟩
abbrev main_cst_0 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩

abbrev nD : Nat := 1
abbrev τ : Topo := Topo.v7x

variable {F : FTy → Type} [FloatOps F]
-- ==== Split.lean ====
abbrev S32768x1024 : Shape := ⟨2, ![32768, 1024]⟩
abbrev S1024x2304 : Shape := ⟨2, ![1024, 2304]⟩
abbrev S8192x128 : Shape := ⟨2, ![8192, 128]⟩
abbrev S4x1x8192x256 : Shape := ⟨4, ![4, 1, 8192, 256]⟩
abbrev S4x4x2048x256 : Shape := ⟨4, ![4, 4, 2048, 256]⟩
abbrev S4x16x512x256 : Shape := ⟨4, ![4, 16, 512, 256]⟩
abbrev S1024x1024 : Shape := ⟨2, ![1024, 1024]⟩
abbrev S1024x128 : Shape := ⟨2, ![1024, 128]⟩
abbrev S1x1x1024x256 : Shape := ⟨4, ![1, 1, 1024, 256]⟩
abbrev S1x4x256x256 : Shape := ⟨4, ![1, 4, 256, 256]⟩
abbrev S1x16x64x256 : Shape := ⟨4, ![1, 16, 64, 256]⟩
abbrev S12x1024x128 : Shape := ⟨3, ![12, 1024, 128]⟩
abbrev S1x1x1024x128 : Shape := ⟨4, ![1, 1, 1024, 128]⟩
abbrev S1x1024x128 : Shape := ⟨3, ![1, 1024, 128]⟩
abbrev S1x256x128 : Shape := ⟨3, ![1, 256, 128]⟩
abbrev S256x128 : Shape := ⟨2, ![256, 128]⟩
abbrev S1x1x256x128 : Shape := ⟨4, ![1, 1, 256, 128]⟩
abbrev S1x64x128 : Shape := ⟨3, ![1, 64, 128]⟩
abbrev S64x128 : Shape := ⟨2, ![64, 128]⟩
abbrev S1x1x64x128 : Shape := ⟨4, ![1, 1, 64, 128]⟩

abbrev nBuf : Space → Nat
  | .hbm => 15
  | .vmem => 30
  | .smem => 0
  | _ => 0

abbrev bufTy : (tb : Table) → Fin (tcTables nBuf tb) → BufTy
  | .hbm, ⟨0, _⟩ => ⟨S32768x1024, .f32⟩
  | .hbm, ⟨1, _⟩ => ⟨S1024x2304, .bf16⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S4x1x8192x256, .bf16⟩
  | .hbm, ⟨7, _⟩ => ⟨S4x1x8192x256, .bf16⟩
  | .hbm, ⟨8, _⟩ => ⟨S4x1x8192x256, .bf16⟩
  | .hbm, ⟨9, _⟩ => ⟨S4x4x2048x256, .bf16⟩
  | .hbm, ⟨10, _⟩ => ⟨S4x4x2048x256, .bf16⟩
  | .hbm, ⟨11, _⟩ => ⟨S4x4x2048x256, .bf16⟩
  | .hbm, ⟨12, _⟩ => ⟨S4x16x512x256, .bf16⟩
  | .hbm, ⟨13, _⟩ => ⟨S4x16x512x256, .bf16⟩
  | .hbm, ⟨14, _⟩ => ⟨S4x16x512x256, .bf16⟩
  | .local _ .vmem, ⟨0, _⟩ => ⟨S1024x1024, .f32⟩
  | .local _ .vmem, ⟨1, _⟩ => ⟨S1024x1024, .f32⟩
  | .local _ .vmem, ⟨2, _⟩ => ⟨S1024x2304, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x1x1024x256, .bf16⟩
  | .local _ .vmem, ⟨12, _⟩ => ⟨S1x1x1024x256, .bf16⟩
  | .local _ .vmem, ⟨13, _⟩ => ⟨S1x1x1024x256, .bf16⟩
  | .local _ .vmem, ⟨14, _⟩ => ⟨S1x1x1024x256, .bf16⟩
  | .local _ .vmem, ⟨15, _⟩ => ⟨S1x1x1024x256, .bf16⟩
  | .local _ .vmem, ⟨16, _⟩ => ⟨S1x1x1024x256, .bf16⟩
  | .local _ .vmem, ⟨17, _⟩ => ⟨S1x4x256x256, .bf16⟩
  | .local _ .vmem, ⟨18, _⟩ => ⟨S1x4x256x256, .bf16⟩
  | .local _ .vmem, ⟨19, _⟩ => ⟨S1x4x256x256, .bf16⟩
  | .local _ .vmem, ⟨20, _⟩ => ⟨S1x4x256x256, .bf16⟩
  | .local _ .vmem, ⟨21, _⟩ => ⟨S1x4x256x256, .bf16⟩
  | .local _ .vmem, ⟨22, _⟩ => ⟨S1x4x256x256, .bf16⟩
  | .local _ .vmem, ⟨23, _⟩ => ⟨S1x16x64x256, .bf16⟩
  | .local _ .vmem, ⟨24, _⟩ => ⟨S1x16x64x256, .bf16⟩
  | .local _ .vmem, ⟨25, _⟩ => ⟨S1x16x64x256, .bf16⟩
  | .local _ .vmem, ⟨26, _⟩ => ⟨S1x16x64x256, .bf16⟩
  | .local _ .vmem, ⟨27, _⟩ => ⟨S1x16x64x256, .bf16⟩
  | .local _ .vmem, ⟨28, _⟩ => ⟨S1x16x64x256, .bf16⟩
  | .local _ .vmem, ⟨29, _⟩ => ⟨S12x1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x64x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x64x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x16x64x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== SplitRefIdeal.lean ====
abbrev S32768x1024 : Shape := ⟨2, ![32768, 1024]⟩
abbrev S1024x2304 : Shape := ⟨2, ![1024, 2304]⟩
abbrev S8192x128 : Shape := ⟨2, ![8192, 128]⟩
abbrev S32768x2304 : Shape := ⟨2, ![32768, 2304]⟩
abbrev S32768x768 : Shape := ⟨2, ![32768, 768]⟩
abbrev S4x8192x6x128 : Shape := ⟨4, ![4, 8192, 6, 128]⟩
abbrev S4x8192x6x64 : Shape := ⟨4, ![4, 8192, 6, 64]⟩
abbrev S8192x64 : Shape := ⟨2, ![8192, 64]⟩
abbrev S1x8192x1x64 : Shape := ⟨4, ![1, 8192, 1, 64]⟩
abbrev S4x8192x768 : Shape := ⟨3, ![4, 8192, 768]⟩
abbrev S4x8192x256 : Shape := ⟨3, ![4, 8192, 256]⟩
abbrev S4x8192x1x256 : Shape := ⟨4, ![4, 8192, 1, 256]⟩
abbrev S4x1x8192x256 : Shape := ⟨4, ![4, 1, 8192, 256]⟩
abbrev S4x2048x4x256 : Shape := ⟨4, ![4, 2048, 4, 256]⟩
abbrev S4x4x2048x256 : Shape := ⟨4, ![4, 4, 2048, 256]⟩
abbrev S4x512x16x256 : Shape := ⟨4, ![4, 512, 16, 256]⟩
abbrev S4x16x512x256 : Shape := ⟨4, ![4, 16, 512, 256]⟩

abbrev nBuf : Space → Nat
  | .hbm => 95
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2304, .bf16⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S1024x2304, .f32⟩
  | .hbm, ⟨7, _⟩ => ⟨S32768x2304, .f32⟩
  | .hbm, ⟨8, _⟩ => ⟨S32768x768, .f32⟩
  | .hbm, ⟨9, _⟩ => ⟨S32768x768, .f32⟩
  | .hbm, ⟨10, _⟩ => ⟨S32768x768, .f32⟩
  | .hbm, ⟨11, _⟩ => ⟨S4x8192x6x128, .f32⟩
  | .hbm, ⟨12, _⟩ => ⟨S4x8192x6x128, .f32⟩
  | .hbm, ⟨13, _⟩ => ⟨S4x8192x6x128, .f32⟩
  | .hbm, ⟨14, _⟩ => ⟨S4x8192x6x64, .f32⟩
  | .hbm, ⟨15, _⟩ => ⟨S4x8192x6x64, .f32⟩
  | .hbm, ⟨16, _⟩ => ⟨S8192x64, .f32⟩
  | .hbm, ⟨17, _⟩ => ⟨S8192x64, .f32⟩
  | .hbm, ⟨18, _⟩ => ⟨S1x8192x1x64, .f32⟩
  | .hbm, ⟨19, _⟩ => ⟨S1x8192x1x64, .f32⟩
  | .hbm, ⟨20, _⟩ => ⟨S8192x64, .f32⟩
  | .hbm, ⟨21, _⟩ => ⟨S8192x64, .f32⟩
  | .hbm, ⟨22, _⟩ => ⟨S1x8192x1x64, .f32⟩
  | .hbm, ⟨23, _⟩ => ⟨S1x8192x1x64, .f32⟩
  | .hbm, ⟨24, _⟩ => ⟨S4x8192x6x64, .f32⟩
  | .hbm, ⟨25, _⟩ => ⟨S4x8192x6x64, .f32⟩
  | .hbm, ⟨26, _⟩ => ⟨S4x8192x6x64, .f32⟩
  | .hbm, ⟨27, _⟩ => ⟨S4x8192x6x64, .f32⟩
  | .hbm, ⟨28, _⟩ => ⟨S4x8192x6x64, .f32⟩
  | .hbm, ⟨29, _⟩ => ⟨S4x8192x6x64, .f32⟩
  | .hbm, ⟨30, _⟩ => ⟨S4x8192x6x64, .f32⟩
  | .hbm, ⟨31, _⟩ => ⟨S4x8192x6x64, .f32⟩
  | .hbm, ⟨32, _⟩ => ⟨S4x8192x6x64, .f32⟩
  | .hbm, ⟨33, _⟩ => ⟨S4x8192x6x64, .f32⟩
  | .hbm, ⟨34, _⟩ => ⟨S4x8192x6x128, .f32⟩
  | .hbm, ⟨35, _⟩ => ⟨S4x8192x6x64, .f32⟩
  | .hbm, ⟨36, _⟩ => ⟨S4x8192x6x64, .f32⟩
  | .hbm, ⟨37, _⟩ => ⟨S8192x64, .f32⟩
  | .hbm, ⟨38, _⟩ => ⟨S8192x64, .f32⟩
  | .hbm, ⟨39, _⟩ => ⟨S1x8192x1x64, .f32⟩
  | .hbm, ⟨40, _⟩ => ⟨S1x8192x1x64, .f32⟩
  | .hbm, ⟨41, _⟩ => ⟨S8192x64, .f32⟩
  | .hbm, ⟨42, _⟩ => ⟨S8192x64, .f32⟩
  | .hbm, ⟨43, _⟩ => ⟨S1x8192x1x64, .f32⟩
  | .hbm, ⟨44, _⟩ => ⟨S1x8192x1x64, .f32⟩
  | .hbm, ⟨45, _⟩ => ⟨S4x8192x6x64, .f32⟩
  | .hbm, ⟨46, _⟩ => ⟨S4x8192x6x64, .f32⟩
  | .hbm, ⟨47, _⟩ => ⟨S4x8192x6x64, .f32⟩
  | .hbm, ⟨48, _⟩ => ⟨S4x8192x6x64, .f32⟩
  | .hbm, ⟨49, _⟩ => ⟨S4x8192x6x64, .f32⟩
  | .hbm, ⟨50, _⟩ => ⟨S4x8192x6x64, .f32⟩
  | .hbm, ⟨51, _⟩ => ⟨S4x8192x6x64, .f32⟩
  | .hbm, ⟨52, _⟩ => ⟨S4x8192x6x64, .f32⟩
  | .hbm, ⟨53, _⟩ => ⟨S4x8192x6x64, .f32⟩
  | .hbm, ⟨54, _⟩ => ⟨S4x8192x6x64, .f32⟩
  | .hbm, ⟨55, _⟩ => ⟨S4x8192x6x128, .f32⟩
  | .hbm, ⟨56, _⟩ => ⟨S4x8192x768, .f32⟩
  | .hbm, ⟨57, _⟩ => ⟨S4x8192x256, .f32⟩
  | .hbm, ⟨58, _⟩ => ⟨S4x8192x256, .f32⟩
  | .hbm, ⟨59, _⟩ => ⟨S4x8192x256, .f32⟩
  | .hbm, ⟨60, _⟩ => ⟨S4x8192x768, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S4x8192x768, .f32⟩
  | .hbm, ⟨65, _⟩ => ⟨S4x8192x256, .f32⟩
  | .hbm, ⟨66, _⟩ => ⟨S4x8192x256, .f32⟩
  | .hbm, ⟨67, _⟩ => ⟨S4x8192x256, .f32⟩
  | .hbm, ⟨68, _⟩ => ⟨S4x8192x1x256, .f32⟩
  | .hbm, ⟨69, _⟩ => ⟨S4x1x8192x256, .f32⟩
  | .hbm, ⟨70, _⟩ => ⟨S4x1x8192x256, .bf16⟩
  | .hbm, ⟨71, _⟩ => ⟨S4x8192x1x256, .f32⟩
  | .hbm, ⟨72, _⟩ => ⟨S4x1x8192x256, .f32⟩
  | .hbm, ⟨73, _⟩ => ⟨S4x1x8192x256, .bf16⟩
  | .hbm, ⟨74, _⟩ => ⟨S4x8192x1x256, .f32⟩
  | .hbm, ⟨75, _⟩ => ⟨S4x1x8192x256, .f32⟩
  | .hbm, ⟨76, _⟩ => ⟨S4x1x8192x256, .bf16⟩
  | .hbm, ⟨77, _⟩ => ⟨S4x2048x4x256, .f32⟩
  | .hbm, ⟨78, _⟩ => ⟨S4x4x2048x256, .f32⟩
  | .hbm, ⟨79, _⟩ => ⟨S4x4x2048x256, .bf16⟩
  | .hbm, ⟨80, _⟩ => ⟨S4x2048x4x256, .f32⟩
  | .hbm, ⟨81, _⟩ => ⟨S4x4x2048x256, .f32⟩
  | .hbm, ⟨82, _⟩ => ⟨S4x4x2048x256, .bf16⟩
  | .hbm, ⟨83, _⟩ => ⟨S4x2048x4x256, .f32⟩
  | .hbm, ⟨84, _⟩ => ⟨S4x4x2048x256, .f32⟩
  | .hbm, ⟨85, _⟩ => ⟨S4x4x2048x256, .bf16⟩
  | .hbm, ⟨86, _⟩ => ⟨S4x512x16x256, .f32⟩
  | .hbm, ⟨87, _⟩ => ⟨S4x16x512x256, .f32⟩
  | .hbm, ⟨88, _⟩ => ⟨S4x16x512x256, .bf16⟩
  | .hbm, ⟨89, _⟩ => ⟨S4x512x16x256, .f32⟩
  | .hbm, ⟨90, _⟩ => ⟨S4x16x512x256, .f32⟩
  | .hbm, ⟨91, _⟩ => ⟨S4x16x512x256, .bf16⟩
  | .hbm, ⟨92, _⟩ => ⟨S4x512x16x256, .f32⟩
  | .hbm, ⟨93, _⟩ => ⟨S4x16x512x256, .f32⟩
  | .hbm, ⟨94, _⟩ => ⟨S4x16x512x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩

abbrev nD : Nat := 1
abbrev τ : Topo := Topo.v7x

variable {F : FTy → Type} [FloatOps F]
-- ==== Four.lean ====
abbrev S4x4x2048x256 : Shape := ⟨4, ![4, 4, 2048, 256]⟩
abbrev S1x1x1024x256 : Shape := ⟨4, ![1, 1, 1024, 256]⟩
abbrev S1x1x128x256 : Shape := ⟨4, ![1, 1, 128, 256]⟩
abbrev S1024x256 : Shape := ⟨2, ![1024, 256]⟩
abbrev S128x256 : Shape := ⟨2, ![128, 256]⟩
abbrev S1152x256 : Shape := ⟨2, ![1152, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x1x128x128 : Shape := ⟨4, ![1, 1, 128, 128]⟩

abbrev nBuf : Space → Nat
  | .hbm => 5
  | .vmem => 14
  | .smem => 0
  | _ => 0

abbrev bufTy : (tb : Table) → Fin (tcTables nBuf tb) → BufTy
  | .hbm, ⟨0, _⟩ => ⟨S4x4x2048x256, .bf16⟩
  | .hbm, ⟨1, _⟩ => ⟨S4x4x2048x256, .bf16⟩
  | .hbm, ⟨2, _⟩ => ⟨S4x4x2048x256, .bf16⟩
  | .hbm, ⟨3, _⟩ => ⟨S4x4x2048x256, .bf16⟩
  | .hbm, ⟨4, _⟩ => ⟨S4x4x2048x256, .f32⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1x1024x256, .bf16⟩
  | .local _ .vmem, ⟨3, _⟩ => ⟨S1x1x1024x256, .bf16⟩
  | .local _ .vmem, ⟨4, _⟩ => ⟨S1x1x128x256, .bf16⟩
  | .local _ .vmem, ⟨5, _⟩ => ⟨S1x1x128x256, .bf16⟩
  | .local _ .vmem, ⟨6, _⟩ => ⟨S1x1x1024x256, .bf16⟩
  | .local _ .vmem, ⟨7, _⟩ => ⟨S1x1x1024x256, .bf16⟩
  | .local _ .vmem, ⟨8, _⟩ => ⟨S1x1x128x256, .bf16⟩
  | .local _ .vmem, ⟨9, _⟩ => ⟨S1x1x128x256, .bf16⟩
  | .local _ .vmem, ⟨10, _⟩ => ⟨S1x1x1024x256, .bf16⟩
  | .local _ .vmem, ⟨11, _⟩ => ⟨S1x1x1024x256, .bf16⟩
  | .local _ .vmem, ⟨12, _⟩ => ⟨S1x1x1024x256, .f32⟩
  | .local _ .vmem, ⟨13, _⟩ => ⟨S1x1x1024x256, .f32⟩
  | _, _ => ⟨S4x4x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== FourIdeal.lean ====
variable {F : FTy → Type} [FloatOps F] [Named F]
def κ : String → Option EReal := fun
  | "inv_ln2" => some (((Real.log 2)⁻¹ : ℝ) : EReal)
  | _ => none
-- ==== FourRefIdeal.lean ====
abbrev S4x4x2048x256 : Shape := ⟨4, ![4, 4, 2048, 256]⟩
abbrev S_ : Shape := ⟨0, ![]⟩
abbrev S16x16x128x2x2x2x32 : Shape := ⟨7, ![16, 16, 128, 2, 2, 2, 32]⟩
abbrev S16x16x2x2x128x2x32 : Shape := ⟨7, ![16, 16, 2, 2, 128, 2, 32]⟩
abbrev S16x16x4x128x64 : Shape := ⟨5, ![16, 16, 4, 128, 64]⟩
abbrev S16x17x4x128x64 : Shape := ⟨5, ![16, 17, 4, 128, 64]⟩
abbrev S16x16x4x256x64 : Shape := ⟨5, ![16, 16, 4, 256, 64]⟩
abbrev S16x16x128x4x64 : Shape := ⟨5, ![16, 16, 128, 4, 64]⟩
abbrev S16x16x4x128x256 : Shape := ⟨5, ![16, 16, 4, 128, 256]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S256 : Shape := ⟨1, ![256]⟩
abbrev S1x1x256 : Shape := ⟨3, ![1, 1, 256]⟩
abbrev S16x1x256 : Shape := ⟨3, ![16, 1, 256]⟩
abbrev S16x128x256 : Shape := ⟨3, ![16, 128, 256]⟩
abbrev S1x16x1x128x256 : Shape := ⟨5, ![1, 16, 1, 128, 256]⟩
abbrev S16x16x4x128 : Shape := ⟨4, ![16, 16, 4, 128]⟩
abbrev S16x16x4x128x1 : Shape := ⟨5, ![16, 16, 4, 128, 1]⟩
abbrev S16x16x4x64x128 : Shape := ⟨5, ![16, 16, 4, 64, 128]⟩
abbrev S16x16x128x4 : Shape := ⟨4, ![16, 16, 128, 4]⟩
abbrev S4x4x2048x4 : Shape := ⟨4, ![4, 4, 2048, 4]⟩
abbrev S4x4x2048x4x64 : Shape := ⟨5, ![4, 4, 2048, 4, 64]⟩

abbrev nBuf : Space → Nat
  | .hbm => 98
  | .vmem => 0
  | .smem => 0
  | _ => 0

abbrev bufTy : (tb : Table) → Fin (tcTables nBuf tb) → BufTy
  | .hbm, ⟨0, _⟩ => ⟨S4x4x2048x256, .bf16⟩
  | .hbm, ⟨1, _⟩ => ⟨S4x4x2048x256, .bf16⟩
  | .hbm, ⟨2, _⟩ => ⟨S4x4x2048x256, .bf16⟩
  | .hbm, ⟨3, _⟩ => ⟨S_, .f32⟩
  | .hbm, ⟨4, _⟩ => ⟨S_, .f32⟩
  | .hbm, ⟨5, _⟩ => ⟨S4x4x2048x256, .f32⟩
  | .hbm, ⟨6, _⟩ => ⟨S16x16x128x2x2x2x32, .f32⟩
  | .hbm, ⟨7, _⟩ => ⟨S16x16x2x2x128x2x32, .f32⟩
  | .hbm, ⟨8, _⟩ => ⟨S16x16x4x128x64, .f32⟩
  | .hbm, ⟨9, _⟩ => ⟨S4x4x2048x256, .f32⟩
  | .hbm, ⟨10, _⟩ => ⟨S16x16x128x2x2x2x32, .f32⟩
  | .hbm, ⟨11, _⟩ => ⟨S16x16x2x2x128x2x32, .f32⟩
  | .hbm, ⟨12, _⟩ => ⟨S16x16x4x128x64, .f32⟩
  | .hbm, ⟨13, _⟩ => ⟨S_, .i32⟩
  | .hbm, ⟨14, _⟩ => ⟨S_, .f32⟩
  | .hbm, ⟨15, _⟩ => ⟨S16x17x4x128x64, .f32⟩
  | .hbm, ⟨16, _⟩ => ⟨S16x16x4x128x64, .f32⟩
  | .hbm, ⟨17, _⟩ => ⟨S16x16x4x256x64, .f32⟩
  | .hbm, ⟨18, _⟩ => ⟨S4x4x2048x256, .f32⟩
  | .hbm, ⟨19, _⟩ => ⟨S16x16x128x4x64, .f32⟩
  | .hbm, ⟨20, _⟩ => ⟨S16x16x4x128x64, .f32⟩
  | .hbm, ⟨21, _⟩ => ⟨S_, .i32⟩
  | .hbm, ⟨22, _⟩ => ⟨S_, .f32⟩
  | .hbm, ⟨23, _⟩ => ⟨S16x17x4x128x64, .f32⟩
  | .hbm, ⟨24, _⟩ => ⟨S16x16x4x128x64, .f32⟩
  | .hbm, ⟨25, _⟩ => ⟨S16x16x4x256x64, .f32⟩
  | .hbm, ⟨26, _⟩ => ⟨S16x16x4x128x256, .f32⟩
  | .hbm, ⟨27, _⟩ => ⟨S16x16x4x128x256, .f32⟩
  | .hbm, ⟨28, _⟩ => ⟨S16x16x4x128x256, .f32⟩
  | .hbm, ⟨29, _⟩ => ⟨S16, .i32⟩
  | .hbm, ⟨30, _⟩ => ⟨S16x1x1, .i32⟩
  | .hbm, ⟨31, _⟩ => ⟨S_, .i32⟩
  | .hbm, ⟨32, _⟩ => ⟨S16x1x1, .i32⟩
  | .hbm, ⟨33, _⟩ => ⟨S16x1x1, .i32⟩
  | .hbm, ⟨34, _⟩ => ⟨S128, .i32⟩
  | .hbm, ⟨35, _⟩ => ⟨S1x128x1, .i32⟩
  | .hbm, ⟨36, _⟩ => ⟨S16x128x1, .i32⟩
  | .hbm, ⟨37, _⟩ => ⟨S16x128x1, .i32⟩
  | .hbm, ⟨38, _⟩ => ⟨S16x128x1, .i32⟩
  | .hbm, ⟨39, _⟩ => ⟨S16, .i32⟩
  | .hbm, ⟨40, _⟩ => ⟨S16x1x1, .i32⟩
  | .hbm, ⟨41, _⟩ => ⟨S_, .i32⟩
  | .hbm, ⟨42, _⟩ => ⟨S16x1x1, .i32⟩
  | .hbm, ⟨43, _⟩ => ⟨S16x1x1, .i32⟩
  | .hbm, ⟨44, _⟩ => ⟨S_, .i32⟩
  | .hbm, ⟨45, _⟩ => ⟨S16x1x1, .i32⟩
  | .hbm, ⟨46, _⟩ => ⟨S16x1x1, .i32⟩
  | .hbm, ⟨47, _⟩ => ⟨S256, .i32⟩
  | .hbm, ⟨48, _⟩ => ⟨S1x1x256, .i32⟩
  | .hbm, ⟨49, _⟩ => ⟨S16x1x256, .i32⟩
  | .hbm, ⟨50, _⟩ => ⟨S16x1x256, .i32⟩
  | .hbm, ⟨51, _⟩ => ⟨S16x1x256, .i32⟩
  | .hbm, ⟨52, _⟩ => ⟨S16x128x256, .i32⟩
  | .hbm, ⟨53, _⟩ => ⟨S16x128x256, .i32⟩
  | .hbm, ⟨54, _⟩ => ⟨S16x128x256, .i32⟩
  | .hbm, ⟨55, _⟩ => ⟨S_, .i32⟩
  | .hbm, ⟨56, _⟩ => ⟨S16x128x256, .i32⟩
  | .hbm, ⟨57, _⟩ => ⟨S16x128x256, .i1⟩
  | .hbm, ⟨58, _⟩ => ⟨S_, .i32⟩
  | .hbm, ⟨59, _⟩ => ⟨S16x128x256, .i32⟩
  | .hbm, ⟨60, _⟩ => ⟨S16x128x256, .i1⟩
  | .hbm, ⟨61, _⟩ => ⟨S16x128x256, .i1⟩
  | .hbm, ⟨62, _⟩ => ⟨S_, .i32⟩
  | .hbm, ⟨63, _⟩ => ⟨S16x1x256, .i32⟩
  | .hbm, ⟨64, _⟩ => ⟨S16x1x256, .i1⟩
  | .hbm, ⟨65, _⟩ => ⟨S16x128x256, .i1⟩
  | .hbm, ⟨66, _⟩ => ⟨S16x128x256, .i1⟩
  | .hbm, ⟨67, _⟩ => ⟨S1x16x1x128x256, .i1⟩
  | .hbm, ⟨68, _⟩ => ⟨S_, .f32⟩
  | .hbm, ⟨69, _⟩ => ⟨S_, .f32⟩
  | .hbm, ⟨70, _⟩ => ⟨S16x16x4x128x256, .i1⟩
  | .hbm, ⟨71, _⟩ => ⟨S16x16x4x128x256, .f32⟩
  | .hbm, ⟨72, _⟩ => ⟨S16x16x4x128x256, .f32⟩
  | .hbm, ⟨73, _⟩ => ⟨S_, .f32⟩
  | .hbm, ⟨74, _⟩ => ⟨S16x16x4x128, .f32⟩
  | .hbm, ⟨75, _⟩ => ⟨S16x16x4x128x1, .f32⟩
  | .hbm, ⟨76, _⟩ => ⟨S16x16x4x128, .f32⟩
  | .hbm, ⟨77, _⟩ => ⟨S16x16x4x128x256, .f32⟩
  | .hbm, ⟨78, _⟩ => ⟨S16x16x4x128x256, .f32⟩
  | .hbm, ⟨79, _⟩ => ⟨S16x16x4x128x256, .f32⟩
  | .hbm, ⟨80, _⟩ => ⟨S_, .f32⟩
  | .hbm, ⟨81, _⟩ => ⟨S16x16x4x128, .f32⟩
  | .hbm, ⟨82, _⟩ => ⟨S16x16x4x128, .f32⟩
  | .hbm, ⟨83, _⟩ => ⟨S16x16x4x128, .f32⟩
  | .hbm, ⟨84, _⟩ => ⟨S16x16x4x128x1, .f32⟩
  | .hbm, ⟨85, _⟩ => ⟨S16x16x4x128x256, .f32⟩
  | .hbm, ⟨86, _⟩ => ⟨S16x16x4x128x256, .f32⟩
  | .hbm, ⟨87, _⟩ => ⟨S16x16x4x128x256, .f32⟩
  | .hbm, ⟨88, _⟩ => ⟨S16x16x4x64x128, .f32⟩
  | .hbm, ⟨89, _⟩ => ⟨S16x16x128x4x64, .f32⟩
  | .hbm, ⟨90, _⟩ => ⟨S4x4x2048x256, .f32⟩
  | .hbm, ⟨91, _⟩ => ⟨S16x16x4x128, .f32⟩
  | .hbm, ⟨92, _⟩ => ⟨S16x16x4x128, .f32⟩
  | .hbm, ⟨93, _⟩ => ⟨S16x16x128x4, .f32⟩
  | .hbm, ⟨94, _⟩ => ⟨S4x4x2048x4, .f32⟩
  | .hbm, ⟨95, _⟩ => ⟨S4x4x2048x256, .bf16⟩
  | .hbm, ⟨96, _⟩ => ⟨S4x4x2048x4x64, .f32⟩
  | .hbm, ⟨97, _⟩ => ⟨S4x4x2048x256, .f32⟩
  | _, _ => ⟨S4x4x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_4 : Ref sig .tc := ⟨.hbm, 55, rfl⟩
abbrev main_v44 : Ref sig .tc := ⟨.hbm, 56, rfl⟩
abbrev main_v45 : Ref sig .tc := ⟨.hbm, 57, rfl⟩
abbrev main_c_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Proof.Soft.lean ====
/-
  The arithmetic of one attention row over the extended reals: a softmax in base two, normalised after the values are
  weighted, against a softmax in base e whose weights are `exp (score − logsumexp)`. The maximum the two subtract plays no
  part in the result; that it is a real number does.
-/
module

public import Idealize.ShloMosaic.Lib.Pointwise

@[expose] public section

noncomputable section

namespace Cert.Soft

open Idealize.ShloMosaic

variable {n : ℕ}

/-- A row of scores: the real score where the key is seen, minus infinity where it is not. -/
abbrev row (P : Fin n → Prop) [DecidablePred P] (x : Fin n → ℝ) : Fin n → EReal := fun c => if P c then (x c : EReal) else ⊥

/-- The row's maximum, as a reduction from minus infinity takes it. -/
abbrev top (s : Fin n → EReal) : EReal := Finset.univ.fold max ⊥ s

/-- The unnormalised base-two weight of a key. -/
abbrev wt2 (s : Fin n → EReal) (c : Fin n) : EReal := Ideal.exp2 (s c - top s)

/-- The base-two row: weighted values, then one multiplication by the reciprocal of the weights' sum. -/
def out2 (s v : Fin n → EReal) : EReal := (∑ c, wt2 s c * v c) * Ideal.div 1 (∑ c, wt2 s c)

/-- The base-two logarithm of the row's sum of powers. -/
def lse2 (s : Fin n → EReal) (κ : EReal) : EReal := top s + Ideal.log (∑ c, wt2 s c) * κ

/-- The natural logarithm of the row's sum of exponentials. -/
def lseE (t : Fin n → EReal) : EReal := top t + Ideal.log (∑ c, Ideal.exp (t c - top t))

/-- The base-e row: the values weighted by `exp (score − logsumexp)`. -/
def outE (t v : Fin n → EReal) : EReal := ∑ c, v c * Ideal.exp (t c - lseE t)

section
variable {P : Fin n → Prop} [DecidablePred P]

/-- The maximum of a row that sees a key is a real number. -/
theorem top_real (x : Fin n → ℝ) (c0 : Fin n) (h0 : P c0) : ∃ μ : ℝ, top (row P x) = (μ : EReal) := by
  have e : top (row P x) = Finset.univ.sup (row P x) := rfl
  have hle : row P x c0 ≤ top (row P x) := by rw [e]; exact Finset.le_sup (f := row P x) (Finset.mem_univ c0)
  obtain ⟨c, -, hc⟩ := Finset.exists_mem_eq_sup Finset.univ ⟨c0, Finset.mem_univ c0⟩ (row P x)
  rw [← e] at hc
  rw [hc] at hle ⊢
  simp only [row, if_pos h0] at hle
  by_cases hP : P c
  · exact ⟨x c, by simp only [row, if_pos hP]⟩
  · simp only [row, if_neg hP, le_bot_iff] at hle
    exact absurd hle (EReal.coe_ne_bot _)

theorem sum_coe (f : Fin n → ℝ) : ∑ c, (f c : EReal) = ((∑ c, f c : ℝ) : EReal) := by
  refine Finset.induction_on (motive := fun s => ∑ c ∈ s, (f c : EReal) = ((∑ c ∈ s, f c : ℝ) : EReal)) Finset.univ (by simp) ?_
  intro a s ha ih
  rw [Finset.sum_insert ha, Finset.sum_insert ha, ih, EReal.coe_add]

/-- A sum times a nonnegative real, term by term. -/
theorem sum_mul_coe (f : Fin n → EReal) (r : ℝ) (hr : 0 ≤ r) : (∑ c, f c) * (r : EReal) = ∑ c, f c * (r : EReal) := by
  refine Finset.induction_on (motive := fun s => (∑ c ∈ s, f c) * (r : EReal) = ∑ c ∈ s, f c * (r : EReal)) Finset.univ (by simp) ?_
  intro a s ha ih
  rw [Finset.sum_insert ha, Finset.sum_insert ha,
    EReal.right_distrib_of_nonneg_of_ne_top (EReal.coe_nonneg.mpr hr) (EReal.coe_ne_top r), ih]

/-- `2^(x − μ)` where the key is seen, 0 where not. -/
abbrev w2 (P : Fin n → Prop) [DecidablePred P] (x : Fin n → ℝ) (μ : ℝ) (c : Fin n) : ℝ := if P c then Real.exp ((x c - μ) * Real.log 2) else 0

theorem exp2_row (x : Fin n → ℝ) (μ : ℝ) (c : Fin n) : Ideal.exp2 (row P x c - (μ : EReal)) = (w2 P x μ c : EReal) := by
  by_cases hP : P c
  · simp only [row, w2, if_pos hP]
    rw [← EReal.coe_sub]
    show ((Real.rpow 2 (x c - μ) : ℝ) : EReal) = _
    have : Real.rpow 2 (x c - μ) = (2 : ℝ) ^ (x c - μ) := rfl
    rw [this, Real.rpow_def_of_pos (by norm_num), mul_comm]
  · simp only [row, w2, if_neg hP, EReal.bot_sub, EReal.coe_zero]
    rfl

theorem exp_row (x : Fin n → ℝ) (μ : ℝ) (c : Fin n) :
    Ideal.exp (row P x c - (μ : EReal)) = ((if P c then Real.exp (x c - μ) else 0 : ℝ) : EReal) := by
  by_cases hP : P c
  · simp only [row, if_pos hP]
    rw [← EReal.coe_sub]
    rfl
  · simp only [row, if_neg hP, EReal.bot_sub, EReal.coe_zero]
    rfl

theorem log_coe {r : ℝ} (hr : 0 < r) : Ideal.log (r : EReal) = (Real.log r : EReal) := by
  show (if r ≤ 0 then (⊥ : EReal) else (Real.log r : EReal)) = _
  rw [if_neg (not_le.mpr hr)]

/-- The row's sum of exponentials: what both logarithms are logarithms of. -/
abbrev Z (P : Fin n → Prop) [DecidablePred P] (x : Fin n → ℝ) : ℝ := ∑ c, if P c then Real.exp (x c) else 0

theorem Z_pos (x : Fin n → ℝ) (c0 : Fin n) (h0 : P c0) : 0 < Z P x := by
  refine Finset.sum_pos' (fun c _ => ?_) ⟨c0, Finset.mem_univ _, ?_⟩
  · split
    · exact (Real.exp_pos _).le
    · exact le_rfl
  · rw [if_pos h0]; exact Real.exp_pos _

theorem Z_shift (x : Fin n → ℝ) (μ : ℝ) : (∑ c, if P c then Real.exp (x c - μ) else 0) = Z P x * Real.exp (-μ) := by
  rw [Z, Finset.sum_mul]
  refine Finset.sum_congr rfl fun c _ => ?_
  by_cases hP : P c
  · rw [if_pos hP, if_pos hP, ← Real.exp_add, sub_eq_add_neg]
  · rw [if_neg hP, if_neg hP, zero_mul]

theorem lseE_row (x : Fin n → ℝ) (c0 : Fin n) (h0 : P c0) : lseE (row P x) = (Real.log (Z P x) : EReal) := by
  obtain ⟨μ, hμ⟩ := top_real x c0 h0
  unfold lseE
  rw [hμ]
  simp only [exp_row]
  rw [sum_coe, Z_shift, log_coe (mul_pos (Z_pos x c0 h0) (Real.exp_pos _)), ← EReal.coe_add,
    Real.log_mul (Z_pos x c0 h0).ne' (Real.exp_pos _).ne', Real.log_exp]
  congr 1
  ring

/-- The scores of base two, carried to base e. -/
abbrev nat (x : Fin n → ℝ) : Fin n → ℝ := fun c => x c * Real.log 2

theorem w2_eq (x : Fin n → ℝ) (μ : ℝ) (c : Fin n) :
    w2 P x μ c = (if P c then Real.exp (nat x c) else 0) * Real.exp (-(μ * Real.log 2)) := by
  by_cases hP : P c
  · simp only [w2, nat, if_pos hP, ← Real.exp_add]
    congr 1
    ring
  · simp only [w2, if_neg hP, zero_mul]

theorem sum_w2 (x : Fin n → ℝ) (μ : ℝ) : ∑ c, w2 P x μ c = Z P (nat x) * Real.exp (-(μ * Real.log 2)) := by
  rw [Z, Finset.sum_mul]
  exact Finset.sum_congr rfl fun c _ => w2_eq x μ c

theorem log_two_pos : 0 < Real.log 2 := Real.log_pos (by norm_num)

/-- The base-two logarithm of the sum is the natural one divided by `log 2`. -/
theorem lse2_row (x : Fin n → ℝ) (c0 : Fin n) (h0 : P c0) :
    lse2 (row P x) (((Real.log 2)⁻¹ : ℝ) : EReal) = Ideal.div (lseE (row P (nat x))) (Real.log 2 : EReal) := by
  obtain ⟨μ, hμ⟩ := top_real x c0 h0
  rw [lseE_row (nat x) c0 h0, Ideal.div_coe log_two_pos.ne']
  unfold lse2 wt2
  rw [hμ]
  simp only [exp2_row]
  rw [sum_coe, sum_w2, log_coe (mul_pos (Z_pos _ c0 h0) (Real.exp_pos _)),
    Real.log_mul (Z_pos _ c0 h0).ne' (Real.exp_pos _).ne', Real.log_exp, ← EReal.coe_mul, ← EReal.coe_mul, ← EReal.coe_add]
  congr 1
  have := log_two_pos.ne'
  field_simp
  ring

/-- The two rows of weighted values are one. -/
theorem out2_row (x : Fin n → ℝ) (v : Fin n → EReal) (c0 : Fin n) (h0 : P c0) :
    out2 (row P x) v = outE (row P (nat x)) v := by
  obtain ⟨μ, hμ⟩ := top_real x c0 h0
  unfold outE
  rw [lseE_row (nat x) c0 h0]
  unfold out2 wt2
  rw [hμ]
  simp only [exp2_row, exp_row]
  have hl : 0 < ∑ c, w2 P x μ c := by rw [sum_w2]; exact mul_pos (Z_pos _ c0 h0) (Real.exp_pos _)
  rw [sum_coe, Ideal.div_coe hl.ne', one_mul, sum_mul_coe _ _ (one_div_pos.mpr hl).le]
  refine Finset.sum_congr rfl fun c _ => ?_
  rw [mul_right_comm, ← EReal.coe_mul, mul_comm]
  congr 2
  rw [sum_w2, w2_eq]
  by_cases hP : P c
  · rw [if_pos hP, if_pos hP, Real.exp_sub, Real.exp_log (Z_pos _ c0 h0)]
    have := (Z_pos (nat x) c0 h0).ne'
    have := (Real.exp_pos (-(μ * Real.log 2))).ne'
    field_simp
  · rw [if_neg hP, if_neg hP, zero_mul, zero_mul]

end

end Cert.Soft

end
-- ==== Proof.Words.lean ====
/-
  32-bit words that stand for integers far from the ends of their range: sums, differences and comparisons of positions;
  and an array read at natural-number positions.
-/
module

public import Idealize.ShloMosaic.Lib.Pointwise

@[expose] public section

noncomputable section

namespace Cert.Words

open Idealize.ShloMosaic

/-- The word `x` stands for the integer `z`. -/
def Is (x : BitVec 32) (z : ℤ) : Prop := x.toInt = z

theorem is_nat {n : ℕ} (h : n < 2147483648) : Is (BitVec.ofNat 32 n) n := by
  unfold Is
  rw [BitVec.toInt_eq_toNat_of_lt (by rw [BitVec.toNat_ofNat]; omega), BitVec.toNat_ofNat]
  omega

theorem is_add {x y : BitVec 32} {a b : ℤ} (hx : Is x a) (hy : Is y b) (h0 : -2147483648 ≤ a + b) (h1 : a + b < 2147483648) :
    Is (IntOp.addi x y) (a + b) := by
  unfold Is IntOp.addi at *
  rw [BitVec.toInt_add, hx, hy, Int.bmod_eq_of_le (by omega) (by omega)]

theorem is_sub {x y : BitVec 32} {a b : ℤ} (hx : Is x a) (hy : Is y b) (h0 : -2147483648 ≤ a - b) (h1 : a - b < 2147483648) :
    Is (IntOp.subi x y) (a - b) := by
  unfold Is IntOp.subi at *
  rw [BitVec.toInt_sub, hx, hy, Int.bmod_eq_of_le (by omega) (by omega)]

theorem is_mul {x y : BitVec 32} {a b : ℤ} (hx : Is x a) (hy : Is y b) (h0 : -2147483648 ≤ a * b) (h1 : a * b < 2147483648) :
    Is (IntOp.muli x y) (a * b) := by
  unfold Is IntOp.muli at *
  rw [BitVec.toInt_mul, hx, hy, Int.bmod_eq_of_le (by omega) (by omega)]

theorem ofBool_eq (b : Bool) : BitVec.ofBool b = 1#1 ↔ b = true := by cases b <;> decide

theorem sge_iff {x y : BitVec 32} {a b : ℤ} (hx : Is x a) (hy : Is y b) : IntOp.cmpi .sge x y = 1#1 ↔ b ≤ a := by
  unfold Is at *
  unfold IntOp.cmpi
  rw [ofBool_eq]
  simp only [BitVec.sle, decide_eq_true_eq, hx, hy]

theorem sle_iff {x y : BitVec 32} {a b : ℤ} (hx : Is x a) (hy : Is y b) : IntOp.cmpi .sle x y = 1#1 ↔ a ≤ b := by
  unfold Is at *
  unfold IntOp.cmpi
  rw [ofBool_eq]
  simp only [BitVec.sle, decide_eq_true_eq, hx, hy]

theorem sgt_iff {x y : BitVec 32} {a b : ℤ} (hx : Is x a) (hy : Is y b) : IntOp.cmpi .sgt x y = 1#1 ↔ b < a := by
  unfold Is at *
  unfold IntOp.cmpi
  rw [ofBool_eq]
  simp only [BitVec.slt, decide_eq_true_eq, hx, hy]

theorem and_iff (a b : BitVec 1) : IntOp.andi a b = 1#1 ↔ a = 1#1 ∧ b = 1#1 := by
  revert a b
  decide

theorem or_iff (a b : BitVec 1) : IntOp.ori a b = 1#1 ↔ a = 1#1 ∨ b = 1#1 := by
  revert a b
  decide

/-- A rank-four array at four positions, zero outside it. -/
def at4 {n0 n1 n2 n3 : ℕ} (x : (⟨4, ![n0, n1, n2, n3]⟩ : Shape).Idx → EReal) (a b c d : ℕ) : EReal :=
  if h : (a < n0 ∧ b < n1) ∧ c < n2 ∧ d < n3 then x (ix4 ⟨a, h.1.1⟩ ⟨b, h.1.2⟩ ⟨c, h.2.1⟩ ⟨d, h.2.2⟩) else 0

theorem at4_eq {n0 n1 n2 n3 : ℕ} (x : (⟨4, ![n0, n1, n2, n3]⟩ : Shape).Idx → EReal) (a : Fin n0) (b : Fin n1) (c : Fin n2) (d : Fin n3)
    {a' b' c' d' : ℕ} (ha : a.val = a') (hb : b.val = b') (hc : c.val = c') (hd : d.val = d') : x (ix4 a b c d) = at4 x a' b' c' d' := by
  subst ha hb hc hd
  exact (dif_pos ⟨⟨a.isLt, b.isLt⟩, c.isLt, d.isLt⟩ : at4 x a b c d = _).symm

end Cert.Words

end
-- ==== Proof.Unit.lean ====
/-
  One unit of the dilated attention kernel: 128 query rows, 256 key rows and one slab of 128 lanes, which holds two
  heads. The kernel's sixteen stores are sixteen such units at different rows and lanes.
-/
module

public import proofs.«01_k».proof.Proof.Soft
public import proofs.«01_k».proof.Proof.Words
public import proofs.«01_k».proof.Proof.Gen.KernelIdeal.Value

@[expose] public section

noncomputable section

namespace Cert.Dil

open Idealize.ShloMosaic Cert.KernelIdeal Cert.KernelIdeal.Gen
open Cert.KernelIdeal.Facts

/-- The masked scores of one head: the queries' other lanes are put to zero, then contracted over all 128 lanes. -/
def score (keep : IVec S128x128 1) (mask : IVec S128x256 1) (qs : FVec Ideal S128x128 .bf16) (ks : FVec Ideal S256x128 .bf16) :
    FVec Ideal S128x256 .f32 :=
  select mask (matmul dot_S128x128_S256x128_S128x256_1_1_0_0_n_n none
    (select keep qs (broadcast S128x128 (FloatOps.ofBits .bf16 0x0000#16))) ks (constant S128x256 .f32 0x00000000#32))
    (broadcast S128x256 (FloatOps.ofBits .f32 0xFF800000#32))

/-- The rows' maxima. -/
def mx (s : FVec Ideal S128x256 .f32) : FVec Ideal S128x1 .f32 :=
  shapeCast S128x1 (multiReduction .maximumf [1] S128 s 0xFF800000#32 reduces_S128x256_S128 (.inl rfl) rfl) shapeCasts_S128_S128x1

/-- The unnormalised weights. -/
def wts (s : FVec Ideal S128x256 .f32) : FVec Ideal S128x256 .f32 :=
  exp2 (subf s (broadcastTo S128x256 (mx s) broadcasts_S128x1_S128x256))

/-- Their sums. -/
def tot (s : FVec Ideal S128x256 .f32) : FVec Ideal S128x1 .f32 :=
  shapeCast S128x1 (multiReduction .add [1] S128 (wts s) 0x00000000#32 reduces_S128x256_S128 (.inl rfl) rfl) shapeCasts_S128_S128x1

/-- One head's weighted values, over all 128 lanes of the slab. -/
def headO (s : FVec Ideal S128x256 .f32) (vs : FVec Ideal S256x128 .bf16) : FVec Ideal S128x128 .f32 :=
  mulf (matmul dot_S128x256_S256x128_S128x128_1_0_0_1_n_n none (truncf .bf16 (wts s) bitsLt_bf16_f32) vs (constant S128x128 .f32 0x00000000#32))
    (broadcastTo S128x128 (divf (broadcast S128x1 (FloatOps.ofBits .f32 0x3F800000#32)) (tot s)) broadcasts_S128x1_S128x128)

/-- One head's base-two logarithm of the sum of its weights. -/
def headL (s : FVec Ideal S128x256 .f32) : FVec Ideal S128x1 .f32 :=
  addf (mx s) (mulf (log (tot s)) (broadcast S128x1 (Named.named κ "inv_ln2" 0x3FB8AA3B#32)))

/-- The other lanes. -/
def other (keep : IVec S128x128 1) : IVec S128x128 1 := xori keep (constantI S128x128 1 1#1)

/-- What a unit stores in the first result: the first head's lanes from the one, the rest from the other. -/
def pieceO (fst keep : IVec S128x128 1) (mask : IVec S128x256 1) (qs : FVec Ideal S128x128 .bf16) (ks vs : FVec Ideal S256x128 .bf16) :
    FVec Ideal S1x1x128x128 .bf16 :=
  shapeCast S1x1x128x128 (truncf .bf16 (select fst (headO (score keep mask qs ks) vs) (headO (score (other keep) mask qs ks) vs))
    bitsLt_bf16_f32) shapeCasts_S128x128_S1x1x128x128

/-- What a unit stores in the second result. -/
def pieceL (fst keep : IVec S128x128 1) (mask : IVec S128x256 1) (qs : FVec Ideal S128x128 .bf16) (ks : FVec Ideal S256x128 .bf16) :
    FVec Ideal S1x1x128x128 .f32 :=
  shapeCast S1x1x128x128 (select fst
    (broadcastTo S128x128 (shapeCast S128x1 (headL (score keep mask qs ks)) shapeCasts_S128x1_S128x1) broadcasts_S128x1_S128x128)
    (broadcastTo S128x128 (shapeCast S128x1 (headL (score (other keep) mask qs ks)) shapeCasts_S128x1_S128x1) broadcasts_S128x1_S128x128))
    shapeCasts_S128x128_S1x1x128x128

theorem ofBits_bot : Ideal.ofBits .f32 0xFF800000#32 = ⊥ := by simp [Ideal.ofBits, Ideal.ieee]

theorem ite_mul_zero_left' (b : BitVec 1) (x y : EReal) : (if b = 1#1 then x * y else 0) = (if b = 1#1 then x else 0) * y := by
  by_cases h : b = 1#1
  · rw [if_pos h, if_pos h]
  · rw [if_neg h, if_neg h, zero_mul]

/-- The named constant denotes the reciprocal of the natural logarithm of two. -/
theorem named_inv_ln2 : Named.named (F := Ideal) κ "inv_ln2" (φ := .f32) 0x3FB8AA3B#32 = (((Real.log 2)⁻¹ : ℝ) : EReal) :=
  IdealRules.named_const.ideal_named_scalar _ _ _ _ rfl

theorem score_apply (keep : IVec S128x128 1) (mask : IVec S128x256 1) (qs : FVec Ideal S128x128 .bf16) (ks : FVec Ideal S256x128 .bf16)
    (r : Fin 128) (c : Fin 256) : score keep mask qs ks (ix2 r c)
      = if mask (ix2 r c) = 1#1 then ∑ e : Fin 128, (if keep (ix2 r e) = 1#1 then qs (ix2 r e) else 0) * ks (ix2 c e) else ⊥ := by
  pointwise [score]
  rw [ofBits_bot]
  unfold Scalar.select
  refine if_congr Iff.rfl (Finset.sum_congr rfl fun e _ => ?_) rfl
  exact ite_mul_zero_left' _ _ _

theorem mx_apply (s : FVec Ideal S128x256 .f32) (r : Fin 128) : mx s (ix2 r 0) = Soft.top fun c : Fin 256 => s (ix2 r c) := by
  pointwise [mx]
  rw [ofBits_bot]

theorem wts_apply (s : FVec Ideal S128x256 .f32) (r : Fin 128) (c : Fin 256) : wts s (ix2 r c) = Soft.wt2 (fun c : Fin 256 => s (ix2 r c)) c := by
  pointwise [wts, mx_apply]
  rfl

theorem tot_apply (s : FVec Ideal S128x256 .f32) (r : Fin 128) : tot s (ix2 r 0) = ∑ c : Fin 256, Soft.wt2 (fun c : Fin 256 => s (ix2 r c)) c := by
  pointwise [tot, wts_apply]

theorem headO_apply (s : FVec Ideal S128x256 .f32) (vs : FVec Ideal S256x128 .bf16) (r l : Fin 128) :
    headO s vs (ix2 r l) = Soft.out2 (fun c : Fin 256 => s (ix2 r c)) fun c => vs (ix2 c l) := by
  pointwise [headO, wts_apply, tot_apply, Soft.out2]

theorem headL_apply (s : FVec Ideal S128x256 .f32) (r : Fin 128) :
    headL s (ix2 r 0) = Soft.lse2 (fun c : Fin 256 => s (ix2 r c)) (((Real.log 2)⁻¹ : ℝ) : EReal) := by
  pointwise [headL, mx_apply, tot_apply, Soft.lse2]
  rw [named_inv_ln2]

theorem pieceO_apply (fst keep : IVec S128x128 1) (mask : IVec S128x256 1) (qs : FVec Ideal S128x128 .bf16) (ks vs : FVec Ideal S256x128 .bf16)
    (r l : Fin 128) : pieceO fst keep mask qs ks vs (ix4 0 0 r l)
      = if fst (ix2 r l) = 1#1 then headO (score keep mask qs ks) vs (ix2 r l) else headO (score (other keep) mask qs ks) vs (ix2 r l) := by
  pointwise [pieceO]
  rfl

theorem pieceL_apply (fst keep : IVec S128x128 1) (mask : IVec S128x256 1) (qs : FVec Ideal S128x128 .bf16) (ks : FVec Ideal S256x128 .bf16)
    (r l : Fin 128) : pieceL fst keep mask qs ks (ix4 0 0 r l)
      = if fst (ix2 r l) = 1#1 then headL (score keep mask qs ks) (ix2 r 0) else headL (score (other keep) mask qs ks) (ix2 r 0) := by
  pointwise [pieceL]
  rfl

theorem other_apply (keep : IVec S128x128 1) (j : S128x128.Idx) : other keep j = 1#1 ↔ ¬ keep j = 1#1 := by
  have : ∀ b : BitVec 1, b ^^^ 1#1 = 1#1 ↔ ¬ b = 1#1 := by decide
  exact this (keep j)

/-- The lanes of the slab's first head, as the queries and keys are laid out: of each 64 lanes the first 32. -/
theorem keep_apply (r l : Fin 128) : k0_pay7 k0_pay5 k0_pay6 (ix2 r l) = 1#1 ↔ l.val % 64 < 32 := by
  pointwise [k0_pay7, k0_pay5, k0_pay6]
  revert l
  decide

theorem fst_apply (r l : Fin 128) : k0_pay8 (iota .tc S128x128 32 [1] iota_S128x128_d1_w32) (ix2 r l) = 1#1 ↔ l.val < 64 := by
  pointwise [k0_pay8]
  revert l
  decide

theorem band_apply (r : Fin 128) (c : Fin 256) : k0_pay9 (ix2 r c) = 1#1 ↔ r.val ≤ c.val ∧ c.val ≤ r.val + 128 := by
  pointwise [k0_pay9]
  have hr := r.isLt
  have hc := c.isLt
  have h1 : Words.Is (IntOp.subi (IntOp.addi (BitVec.ofNat 32 r.val) 128#32) (BitVec.ofNat 32 c.val)) (r.val + 128 - c.val) :=
    Words.is_sub (Words.is_add (Words.is_nat (by omega)) (Words.is_nat (n := 128) (by omega)) (by omega) (by omega))
      (Words.is_nat (by omega)) (by omega) (by omega)
  rw [Words.and_iff, Words.sge_iff h1 (Words.is_nat (n := 0) (by omega)), Words.sle_iff h1 (Words.is_nat (n := 128) (by omega))]
  omega

end Cert.Dil

end
-- ==== Proof.Block.lean ====
/-
  The dilated attention kernel's two output blocks, read at an index: every one of the sixteen stores writes the same
  function of the block's row and lane.
-/
module

public import proofs.«01_k».proof.Proof.Unit

@[expose] public section

noncomputable section

namespace Cert.Dil

open Idealize.ShloMosaic Cert.KernelIdeal Cert.KernelIdeal.Gen
open Cert.KernelIdeal.Facts Cert.Words

/-- Key or value row `i` of the tile with the block before it in front. -/
def tail (x : S1x1x1024x256.Idx → EReal) (h : S1x1x128x256.Idx → EReal) (i w : ℕ) : EReal :=
  if i < 128 then at4 h 0 0 i w else at4 x 0 0 (i - 128) w

/-- Row `R` of tile `n` sees key `c` of its window. -/
def seen (n R c : ℕ) : Prop := (R % 128 ≤ c ∧ c ≤ R % 128 + 128) ∧ (128 ≤ c ∨ 128 ≤ R ∨ 0 < n)

instance (n R c : ℕ) : Decidable (seen n R c) := by unfold seen; infer_instance

/-- Head `h` of slab `pr`: row `R` against key `c` of its window, over the slab's lanes with the other head's put to zero. -/
def dot (x0 x1 : S1x1x1024x256.Idx → EReal) (x2 : S1x1x128x256.Idx → EReal) (R pr h c : ℕ) : EReal :=
  ∑ e : Fin 128, (if (e.val % 64 < 32 ↔ h = 0) then at4 x0 0 0 R (pr * 128 + e.val) else 0) * tail x1 x2 (R / 128 * 128 + c) (pr * 128 + e.val)

/-- The row's scores. -/
def srow (n : ℕ) (x0 x1 : S1x1x1024x256.Idx → EReal) (x2 : S1x1x128x256.Idx → EReal) (R pr h : ℕ) (c : Fin 256) : EReal :=
  if seen n R c.val then dot x0 x1 x2 R pr h c.val else ⊥

/-- The first output block at row `R`, lane `w`. -/
def blkO (n : ℕ) (x0 x1 : S1x1x1024x256.Idx → EReal) (x2 : S1x1x128x256.Idx → EReal) (x3 : S1x1x1024x256.Idx → EReal)
    (x4 : S1x1x128x256.Idx → EReal) (R w : ℕ) : EReal :=
  Soft.out2 (srow n x0 x1 x2 R (w / 128) (w % 128 / 64)) fun c => tail x3 x4 (R / 128 * 128 + c.val) w

/-- The second output block at row `R`, lane `w`. -/
def blkL (n : ℕ) (x0 x1 : S1x1x1024x256.Idx → EReal) (x2 : S1x1x128x256.Idx → EReal) (R w : ℕ) : EReal :=
  Soft.lse2 (srow n x0 x1 x2 R (w / 128) (w % 128 / 64)) (((Real.log 2)⁻¹ : ℝ) : EReal)

/-! ## What the stores read -/

theorem q_apply (x0 : Vec Ideal S1x1x1024x256 .bf16) (R : Fin 1024) (w : Fin 256) :
    k0_pay2 (View.ld x0 r0_0) (ix2 R w) = at4 x0 0 0 R.val w.val := by
  pointwise [k0_pay2]
  exact at4_eq x0 _ _ _ _ (by simp) (by simp) (by simp) (by simp)

theorem k_apply (x1 : Vec Ideal S1x1x1024x256 .bf16) (x2 : Vec Ideal S1x1x128x256 .bf16) (i : Fin 1152) (w : Fin 256) :
    k0_pay3 (View.ld x2 r0_1) (View.ld x1 r0_0) (ix2 i w) = tail x1 x2 i.val w.val := by
  pointwise [k0_pay3]
  unfold tail
  split
  · exact at4_eq x2 _ _ _ _ (by simp) (by simp) (by simp) (by simp)
  · exact at4_eq x1 _ _ _ _ (by simp) (by simp) (by simp) (by simp)

theorem v_eq (x3 : Vec Ideal S1x1x1024x256 .bf16) (x4 : Vec Ideal S1x1x128x256 .bf16) :
    k0_pay4 (View.ld x4 r0_1) (View.ld x3 r0_0) = k0_pay3 (View.ld x4 r0_1) (View.ld x3 r0_0) := rfl

/-- The lanes a unit's first head is stored in. -/
abbrev fstLanes : IVec S128x128 1 := k0_pay8 (iota .tc S128x128 32 [1] iota_S128x128_d1_w32)

/-- The lanes a unit's first head is read from. -/
abbrev keepLanes : IVec S128x128 1 := k0_pay7 k0_pay5 k0_pay6

theorem keep0 (r l : Fin 128) : keepLanes (ix2 r l) = 1#1 ↔ (l.val % 64 < 32 ↔ 0 = 0) := by
  rw [keep_apply]
  simp

theorem keep1 (r l : Fin 128) : other keepLanes (ix2 r l) = 1#1 ↔ (l.val % 64 < 32 ↔ 1 = 0) := by
  rw [other_apply, keep_apply]
  simp

/-- Where a store's element lands. -/
theorem lands (o1 o2 : ℕ) (inb : ∀ a, (![0, 0, o1, o2] : Fin 4 → ℕ) a + S1x1x128x128.size a ≤ S1x1x1024x256.size a) (r l : Fin 128) :
    (((Rect.unit (s := S1x1x1024x256) ![0, 0, o1, o2] S1x1x128x128.size inb).emb (ix4 0 0 r l)) 2).val = o1 + r.val
    ∧ (((Rect.unit (s := S1x1x1024x256) ![0, 0, o1, o2] S1x1x128x128.size inb).emb (ix4 0 0 r l)) 3).val = o2 + l.val := by
  constructor <;> simp [Rect.emb, Rect.unit]

section
variable (o1 o2 : ℕ) (h1 : o1 % 128 = 0) (h2 : o2 % 128 = 0) (l1 : o1 ≤ 896) (l2 : o2 ≤ 128)
  (hq : S1024x256.Slices ![o1, o2] S128x128) (hk : S1152x256.Slices ![o1, o2] S256x128)
include h1 h2 l1 l2

theorem slice_q (q : FVec Ideal S1024x256 .bf16) (r l : Fin 128) :
    extractStridedSlice S128x128 ![o1, o2] q hq (ix2 r l) = q (ix2 ⟨o1 + r.val, by omega⟩ ⟨o2 + l.val, by omega⟩) := by
  pointwise

theorem slice_k (k : FVec Ideal S1152x256 .bf16) (r : Fin 256) (l : Fin 128) :
    extractStridedSlice S256x128 ![o1, o2] k hk (ix2 r l) = k (ix2 ⟨o1 + r.val, by omega⟩ ⟨o2 + l.val, by omega⟩) := by
  pointwise

/-- A unit's masked scores, read at a row and a key. -/
theorem score_unit (n h : ℕ) (keep : IVec S128x128 1) (hkeep : ∀ r l : Fin 128, keep (ix2 r l) = 1#1 ↔ (l.val % 64 < 32 ↔ h = 0))
    (mask : IVec S128x256 1) (hmask : ∀ (r : Fin 128) (c : Fin 256), mask (ix2 r c) = 1#1 ↔ seen n (o1 + r.val) c.val)
    (x0 x1 : Vec Ideal S1x1x1024x256 .bf16) (x2 : Vec Ideal S1x1x128x256 .bf16) (r : Fin 128) :
    (fun c : Fin 256 => score keep mask (extractStridedSlice S128x128 ![o1, o2] (k0_pay2 (View.ld x0 r0_0)) hq)
      (extractStridedSlice S256x128 ![o1, o2] (k0_pay3 (View.ld x2 r0_1) (View.ld x1 r0_0)) hk) (ix2 r c))
      = srow n x0 x1 x2 (o1 + r.val) (o2 / 128) h := by
  funext c
  rw [score_apply]
  unfold srow dot
  refine if_congr (hmask r c) (Finset.sum_congr rfl fun e _ => ?_) rfl
  rw [slice_q o1 o2 h1 h2 l1 l2, slice_k o1 o2 h1 h2 l1 l2, q_apply, k_apply]
  have hr := r.isLt
  have e1 : (o1 + r.val) / 128 * 128 = o1 := by omega
  have e2 : o2 / 128 * 128 = o2 := by omega
  rw [e1, e2]
  exact congrArg (· * _) (if_congr (hkeep r e) rfl rfl)

variable (n : ℕ) (mask : IVec S128x256 1) (hmask : ∀ (r : Fin 128) (c : Fin 256), mask (ix2 r c) = 1#1 ↔ seen n (o1 + r.val) c.val)
  (x0 x1 x3 : Vec Ideal S1x1x1024x256 .bf16) (x2 x4 : Vec Ideal S1x1x128x256 .bf16)
  (inb : ∀ a, (![0, 0, o1, o2] : Fin 4 → ℕ) a + S1x1x128x128.size a ≤ S1x1x1024x256.size a)
include hmask

/-- A store of the first result writes `blkO` where it lands. -/
theorem storeO (x : S1x1x128x128.Idx) :
    pieceO fstLanes keepLanes mask (extractStridedSlice S128x128 ![o1, o2] (k0_pay2 (View.ld x0 r0_0)) hq)
      (extractStridedSlice S256x128 ![o1, o2] (k0_pay3 (View.ld x2 r0_1) (View.ld x1 r0_0)) hk)
      (extractStridedSlice S256x128 ![o1, o2] (k0_pay4 (View.ld x4 r0_1) (View.ld x3 r0_0)) hk) x
      = blkO n x0 x1 x2 x3 x4 (((Rect.unit (s := S1x1x1024x256) ![0, 0, o1, o2] S1x1x128x128.size inb).emb x) 2).val
          (((Rect.unit (s := S1x1x1024x256) ![0, 0, o1, o2] S1x1x128x128.size inb).emb x) 3).val := by
  obtain ⟨r, l, rfl⟩ : ∃ r l : Fin 128, x = ix4 0 0 r l := by
    refine ⟨x 2, x 3, (eq_ix4 x).trans ?_⟩
    have e0 : x 0 = (0 : Fin 1) := Subsingleton.elim (α := Fin 1) _ _
    have e1 : x 1 = (0 : Fin 1) := Subsingleton.elim (α := Fin 1) _ _
    rw [e0, e1]
  obtain ⟨d2, d3⟩ := lands o1 o2 inb r l
  have hl := l.isLt
  have hr := r.isLt
  have ew : (o2 + l.val) / 128 = o2 / 128 := by omega
  have eh : (o2 + l.val) % 128 / 64 = l.val / 64 := by omega
  have eR : (o1 + r.val) / 128 * 128 = o1 := by omega
  have ev : (fun c : Fin 256 => extractStridedSlice S256x128 ![o1, o2] (k0_pay4 (View.ld x4 r0_1) (View.ld x3 r0_0)) hk (ix2 c l))
      = fun c => tail x3 x4 (o1 + c.val) (o2 + l.val) := by
    funext c
    rw [slice_k o1 o2 h1 h2 l1 l2, v_eq, k_apply]
  rw [pieceO_apply, headO_apply, headO_apply, ev, score_unit o1 o2 h1 h2 l1 l2 hq hk n 0 _ keep0 mask hmask,
    score_unit o1 o2 h1 h2 l1 l2 hq hk n 1 _ keep1 mask hmask, d2, d3]
  unfold blkO
  rw [ew, eh, eR]
  by_cases h : l.val < 64
  · rw [if_pos ((fst_apply r l).2 h), Nat.div_eq_of_lt h]
  · rw [if_neg (mt (fst_apply r l).1 h), show l.val / 64 = 1 by omega]

/-- A store of the second result writes `blkL` where it lands. -/
theorem storeL (x : S1x1x128x128.Idx) :
    pieceL fstLanes keepLanes mask (extractStridedSlice S128x128 ![o1, o2] (k0_pay2 (View.ld x0 r0_0)) hq)
      (extractStridedSlice S256x128 ![o1, o2] (k0_pay3 (View.ld x2 r0_1) (View.ld x1 r0_0)) hk) x
      = blkL n x0 x1 x2 (((Rect.unit (s := S1x1x1024x256) ![0, 0, o1, o2] S1x1x128x128.size inb).emb x) 2).val
          (((Rect.unit (s := S1x1x1024x256) ![0, 0, o1, o2] S1x1x128x128.size inb).emb x) 3).val := by
  obtain ⟨r, l, rfl⟩ : ∃ r l : Fin 128, x = ix4 0 0 r l := by
    refine ⟨x 2, x 3, (eq_ix4 x).trans ?_⟩
    have e0 : x 0 = (0 : Fin 1) := Subsingleton.elim (α := Fin 1) _ _
    have e1 : x 1 = (0 : Fin 1) := Subsingleton.elim (α := Fin 1) _ _
    rw [e0, e1]
  obtain ⟨d2, d3⟩ := lands o1 o2 inb r l
  have hl := l.isLt
  have hr := r.isLt
  have ew : (o2 + l.val) / 128 = o2 / 128 := by omega
  have eh : (o2 + l.val) % 128 / 64 = l.val / 64 := by omega
  have eR : (o1 + r.val) / 128 * 128 = o1 := by omega
  rw [pieceL_apply, headL_apply, headL_apply, score_unit o1 o2 h1 h2 l1 l2 hq hk n 0 _ keep0 mask hmask,
    score_unit o1 o2 h1 h2 l1 l2 hq hk n 1 _ keep1 mask hmask, d2, d3]
  unfold blkL
  rw [ew, eh]
  by_cases h : l.val < 64
  · rw [if_pos ((fst_apply r l).2 h), Nat.div_eq_of_lt h]
  · rw [if_neg (mt (fst_apply r l).1 h), show l.val / 64 = 1 by omega]

end

/-- The mask of the tile's first block: the window's first half is seen from tile 1 on. -/
def mask0 (w : BitVec 32) : IVec S128x256 1 :=
  andi k0_pay9 (ori (cmpi .sge (iota .tc S128x256 32 [1] iota_S128x256_d1_w32) (broadcast S128x256 128#32)) (broadcast S128x256 (Scalar.cmpi .sgt w 0#32)))

theorem mask0_apply (n : ℕ) (hn : n < 8) (r : Fin 128) (c : Fin 256) : mask0 (BitVec.ofNat 32 n) (ix2 r c) = 1#1 ↔ seen n (0 + r.val) c.val := by
  have e : mask0 (BitVec.ofNat 32 n) (ix2 r c) = IntOp.andi (k0_pay9 (ix2 r c)) (IntOp.ori (IntOp.cmpi .sge (BitVec.ofNat 32 c.val) 128#32)
      (IntOp.cmpi .sgt (BitVec.ofNat 32 n) 0#32)) := by
    pointwise [mask0]
    rfl
  rw [e, and_iff, or_iff, band_apply, sge_iff (is_nat (by omega)) (is_nat (n := 128) (by omega)),
    sgt_iff (is_nat (by omega)) (is_nat (n := 0) (by omega))]
  unfold seen
  omega

theorem mask9_apply (n o1 : ℕ) (h1 : o1 % 128 = 0) (l1 : 128 ≤ o1) (r : Fin 128) (c : Fin 256) :
    k0_pay9 (ix2 r c) = 1#1 ↔ seen n (o1 + r.val) c.val := by
  rw [band_apply]
  unfold seen
  omega

/-- The first output block at an index. -/
theorem out5_apply (i : grid0.Coords) (x0 x1 : Vec Ideal S1x1x1024x256 .bf16) (x2 : Vec Ideal S1x1x128x256 .bf16)
    (x3 : Vec Ideal S1x1x1024x256 .bf16) (x4 : Vec Ideal S1x1x128x256 .bf16) (y : S1x1x1024x256.Idx) :
    out0_5 i x0 x1 x2 x3 x4 y = blkO (i 2).val x0 x1 x2 x3 x4 (y 2).val (y 3).val := by
  have hn : (i 2).val < 8 := (i 2).isLt
  unfold out0_5
  refine View.canon_apply_of_pieces (Val := Elt Ideal) (e := .bf16) (fun y : S1x1x1024x256.Idx => blkO (i 2).val x0 x1 x2 x3 x4 (y 2).val (y 3).val) _ ?_ y
    (cover0_5 _ _ _ _ _ _ _ _ _ _ _ _ _ _ _ _ y)
  have first (o2 h2 l2 hq hk inb) := storeO 0 o2 rfl h2 (by decide) l2 hq hk (i 2).val _ (mask0_apply _ hn) x0 x1 x3 x2 x4 inb
  have later (o1 o2 h1 h2 l0 l1 l2 hq hk inb) := storeO o1 o2 h1 h2 l1 l2 hq hk (i 2).val _ (mask9_apply _ o1 h1 l0) x0 x1 x3 x2 x4 inb
  simp only [List.forall_mem_cons, List.not_mem_nil, false_imp_iff, implies_true, and_true]
  exact ⟨later 896 128 rfl rfl (by decide) (by decide) (by decide) slices_S1024x256_o896_128_S128x128 slices_S1152x256_o896_128_S256x128 _,
    later 768 128 rfl rfl (by decide) (by decide) (by decide) slices_S1024x256_o768_128_S128x128 slices_S1152x256_o768_128_S256x128 _,
    later 640 128 rfl rfl (by decide) (by decide) (by decide) slices_S1024x256_o640_128_S128x128 slices_S1152x256_o640_128_S256x128 _,
    later 512 128 rfl rfl (by decide) (by decide) (by decide) slices_S1024x256_o512_128_S128x128 slices_S1152x256_o512_128_S256x128 _,
    later 384 128 rfl rfl (by decide) (by decide) (by decide) slices_S1024x256_o384_128_S128x128 slices_S1152x256_o384_128_S256x128 _,
    later 256 128 rfl rfl (by decide) (by decide) (by decide) slices_S1024x256_o256_128_S128x128 slices_S1152x256_o256_128_S256x128 _,
    later 128 128 rfl rfl (by decide) (by decide) (by decide) slices_S1024x256_o128_128_S128x128 slices_S1152x256_o128_128_S256x128 _,
    first 128 rfl (by decide) slices_S1024x256_o0_128_S128x128 slices_S1152x256_o0_128_S256x128 _,
    later 896 0 rfl rfl (by decide) (by decide) (by decide) slices_S1024x256_o896_0_S128x128 slices_S1152x256_o896_0_S256x128 _,
    later 768 0 rfl rfl (by decide) (by decide) (by decide) slices_S1024x256_o768_0_S128x128 slices_S1152x256_o768_0_S256x128 _,
    later 640 0 rfl rfl (by decide) (by decide) (by decide) slices_S1024x256_o640_0_S128x128 slices_S1152x256_o640_0_S256x128 _,
    later 512 0 rfl rfl (by decide) (by decide) (by decide) slices_S1024x256_o512_0_S128x128 slices_S1152x256_o512_0_S256x128 _,
    later 384 0 rfl rfl (by decide) (by decide) (by decide) slices_S1024x256_o384_0_S128x128 slices_S1152x256_o384_0_S256x128 _,
    later 256 0 rfl rfl (by decide) (by decide) (by decide) slices_S1024x256_o256_0_S128x128 slices_S1152x256_o256_0_S256x128 _,
    later 128 0 rfl rfl (by decide) (by decide) (by decide) slices_S1024x256_o128_0_S128x128 slices_S1152x256_o128_0_S256x128 _,
    first 0 rfl (by decide) slices_S1024x256_o0_0_S128x128 slices_S1152x256_o0_0_S256x128 _⟩

/-- The second output block at an index. -/
theorem out6_apply (i : grid0.Coords) (x0 x1 : Vec Ideal S1x1x1024x256 .bf16) (x2 : Vec Ideal S1x1x128x256 .bf16)
    (x3 : Vec Ideal S1x1x1024x256 .bf16) (x4 : Vec Ideal S1x1x128x256 .bf16) (y : S1x1x1024x256.Idx) :
    out0_6 i x0 x1 x2 x3 x4 y = blkL (i 2).val x0 x1 x2 (y 2).val (y 3).val := by
  have hn : (i 2).val < 8 := (i 2).isLt
  unfold out0_6
  refine View.canon_apply_of_pieces (Val := Elt Ideal) (e := .f32) (fun y : S1x1x1024x256.Idx => blkL (i 2).val x0 x1 x2 (y 2).val (y 3).val) _ ?_ y
    (cover0_6 _ _ _ _ _ _ _ _ _ _ _ _ _ _ _ _ y)
  have first (o2 h2 l2 hq hk inb) := storeL 0 o2 rfl h2 (by decide) l2 hq hk (i 2).val _ (mask0_apply _ hn) x0 x1 x2 inb
  have later (o1 o2 h1 h2 l0 l1 l2 hq hk inb) := storeL o1 o2 h1 h2 l1 l2 hq hk (i 2).val _ (mask9_apply _ o1 h1 l0) x0 x1 x2 inb
  simp only [List.forall_mem_cons, List.not_mem_nil, false_imp_iff, implies_true, and_true]
  exact ⟨later 896 128 rfl rfl (by decide) (by decide) (by decide) slices_S1024x256_o896_128_S128x128 slices_S1152x256_o896_128_S256x128 _,
    later 768 128 rfl rfl (by decide) (by decide) (by decide) slices_S1024x256_o768_128_S128x128 slices_S1152x256_o768_128_S256x128 _,
    later 640 128 rfl rfl (by decide) (by decide) (by decide) slices_S1024x256_o640_128_S128x128 slices_S1152x256_o640_128_S256x128 _,
    later 512 128 rfl rfl (by decide) (by decide) (by decide) slices_S1024x256_o512_128_S128x128 slices_S1152x256_o512_128_S256x128 _,
    later 384 128 rfl rfl (by decide) (by decide) (by decide) slices_S1024x256_o384_128_S128x128 slices_S1152x256_o384_128_S256x128 _,
    later 256 128 rfl rfl (by decide) (by decide) (by decide) slices_S1024x256_o256_128_S128x128 slices_S1152x256_o256_128_S256x128 _,
    later 128 128 rfl rfl (by decide) (by decide) (by decide) slices_S1024x256_o128_128_S128x128 slices_S1152x256_o128_128_S256x128 _,
    first 128 rfl (by decide) slices_S1024x256_o0_128_S128x128 slices_S1152x256_o0_128_S256x128 _,
    later 896 0 rfl rfl (by decide) (by decide) (by decide) slices_S1024x256_o896_0_S128x128 slices_S1152x256_o896_0_S256x128 _,
    later 768 0 rfl rfl (by decide) (by decide) (by decide) slices_S1024x256_o768_0_S128x128 slices_S1152x256_o768_0_S256x128 _,
    later 640 0 rfl rfl (by decide) (by decide) (by decide) slices_S1024x256_o640_0_S128x128 slices_S1152x256_o640_0_S256x128 _,
    later 512 0 rfl rfl (by decide) (by decide) (by decide) slices_S1024x256_o512_0_S128x128 slices_S1152x256_o512_0_S256x128 _,
    later 384 0 rfl rfl (by decide) (by decide) (by decide) slices_S1024x256_o384_0_S128x128 slices_S1152x256_o384_0_S256x128 _,
    later 256 0 rfl rfl (by decide) (by decide) (by decide) slices_S1024x256_o256_0_S128x128 slices_S1152x256_o256_0_S256x128 _,
    later 128 0 rfl rfl (by decide) (by decide) (by decide) slices_S1024x256_o128_0_S128x128 slices_S1152x256_o128_0_S256x128 _,
    first 0 rfl (by decide) slices_S1024x256_o0_0_S128x128 slices_S1152x256_o0_0_S256x128 _⟩

end Cert.Dil
-- ==== Proof.Whole.lean ====
/-
  The dilated attention kernel's two result arrays as functions of the query, key and value arrays.
-/
module

public import proofs.«01_k».proof.Proof.Block
public import Idealize.ShloMosaic.Lib.Pipeline.ValueKit

@[expose] public section

set_option maxRecDepth 16384

noncomputable section

namespace Cert.Dil

open Idealize.ShloMosaic Idealize.ShloMosaic.TcCoe Cert.KernelIdeal Cert.KernelIdeal.Gen
open Cert.Words

/-- The array type of the queries, keys and values. -/
abbrev Arr := S4x1x8192x256.Idx → EReal

/-- Query `t` sees key `c` of its window: its own block and the block before it, a band of 128 keys back, none before the first. -/
def sees (t c : ℕ) : Prop := (t % 128 ≤ c ∧ c ≤ t % 128 + 128) ∧ (128 ≤ c ∨ 128 ≤ t)

instance (t c : ℕ) : Decidable (sees t c) := by unfold sees; infer_instance

/-- Row `i` of batch `b` counted with one block of zeros in front. -/
def padded (x : Arr) (b i w : ℕ) : EReal := if i < 128 then 0 else at4 x b 0 (i - 128) w

/-- Head `h` of slab `pr`: query `t` against key `c` of its window. -/
def dotA (Q K : Arr) (b t pr h c : ℕ) : EReal :=
  ∑ e : Fin 128, (if (e.val % 64 < 32 ↔ h = 0) then at4 Q b 0 t (pr * 128 + e.val) else 0) * padded K b (t / 128 * 128 + c) (pr * 128 + e.val)

/-- A query's scores. -/
def rowA (Q K : Arr) (b t pr h : ℕ) (c : Fin 256) : EReal := if sees t c.val then dotA Q K b t pr h c.val else ⊥

/-- The first result at batch `b`, query `t`, lane `w`. -/
def resO (Q K V : Arr) (b t w : ℕ) : EReal :=
  Soft.out2 (rowA Q K b t (w / 128) (w % 128 / 64)) fun c => padded V b (t / 128 * 128 + c.val) w

/-- The second result at batch `b`, query `t`, lane `w`. -/
def resL (Q K : Arr) (b t w : ℕ) : EReal :=
  Soft.lse2 (rowA Q K b t (w / 128) (w % 128 / 64)) (((Real.log 2)⁻¹ : ℝ) : EReal)

/-- The weighted sum does not read the values of unseen keys. -/
theorem out2_congr {n : ℕ} {s v v' : Fin n → EReal} (h : ∀ c, s c ≠ ⊥ → v c = v' c) : Soft.out2 s v = Soft.out2 s v' := by
  unfold Soft.out2
  refine congrArg (· * _) (Finset.sum_congr rfl fun c _ => ?_)
  by_cases hs : s c = ⊥
  · have : Soft.wt2 s c = 0 := by
      unfold Soft.wt2
      rw [hs, sub_eq_add_neg, EReal.bot_add]
      rfl
    rw [this, zero_mul, zero_mul]
  · rw [h c hs]

/-- A block read at natural coordinates is its array read at the block's place. -/
theorem at4_blk {n n0 n1 n2 : ℕ} (x : (⟨4, ![1, 1, n, 256]⟩ : Shape).Idx → EReal) (A : (⟨4, ![n0, n1, n2, 256]⟩ : Shape).Idx → EReal)
    (b : Fin n0) (r : Fin n1) (o : ℕ) (ho : o + n ≤ n2)
    (h : ∀ (R : Fin n) (w : Fin 256), x (ix4 0 0 R w) = A (ix4 b r ⟨o + R.val, by omega⟩ w)) (R w : ℕ) (hR : R < n) :
    at4 x 0 0 R w = at4 A b.val r.val (o + R) w := by
  by_cases hw : w < 256
  · exact (at4_eq x 0 0 ⟨R, hR⟩ ⟨w, hw⟩ rfl rfl rfl rfl).symm.trans ((h ⟨R, hR⟩ ⟨w, hw⟩).trans (at4_eq A b r _ ⟨w, hw⟩ rfl rfl rfl rfl))
  · unfold at4
    rw [dif_neg (fun h => hw h.2.2), dif_neg (fun h => hw h.2.2)]

/-- A seen key of the tile with the block before it in front is that key of the array. -/
theorem tail_eq (x : S1x1x1024x256.Idx → EReal) (h : S1x1x128x256.Idx → EReal) (A : Arr) (b n i w : ℕ) (hi : i < 1152)
    (hs : 128 ≤ i ∨ 0 < n) (hx : ∀ R w, R < 1024 → at4 x 0 0 R w = at4 A b 0 (n * 1024 + R) w)
    (hh : ∀ R w, R < 128 → at4 h 0 0 R w = at4 A b 0 ((n * 8 - 1) * 128 + R) w) : tail x h i w = padded A b (n * 1024 + i) w := by
  unfold tail padded
  by_cases h1 : i < 128
  · rw [if_pos h1, hh i w h1, if_neg (by omega)]
    congr 1
    omega
  · rw [if_neg h1, hx _ w (by omega), if_neg (by omega)]
    congr 1
    omega

theorem seen_iff (R n c : ℕ) (hR : R < 1024) : seen n R c ↔ sees (n * 1024 + R) c := by
  unfold seen sees
  omega

section
variable {x0 x1 x3 : S1x1x1024x256.Idx → EReal} {x2 x4 : S1x1x128x256.Idx → EReal} {Q K V : Arr} {b n : ℕ}
  (h0 : ∀ R w, R < 1024 → at4 x0 0 0 R w = at4 Q b 0 (n * 1024 + R) w) (h1 : ∀ R w, R < 1024 → at4 x1 0 0 R w = at4 K b 0 (n * 1024 + R) w)
  (h2 : ∀ R w, R < 128 → at4 x2 0 0 R w = at4 K b 0 ((n * 8 - 1) * 128 + R) w)
  (h3 : ∀ R w, R < 1024 → at4 x3 0 0 R w = at4 V b 0 (n * 1024 + R) w)
  (h4 : ∀ R w, R < 128 → at4 x4 0 0 R w = at4 V b 0 ((n * 8 - 1) * 128 + R) w) (R w : ℕ) (hR : R < 1024)
include h0 h1 h2 hR

theorem row_res (pr h : ℕ) : srow n x0 x1 x2 R pr h = rowA Q K b (n * 1024 + R) pr h := by
  funext k
  unfold srow rowA
  have hk := k.isLt
  by_cases hs : seen n R k.val
  · rw [if_pos hs, if_pos ((seen_iff R _ _ hR).1 hs)]
    unfold dot dotA
    refine Finset.sum_congr rfl fun e _ => ?_
    rw [h0 R _ hR, tail_eq _ _ K b n _ _ (by omega) (by unfold seen at hs; omega) h1 h2]
    congr 2
    omega
  · rw [if_neg hs, if_neg (mt (seen_iff R _ _ hR).2 hs)]

include h3 h4 in
theorem blkO_res : blkO n x0 x1 x2 x3 x4 R w = resO Q K V b (n * 1024 + R) w := by
  unfold blkO resO
  rw [row_res h0 h1 h2 R hR]
  refine out2_congr fun k hk => ?_
  have hs : sees (n * 1024 + R) k.val := by
    by_contra hs
    exact hk (if_neg hs)
  have hkl := k.isLt
  rw [tail_eq _ _ V b n _ _ (by omega) (by have := (seen_iff R _ _ hR).2 hs; unfold seen at this; omega) h3 h4]
  congr 1
  omega

theorem blkL_res : blkL n x0 x1 x2 R w = resL Q K b (n * 1024 + R) w := by
  unfold blkL resL
  rw [row_res h0 h1 h2 R hR]

end

section
variable (m : (ℓ : Loc nD τ sig) → Buf (Elt Ideal) ℓ) (c : Dev nD) (t : Fin cfg0.N)

/-- The point's batch and tile. -/
abbrev bt : ℕ := (grid0.coords t 0).val
abbrev nt : ℕ := (grid0.coords t 2).val

theorem idx_tile : win0_0.index t = ![bt t, 0, nt t, 0] ∧ win0_1.index t = ![bt t, 0, nt t, 0] ∧ win0_3.index t = ![bt t, 0, nt t, 0]
    ∧ win0_5.index t = ![bt t, 0, nt t, 0] ∧ win0_6.index t = ![bt t, 0, nt t, 0] :=
  (by decide +kernel : ∀ t : Fin grid0.N, win0_0.index t = ![bt t, 0, nt t, 0] ∧ win0_1.index t = ![bt t, 0, nt t, 0]
    ∧ win0_3.index t = ![bt t, 0, nt t, 0] ∧ win0_5.index t = ![bt t, 0, nt t, 0] ∧ win0_6.index t = ![bt t, 0, nt t, 0]) t

theorem idx_halo : win0_2.index t = ![bt t, 0, nt t * 8 - 1, 0] ∧ win0_4.index t = ![bt t, 0, nt t * 8 - 1, 0] :=
  (by decide +kernel : ∀ t : Fin grid0.N, win0_2.index t = ![bt t, 0, nt t * 8 - 1, 0] ∧ win0_4.index t = ![bt t, 0, nt t * 8 - 1, 0]) t

/-- The argument arrays. -/
abbrev Qa : Arr := m ((c : Thread nD τ).loc main_arg0)
abbrev Ka : Arr := m ((c : Thread nD τ).loc main_arg1)
abbrev Va : Arr := m ((c : Thread nD τ).loc main_arg2)

theorem nt_lt : nt t < 8 := (grid0.coords t 2).isLt

variable (R w : ℕ)

theorem blk0 (hR : R < 1024) : at4 (iblk m c 0 t : S1x1x1024x256.Idx → EReal) 0 0 R w = at4 (Qa m c) (bt t) 0 (nt t * 1024 + R) w := by
  have e := (idx_tile t).1
  have hn := nt_lt t
  exact at4_blk (n := 1024) (iblk m c 0 t) (Qa m c) (grid0.coords t 0) 0 (nt t * 1024) (by omega) (fun R w => by blk_ext [iblk, V, e]; rfl) R w hR

theorem blk1 (hR : R < 1024) : at4 (iblk m c 1 t : S1x1x1024x256.Idx → EReal) 0 0 R w = at4 (Ka m c) (bt t) 0 (nt t * 1024 + R) w := by
  have e := (idx_tile t).2.1
  have hn := nt_lt t
  exact at4_blk (n := 1024) (iblk m c 1 t) (Ka m c) (grid0.coords t 0) 0 (nt t * 1024) (by omega) (fun R w => by blk_ext [iblk, V, e]; rfl) R w hR

theorem blk3 (hR : R < 1024) : at4 (iblk m c 3 t : S1x1x1024x256.Idx → EReal) 0 0 R w = at4 (Va m c) (bt t) 0 (nt t * 1024 + R) w := by
  have e := (idx_tile t).2.2.1
  have hn := nt_lt t
  exact at4_blk (n := 1024) (iblk m c 3 t) (Va m c) (grid0.coords t 0) 0 (nt t * 1024) (by omega) (fun R w => by blk_ext [iblk, V, e]; rfl) R w hR

theorem blk2 (hR : R < 128) : at4 (iblk m c 2 t : S1x1x128x256.Idx → EReal) 0 0 R w = at4 (Ka m c) (bt t) 0 ((nt t * 8 - 1) * 128 + R) w := by
  have e := (idx_halo t).1
  have hn := nt_lt t
  exact at4_blk (n := 128) (iblk m c 2 t) (Ka m c) (grid0.coords t 0) 0 ((nt t * 8 - 1) * 128) (by omega) (fun R w => by blk_ext [iblk, V, e]; rfl) R w hR

theorem blk4 (hR : R < 128) : at4 (iblk m c 4 t : S1x1x128x256.Idx → EReal) 0 0 R w = at4 (Va m c) (bt t) 0 ((nt t * 8 - 1) * 128 + R) w := by
  have e := (idx_halo t).2
  have hn := nt_lt t
  exact at4_blk (n := 128) (iblk m c 4 t) (Va m c) (grid0.coords t 0) 0 ((nt t * 8 - 1) * 128) (by omega) (fun R w => by blk_ext [iblk, V, e]; rfl) R w hR

theorem blkO_eq (hR : R < 1024) : blkO (nt t) (iblk m c 0 t) (iblk m c 1 t) (iblk m c 2 t) (iblk m c 3 t) (iblk m c 4 t) R w
    = resO (Qa m c) (Ka m c) (Va m c) (bt t) (nt t * 1024 + R) w :=
  blkO_res (blk0 m c t) (blk1 m c t) (blk2 m c t) (blk3 m c t) (blk4 m c t) R w hR

theorem blkL_eq (hR : R < 1024) : blkL (nt t) (iblk m c 0 t) (iblk m c 1 t) (iblk m c 2 t) R w
    = resL (Qa m c) (Ka m c) (bt t) (nt t * 1024 + R) w :=
  blkL_res (blk0 m c t) (blk1 m c t) (blk2 m c t) R w hR

end

section
variable (m : (ℓ : Loc nD τ sig) → Buf (Elt Ideal) ℓ) (c : Dev nD)

/-- The first result array. -/
theorem arr5 : (dats m 0 c).arrAt 5 cfg0.N = fun y : S4x1x8192x256.Idx => resO (Qa m c) (Ka m c) (Va m c) (y 0).val (y 2).val (y 3).val := by
  refine (dats m 0 c).arrAt_eq_of_covers 5 _ (by decide +kernel) fun t hf y => ?_
  blk_simp
  rw [after0_5]
  have e := (idx_tile t).2.2.2.1
  refine (out5_apply _ _ _ _ _ _ y).trans ((blkO_eq m c t (y 2).val (y 3).val (y 2).isLt).trans ?_)
  blk_simp [e]

/-- The second result array. -/
theorem arr6 : (dats m 0 c).arrAt 6 cfg0.N = fun y : S4x1x8192x256.Idx => resL (Qa m c) (Ka m c) (y 0).val (y 2).val (y 3).val := by
  refine (dats m 0 c).arrAt_eq_of_covers 6 _ (by decide +kernel) fun t hf y => ?_
  blk_simp
  rw [after0_6]
  have e := (idx_tile t).2.2.2.2
  refine (out6_apply _ _ _ _ _ _ y).trans ((blkL_eq m c t (y 2).val (y 3).val (y 2).isLt).trans ?_)
  blk_simp [e]

end

end Cert.Dil
-- ==== Proof.Host.lean ====
/-
  The reference's two results read at an index: each is a row's masked softmax over its window of 256 keys.
-/
module

public import proofs.«01_k».proof.Proof.Whole
public import proofs.«01_k».proof.Proof.Gen.ReferenceIdeal.Run

@[expose] public section

set_option maxRecDepth 16384

noncomputable section

namespace Cert.Ref

open Idealize.ShloMosaic Idealize.ShloMosaic.TcCoe Cert.ReferenceIdeal
open Cert.ReferenceIdeal.Gen Cert.Words

/-- Key `c` of block `n`'s window is seen by the block's query `r`: the reference's mask. -/
def seenBits : IVec S64x128x256 1 :=
  let qi := addi (broadcastInDim S64x128x1 ![0, 1, 2] bcast_S64x1x1_S64x128x1_0_1_2 (muli (broadcastInDim S64x1x1 ![0] bcast_S64_S64x1x1_0 (iotaInDim S64 32 0)) (broadcastInDim S64x1x1 ![] bcast_S_S64x1x1 (constantI S_ 32 128#32))))
    (broadcastInDim S64x128x1 ![0, 1, 2] bcast_S1x128x1_S64x128x1_0_1_2 (broadcastInDim S1x128x1 ![1] bcast_S128_S1x128x1_1 (iotaInDim S128 32 0)))
  let ki := addi (broadcastInDim S64x1x256 ![0, 1, 2] bcast_S64x1x1_S64x1x256_0_1_2 (subi (muli (broadcastInDim S64x1x1 ![0] bcast_S64_S64x1x1_0 (iotaInDim S64 32 0)) (broadcastInDim S64x1x1 ![] bcast_S_S64x1x1 (constantI S_ 32 128#32))) (broadcastInDim S64x1x1 ![] bcast_S_S64x1x1 (constantI S_ 32 128#32))))
    (broadcastInDim S64x1x256 ![0, 1, 2] bcast_S1x1x256_S64x1x256_0_1_2 (broadcastInDim S1x1x256 ![2] bcast_S256_S1x1x256_2 (iotaInDim S256 32 0)))
  let dist := subi (broadcastInDim S64x128x256 ![0, 1, 2] bcast_S64x128x1_S64x128x256_0_1_2 qi) (broadcastInDim S64x128x256 ![0, 1, 2] bcast_S64x1x256_S64x128x256_0_1_2 ki)
  andi (andi (cmpi .sge dist (broadcastInDim S64x128x256 ![] bcast_S_S64x128x256 (constantI S_ 32 0#32))) (cmpi .sle dist (broadcastInDim S64x128x256 ![] bcast_S_S64x128x256 (constantI S_ 32 128#32))))
    (broadcastInDim S64x128x256 ![0, 1, 2] bcast_S64x1x256_S64x128x256_0_1_2 (cmpi .sge ki (broadcastInDim S64x1x256 ![] bcast_S_S64x1x256 (constantI S_ 32 0#32))))

/-- The heads of a query or key array, each head's two halves beside one another. -/
def heads (x : FVec Ideal S4x1x8192x256 .bf16) : FVec Ideal S4x64x4x128x64 .f32 :=
  shapeCast _ (transpose S4x64x2x2x128x2x32 [0, 1, 3, 5, 2, 4, 6] (shapeCast _ (extf .f32 x bitsLt_bf16_f32) shapeCasts_S4x1x8192x256_S4x64x128x2x2x2x32) transposes_S4x64x128x2x2x2x32_S4x64x2x2x128x2x32_0_1_3_5_2_4_6) shapeCasts_S4x64x2x2x128x2x32_S4x64x4x128x64

/-- The heads of the value array. -/
def headsV (x : FVec Ideal S4x1x8192x256 .bf16) : FVec Ideal S4x64x4x128x64 .f32 :=
  transpose S4x64x4x128x64 [0, 1, 3, 2, 4] (shapeCast _ (extf .f32 x bitsLt_bf16_f32) shapeCasts_S4x1x8192x256_S4x64x128x4x64) transposes_S4x64x128x4x64_S4x64x4x128x64_0_1_3_2_4

/-- Each block with the block before it in front, zeros before the first. -/
def withPrev (x : FVec Ideal S4x64x4x128x64 .f32) : FVec Ideal S4x64x4x256x64 .f32 :=
  concatenate S4x64x4x256x64 3 [⟨S4x64x4x128x64, (extractStridedSlice S4x64x4x128x64 ![0, 0, 0, 0, 0] (pad S4x65x4x128x64 ![0, 1, 0, 0, 0] ![0, 0, 0, 0, 0] ![0, 0, 0, 0, 0] x (sitofp .f32 (constantI S_ 32 0#32)) pads_S4x64x4x128x64_S4x65x4x128x64_000_100_000_000_000 h_S_) slices_S4x65x4x128x64_S4x64x4x128x64_0_0_0_0_0)⟩, ⟨S4x64x4x128x64, x⟩] concatenates_S4x64x4x128x64_S4x64x4x128x64_S4x64x4x256x64_d3

/-- The natural logarithm of two, as the reference takes it. -/
abbrev ln2 : FVec Ideal S_ .f32 := Host.log (constant S_ .f32 0x40000000#32)

/-- The masked scores. -/
def scores (q k : FVec Ideal S4x1x8192x256 .bf16) : FVec Ideal S4x64x4x128x256 .f32 :=
  select (broadcastInDim S4x64x4x128x256 ![0, 1, 2, 3, 4] bcast_S1x64x1x128x256_S4x64x4x128x256_0_1_2_3_4 (broadcastInDim S1x64x1x128x256 ![1, 3, 4] bcast_S64x128x256_S1x64x1x128x256_1_3_4 seenBits))
    (mulf (Host.dotGeneral dot_S4x64x4x128x64_S4x64x4x256x64_S4x64x4x128x256_4_4_3_3_012_012 none (heads q) (withPrev (heads k))) (broadcastInDim S4x64x4x128x256 ![] bcast_S_S4x64x4x128x256 ln2))
    (broadcastInDim S4x64x4x128x256 ![] bcast_S_S4x64x4x128x256 (id (constant S_ .f32 0xFF800000#32)))

/-- The rows' maxima. -/
def mx (s : FVec Ideal S4x64x4x128x256 .f32) : FVec Ideal S4x64x4x128x1 .f32 :=
  broadcastInDim S4x64x4x128x1 ![0, 1, 2, 3] bcast_S4x64x4x128_S4x64x4x128x1_0_1_2_3 (Host.reduce FloatOps.maximumf s (constant S_ .f32 0xFF800000#32) reducesTo_S4x64x4x128x256_S4x64x4x128_d4 h_S_)

/-- The rows' sums of exponentials. -/
def tot (s : FVec Ideal S4x64x4x128x256 .f32) : FVec Ideal S4x64x4x128 .f32 :=
  Host.reduceAdd (Host.exp (subf s (broadcastInDim S4x64x4x128x256 ![0, 1, 2, 3, 4] bcast_S4x64x4x128x1_S4x64x4x128x256_0_1_2_3_4 (mx s)))) (constant S_ .f32 0x00000000#32) reducesTo_S4x64x4x128x256_S4x64x4x128_d4 h_S_

/-- The rows' logarithms of the sum of exponentials. -/
def lse (s : FVec Ideal S4x64x4x128x256 .f32) : FVec Ideal S4x64x4x128 .f32 :=
  addf (shapeCast _ (mx s) shapeCasts_S4x64x4x128x1_S4x64x4x128) (Host.log (tot s))

/-- The weights. -/
def prob (s : FVec Ideal S4x64x4x128x256 .f32) : FVec Ideal S4x64x4x128x256 .f32 :=
  Host.exp (subf s (broadcastInDim S4x64x4x128x256 ![0, 1, 2, 3, 4] bcast_S4x64x4x128x1_S4x64x4x128x256_0_1_2_3_4 (broadcastInDim S4x64x4x128x1 ![0, 1, 2, 3] bcast_S4x64x4x128_S4x64x4x128x1_0_1_2_3 (lse s))))

/-- The first result. -/
def outR (s : FVec Ideal S4x64x4x128x256 .f32) (v : FVec Ideal S4x1x8192x256 .bf16) : FVec Ideal S4x1x8192x256 .bf16 :=
  truncf .bf16 (shapeCast _ (transpose S4x64x128x4x64 [0, 1, 4, 2, 3] (Host.dotGeneral dot_S4x64x4x256x64_S4x64x4x128x256_S4x64x4x64x128_3_4_4_3_012_012 none (withPrev (headsV v)) (prob s)) transposes_S4x64x4x64x128_S4x64x128x4x64_0_1_4_2_3) shapeCasts_S4x64x128x4x64_S4x1x8192x256) bitsLt_bf16_f32

/-- The second result. -/
def lseR (s : FVec Ideal S4x64x4x128x256 .f32) : FVec Ideal S4x1x8192x256 .f32 :=
  shapeCast _ (broadcastInDim S4x1x8192x4x64 ![0, 1, 2, 3] bcast_S4x1x8192x4_S4x1x8192x4x64_0_1_2_3 (shapeCast _ (transpose S4x64x128x4 [0, 1, 3, 2] (Host.divf (lse s) (broadcastInDim S4x64x4x128 ![] bcast_S_S4x64x4x128 ln2)) transposes_S4x64x4x128_S4x64x128x4_0_1_3_2) shapeCasts_S4x64x128x4_S4x1x8192x4)) shapeCasts_S4x1x8192x4x64_S4x1x8192x256

section
variable (m : (ℓ : Loc nD τ sig) → Buf (Elt Ideal) ℓ) (c : Dev nD)

theorem res0_eq : Value.res_out0 m c = outR (scores (m ((c.tc : Thread nD τ).loc main_arg0)) (m ((c.tc : Thread nD τ).loc main_arg1))) (m ((c.tc : Thread nD τ).loc main_arg2)) := by
  unfold Value.res_out0 Value.res_main_v75 outR prob lse tot mx scores withPrev headsV heads seenBits
  rfl

theorem res1_eq : Value.res_out1 m c = lseR (scores (m ((c.tc : Thread nD τ).loc main_arg0)) (m ((c.tc : Thread nD τ).loc main_arg1))) := by
  unfold Value.res_out1 Value.res_main_v77 lseR lse tot mx scores withPrev heads seenBits
  rfl

end

/-! ## At an index -/

theorem seenBits_apply (n : Fin 64) (r : Fin 128) (k : Fin 256) : seenBits (ix3 n r k) = 1#1 ↔ Cert.Dil.sees (n.val * 128 + r.val) k.val := by
  pointwise [seenBits]
  have hn := n.isLt
  have hr := r.isLt
  have hc := k.isLt
  have h0 : Is (0#32) 0 := is_nat (n := 0) (by omega)
  have h128 : Is (128#32) 128 := is_nat (n := 128) (by omega)
  have hb : Is (IntOp.muli (BitVec.ofNat 32 n.val) 128#32) ((n.val : ℤ) * 128) := is_mul (is_nat (by omega)) h128 (by omega) (by omega)
  have hq := is_add hb (is_nat (n := r.val) (by omega)) (by omega) (by omega)
  have hk := is_add (is_sub hb h128 (by omega) (by omega)) (is_nat (n := k.val) (by omega)) (by omega) (by omega)
  have hd := is_sub hq hk (by omega) (by omega)
  rw [and_iff, and_iff, sge_iff hd h0, sle_iff hd h128, sge_iff hk h0]
  unfold Dil.sees
  omega

theorem heads_apply (x : FVec Ideal S4x1x8192x256 .bf16) (b : Fin 4) (n : Fin 64) (g : Fin 4) (r : Fin 128) (d : Fin 64) :
    heads x (ix5 b n g r d) = at4 x b.val 0 (n.val * 128 + r.val) (g.val / 2 * 128 + d.val / 32 * 64 + g.val % 2 * 32 + d.val % 32) := by
  pointwise [heads]
  exact at4_eq x _ _ _ _ rfl rfl rfl rfl

theorem headsV_apply (x : FVec Ideal S4x1x8192x256 .bf16) (b : Fin 4) (n : Fin 64) (g : Fin 4) (r : Fin 128) (d : Fin 64) :
    headsV x (ix5 b n g r d) = at4 x b.val 0 (n.val * 128 + r.val) (g.val * 64 + d.val) := by
  pointwise [headsV]
  exact at4_eq x _ _ _ _ rfl rfl rfl rfl

theorem zero_word : FloatOps.sitofp (F := Ideal) .f32 (0#32) = 0 := by
  show (((0#32).toInt : ℝ) : EReal) = 0
  simp

/-- A block with the block before it in front, read at a key, when the block array is read by position `f`. -/
theorem withPrev_apply (x : FVec Ideal S4x64x4x128x64 .f32) (f : ℕ → EReal) (b : Fin 4) (n : Fin 64) (g : Fin 4) (k : Fin 256) (d : Fin 64)
    (h : ∀ (n : Fin 64) (r : Fin 128), x (ix5 b n g r d) = f (n.val * 128 + r.val)) :
    withPrev x (ix5 b n g k d) = if n.val * 128 + k.val < 128 then 0 else f (n.val * 128 + k.val - 128) := by
  pointwise [withPrev]
  rw [zero_word]
  have hn := n.isLt
  have hk := k.isLt
  by_cases h0 : k.val < 128
  · rw [dif_pos h0]
    by_cases h1 : 1 ≤ n.val
    · rw [dif_pos ⟨⟨h1, by omega⟩, h0⟩, h, if_neg (by omega)]
      congr 1
      show (n.val - 1) * 128 + k.val = _
      omega
    · rw [dif_neg (fun h => h1 h.1.1), if_pos (by omega)]
  · rw [dif_neg h0]
    refine ((h n ⟨k.val - 128, by omega⟩).trans (congrArg f ?_)).trans (if_neg (by omega)).symm
    show n.val * 128 + (k.val - 128) = _
    omega

theorem two_word : Ideal.ofBits .f32 1073741824#32 = ((2 : ℝ) : EReal) := by
  simp [Ideal.ofBits, Ideal.ieee]
  norm_cast
  norm_num

theorem ln2_apply : ln2 ix0 = ((Real.log 2 : ℝ) : EReal) := by
  show Ideal.log (Ideal.ofBits .f32 1073741824#32) = _
  rw [two_word, Soft.log_coe (by norm_num)]

/-- Dimension `d` of head `g` in the interleaved lanes. -/
def lane (g d : ℕ) : ℕ := g / 2 * 128 + d / 32 * 64 + g % 2 * 32 + d % 32

/-- Head `g`: query `t` against key `c` of its window. -/
def dotR (q k : Cert.Dil.Arr) (b t g c : ℕ) : EReal :=
  ∑ d : Fin 64, at4 q b 0 t (lane g d.val) * Cert.Dil.padded k b (t / 128 * 128 + c) (lane g d.val)

/-- A query's scores in natural units. -/
def rowR (q k : Cert.Dil.Arr) (b t g : ℕ) (c : Fin 256) : EReal :=
  if Cert.Dil.sees t c.val then dotR q k b t g c.val * ((Real.log 2 : ℝ) : EReal) else ⊥

theorem scores_apply (q k : FVec Ideal S4x1x8192x256 .bf16) (b : Fin 4) (n : Fin 64) (g : Fin 4) (r : Fin 128) (c : Fin 256) :
    scores q k (ix5 b n g r c) = rowR q k b.val (n.val * 128 + r.val) g.val c := by
  have e : scores q k (ix5 b n g r c) = if seenBits (ix3 n r c) = 1#1 then
      (∑ d : Fin 64, heads q (ix5 b n g r d) * withPrev (heads k) (ix5 b n g c d)) * ln2 ix0 else Ideal.ofBits .f32 0xFF800000#32 := by
    pointwise [scores]
    rfl
  rw [e, Dil.ofBits_bot, ln2_apply]
  unfold rowR dotR
  have hr := r.isLt
  refine if_congr (seenBits_apply n r c) (congrArg (· * _) (Finset.sum_congr rfl fun d _ => ?_)) rfl
  rw [heads_apply, withPrev_apply (heads k) (fun i => at4 k b.val 0 i (lane g.val d.val)) b n g c d (fun n r => heads_apply k b n g r d)]
  unfold Dil.padded
  rw [show (n.val * 128 + r.val) / 128 * 128 = n.val * 128 by omega]
  rfl

theorem mx_apply (s : FVec Ideal S4x64x4x128x256 .f32) (b : Fin 4) (n : Fin 64) (g : Fin 4) (r : Fin 128) :
    mx s (ix5 b n g r 0) = Soft.top fun c : Fin 256 => s (ix5 b n g r c) := by
  pointwise [mx]
  rw [Dil.ofBits_bot]

theorem tot_apply (s : FVec Ideal S4x64x4x128x256 .f32) (b : Fin 4) (n : Fin 64) (g : Fin 4) (r : Fin 128) :
    tot s (ix4 b n g r) = ∑ c : Fin 256, Ideal.exp (s (ix5 b n g r c) - mx s (ix5 b n g r 0)) := by
  pointwise [tot]

theorem last_unit (x : FVec Ideal S4x64x4x128x1 .f32) (b : Fin 4) (n : Fin 64) (g : Fin 4) (r : Fin 128) :
    shapeCast S4x64x4x128 x shapeCasts_S4x64x4x128x1_S4x64x4x128 (ix4 b n g r) = x (ix5 b n g r 0) := by
  pointwise

theorem add_log {d : Shape} (x y : FVec Ideal d .f32) (j : d.Idx) : addf x (Host.log y) j = x j + Ideal.log (y j) := rfl

theorem lse_apply (s : FVec Ideal S4x64x4x128x256 .f32) (b : Fin 4) (n : Fin 64) (g : Fin 4) (r : Fin 128) :
    lse s (ix4 b n g r) = Soft.lseE fun c : Fin 256 => s (ix5 b n g r c) := by
  unfold lse
  rw [add_log, last_unit, tot_apply, mx_apply]
  unfold Soft.lseE
  with_reducible rfl

theorem outR_apply (q k v : FVec Ideal S4x1x8192x256 .bf16) (b : Fin 4) (t : Fin 8192) (w : Fin 256) :
    outR (scores q k) v (ix4 b 0 t w)
      = Soft.outE (rowR q k b.val t.val (w.val / 64)) fun c => Cert.Dil.padded v b.val (t.val / 128 * 128 + c.val) w.val := by
  have ht := t.isLt
  have hw := w.isLt
  have e (s : FVec Ideal S4x64x4x128x256 .f32) : outR s v (ix4 b 0 t w) = ∑ c : Fin 256, withPrev (headsV v) (ix5 b ⟨t.val / 128, by omega⟩ ⟨w.val / 64, by omega⟩ c ⟨w.val % 64, by omega⟩)
      * Ideal.exp (s (ix5 b ⟨t.val / 128, by omega⟩ ⟨w.val / 64, by omega⟩ ⟨t.val % 128, by omega⟩ c)
        - lse s (ix4 b ⟨t.val / 128, by omega⟩ ⟨w.val / 64, by omega⟩ ⟨t.val % 128, by omega⟩)) := by
    pointwise [outR, prob]
  have et : t.val / 128 * 128 + t.val % 128 = t.val := by omega
  rw [e, lse_apply]
  simp only [scores_apply, et]
  unfold Soft.outE
  refine Finset.sum_congr rfl fun c _ => congrArg (· * _) ?_
  rw [withPrev_apply (headsV v) (fun i => at4 v b.val 0 i w.val) b _ _ c _ (fun n r => (headsV_apply v b n _ r _).trans ?_)]
  · rfl
  · congr 1
    show w.val / 64 * 64 + w.val % 64 = w.val
    omega

theorem lseR_apply (q k : FVec Ideal S4x1x8192x256 .bf16) (b : Fin 4) (t : Fin 8192) (w : Fin 256) :
    lseR (scores q k) (ix4 b 0 t w) = Ideal.div (Soft.lseE (rowR q k b.val t.val (w.val / 64))) ((Real.log 2 : ℝ) : EReal) := by
  have ht := t.isLt
  have hw := w.isLt
  have e (s : FVec Ideal S4x64x4x128x256 .f32) : lseR s (ix4 b 0 t w)
      = Ideal.div (lse s (ix4 b ⟨t.val / 128, by omega⟩ ⟨w.val / 64, by omega⟩ ⟨t.val % 128, by omega⟩)) (ln2 ix0) := by
    pointwise [lseR]
  have et : t.val / 128 * 128 + t.val % 128 = t.val := by omega
  rw [e, ln2_apply, lse_apply]
  simp only [scores_apply, et]

end Cert.Ref
-- ==== Proof.Bridge.lean ====
/-
  The kernel's results are the reference's: a head's score summed over a slab's 128 lanes with the other head's lanes
  zero is the sum over the head's 64 lanes, and a base 2 softmax of scores is the base e softmax of the scores times `log 2`.
-/
module

public import proofs.«01_k».proof.Proof.Soft
public import proofs.«01_k».proof.Proof.Host
public import proofs.«01_k».proof.Defs
public import Idealize.ShloMosaic.Lib.ReduceAll

@[expose] public section

noncomputable section

namespace Cert.Bridge

open Idealize.ShloMosaic Idealize.ShloMosaic.TcCoe Cert.KernelIdeal Cert.Words Cert.Dil Cert.Ref

/-- An array without infinities. -/
def Real' {n0 n1 n2 n3 : ℕ} (x : (⟨4, ![n0, n1, n2, n3]⟩ : Shape).Idx → EReal) : Prop := ∀ i, ∃ r : ℝ, x i = (r : EReal)

theorem at4_real {n0 n1 n2 n3 : ℕ} {x : (⟨4, ![n0, n1, n2, n3]⟩ : Shape).Idx → EReal} (hx : Real' x) (a b c d : ℕ) :
    ∃ r : ℝ, at4 x a b c d = (r : EReal) := by
  unfold at4
  split_ifs with h
  · exact hx _
  · exact ⟨0, rfl⟩

theorem padded_real {x : Arr} (hx : Real' x) (b i w : ℕ) : ∃ r : ℝ, padded x b i w = (r : EReal) := by
  unfold padded
  split_ifs with h
  · exact ⟨0, rfl⟩
  · exact at4_real hx _ _ _ _

/-- The 128 lanes of a slab with the other head's lanes zero, against the head's 64 lanes. -/
theorem sum_lanes (F G : ℕ → EReal) (pr h : ℕ) (hh : h < 2) :
    ∑ e : Fin 128, (if (e.val % 64 < 32 ↔ h = 0) then F (pr * 128 + e.val) else 0) * G (pr * 128 + e.val)
      = ∑ d : Fin 64, F (lane (2 * pr + h) d.val) * G (lane (2 * pr + h) d.val) := by
  have e1 : ∀ e : Fin 128, (if (e.val % 64 < 32 ↔ h = 0) then F (pr * 128 + e.val) else 0) * G (pr * 128 + e.val)
      = if (e.val % 64 < 32 ↔ h = 0) then F (pr * 128 + e.val) * G (pr * 128 + e.val) else 0 := fun e => by
    split_ifs <;> simp
  simp only [e1]
  rw [← Finset.sum_filter]
  refine Finset.sum_bij' (fun e _ => (⟨e.val / 64 * 32 + e.val % 32, by omega⟩ : Fin 64))
    (fun d _ => (⟨d.val / 32 * 64 + h * 32 + d.val % 32, by omega⟩ : Fin 128)) ?_ ?_ ?_ ?_ ?_
  · intros; exact Finset.mem_univ _
  · intro d _
    rw [Finset.mem_filter]
    refine ⟨Finset.mem_univ _, ?_⟩
    show (d.val / 32 * 64 + h * 32 + d.val % 32) % 64 < 32 ↔ h = 0
    omega
  · intro e he
    rw [Finset.mem_filter] at he
    have := he.2
    apply Fin.ext
    show (e.val / 64 * 32 + e.val % 32) / 32 * 64 + h * 32 + (e.val / 64 * 32 + e.val % 32) % 32 = e.val
    omega
  · intro d _
    apply Fin.ext
    show (d.val / 32 * 64 + h * 32 + d.val % 32) / 64 * 32 + (d.val / 32 * 64 + h * 32 + d.val % 32) % 32 = d.val
    omega
  · intro e he
    rw [Finset.mem_filter] at he
    have := he.2
    have el : lane (2 * pr + h) (e.val / 64 * 32 + e.val % 32) = pr * 128 + e.val := by
      unfold lane; omega
    show _ = F (lane (2 * pr + h) (e.val / 64 * 32 + e.val % 32)) * G (lane (2 * pr + h) (e.val / 64 * 32 + e.val % 32))
    rw [el]

/-- The kernel's scores are the reference's before the factor. -/
theorem dot_eq (Q K : Arr) (b t w c : ℕ) : dotA Q K b t (w / 128) (w % 128 / 64) c = dotR Q K b t (w / 64) c := by
  have hg : w / 64 = 2 * (w / 128) + w % 128 / 64 := by omega
  rw [hg]
  exact sum_lanes (fun x => at4 Q b 0 t x) (fun x => padded K b (t / 128 * 128 + c) x) _ _ (by omega)

theorem dot_real {Q K : Arr} (hQ : Real' Q) (hK : Real' K) (b t g c : ℕ) : ∃ r : ℝ, dotR Q K b t g c = (r : EReal) := by
  choose q hq using fun w => at4_real hQ b 0 t w
  choose k hk using fun w => padded_real hK b (t / 128 * 128 + c) w
  refine ⟨∑ d : Fin 64, q (lane g d) * k (lane g d), ?_⟩
  unfold dotR
  rw [← Soft.sum_coe]
  exact Finset.sum_congr rfl fun d _ => by rw [hq, hk, EReal.coe_mul]

/-- Every query sees itself. -/
theorem sees_self (t : ℕ) : sees t (⟨t % 128 + 128, by omega⟩ : Fin 256).val := by
  unfold sees
  show (t % 128 ≤ t % 128 + 128 ∧ t % 128 + 128 ≤ t % 128 + 128) ∧ (128 ≤ t % 128 + 128 ∨ 128 ≤ t)
  omega

/-- The scores as real numbers: the kernel's row and the reference's. -/
theorem rows {Q K : Arr} (hQ : Real' Q) (hK : Real' K) (b t w : ℕ) :
    ∃ x : Fin 256 → ℝ, rowA Q K b t (w / 128) (w % 128 / 64) = Soft.row (fun c : Fin 256 => sees t c.val) x
      ∧ rowR Q K b t (w / 64) = Soft.row (fun c : Fin 256 => sees t c.val) (Soft.nat x) := by
  choose x hx using fun c : Fin 256 => dot_real hQ hK b t (w / 64) c.val
  refine ⟨x, funext fun c => ?_, funext fun c => ?_⟩
  · show (if sees t c.val then _ else _) = if sees t c.val then _ else _
    rw [dot_eq, hx]
  · show (if sees t c.val then _ else _) = if sees t c.val then _ else _
    rw [hx, ← EReal.coe_mul]

/-- The first result is the reference's weighted row. -/
theorem out_row {Q K : Arr} (hQ : Real' Q) (hK : Real' K) (V : Arr) (b t w : ℕ) :
    resO Q K V b t w = Soft.outE (rowR Q K b t (w / 64)) fun c => padded V b (t / 128 * 128 + c.val) w := by
  obtain ⟨x, hA, hR⟩ := rows hQ hK b t w
  rw [hR]
  unfold resO
  rw [hA]
  exact Soft.out2_row x _ _ (sees_self t)

/-- The second result is the reference's row in base two. -/
theorem lse_row {Q K : Arr} (hQ : Real' Q) (hK : Real' K) (b t w : ℕ) :
    resL Q K b t w = Ideal.div (Soft.lseE (rowR Q K b t (w / 64))) ((Real.log 2 : ℝ) : EReal) := by
  obtain ⟨x, hA, hR⟩ := rows hQ hK b t w
  rw [hR]
  unfold resL
  rw [hA]
  exact Soft.lse2_row x _ (sees_self t)

theorem out_eq {Q K : Arr} (hQ : Real' Q) (hK : Real' K) (V : Arr) (b : Fin 4) (t : Fin 8192) (w : Fin 256) :
    resO Q K V b.val t.val w.val = outR (scores Q K) V (ix4 b 0 t w) :=
  (out_row hQ hK V _ _ _).trans (outR_apply Q K V b t w).symm

theorem lse_eq {Q K : Arr} (hQ : Real' Q) (hK : Real' K) (b : Fin 4) (t : Fin 8192) (w : Fin 256) :
    resL Q K b.val t.val w.val = lseR (scores Q K) (ix4 b 0 t w) :=
  (lse_row hQ hK _ _ _).trans (lseR_apply Q K b t w).symm

/-! The precondition. -/

/-- An absolute value below infinity is a real number's. -/
theorem real_of_abs (x : EReal) (h : max x (-x) < ⊤) : ∃ r : ℝ, x = (r : EReal) := by
  induction x with
  | bot => exact absurd h (by simp)
  | top => exact absurd h (by simp)
  | coe r => exact ⟨r, rfl⟩

theorem below_inf {s : Shape} (x z : s.Idx → EReal) (i : s.Idx) (hz : z i = ⊤)
    (h : cmpf (F := Ideal) (φ := .f32) CmpFPredicate.olt (Host.absf x) z i = 1#1) : ∃ r : ℝ, x i = (r : EReal) := by
  have h' : Ideal.cmp .olt (max (x i) (-(x i))) (z i) = 1#1 := h
  rw [hz] at h'
  apply real_of_abs
  by_contra hc
  simp [Ideal.cmp, hc] at h'

theorem finite_real [Cert.Pre_finite.Facts] (q k v : Arr) (h : Cert.Pre_finite.fn (F := Ideal) q k v = fun _ => 1#1) : Real' q ∧ Real' k := by
  have h0 := congrFun h (fun a => a.elim0)
  dsimp only [Cert.Pre_finite.fn] at h0
  obtain ⟨h1, h2⟩ := IntOp.andi_eq_one.1 h0
  have hz : (Ideal.ofBits .f32 0x7F800000#32 : EReal) = ⊤ := by simp [Ideal.ofBits, Ideal.ieee]
  exact ⟨fun i => below_inf q _ i hz (Host.reduce_andi_all _ _ _ _ _ h1 i), fun i => below_inf k _ i hz (Host.reduce_andi_all _ _ _ _ _ h2 i)⟩

/-! The two results, from memories that agree on the arguments. -/

section
variable [Cert.Pre_finite.Facts] (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hagree : m' ((c.tc : Thread Cert.ReferenceIdeal.nD Cert.ReferenceIdeal.τ).loc Cert.ReferenceIdeal.main_arg0) = Qa m c
    ∧ m' ((c.tc : Thread Cert.ReferenceIdeal.nD Cert.ReferenceIdeal.τ).loc Cert.ReferenceIdeal.main_arg1) = Ka m c
    ∧ m' ((c.tc : Thread Cert.ReferenceIdeal.nD Cert.ReferenceIdeal.τ).loc Cert.ReferenceIdeal.main_arg2) = Va m c)
  (hpre : Cert.Pre_finite.fn (F := Ideal) (Qa m c) (Ka m c) (Va m c) = fun _ => 1#1)
include hagree hpre

omit hagree hpre [Cert.Pre_finite.Facts] in
/-- An index of the results is its four positions, the second of them 0. -/
theorem idx_eq (y : S4x1x8192x256.Idx) : ix4 (y 0) 0 (y 2) (y 3) = y := by
  funext a
  fin_cases a
  · rfl
  · exact Subsingleton.elim (α := Fin 1) _ _
  · rfl
  · rfl

theorem first : Cert.ReferenceIdeal.Value.res_out0 m' c = (Cert.KernelIdeal.Gen.dats m 0 c).arrAt 5 Cert.KernelIdeal.cfg0.N := by
  have hr := finite_real _ _ _ hpre
  rw [arr5, res0_eq, hagree.1, hagree.2.1, hagree.2.2]
  funext y
  exact (congrArg _ (idx_eq y).symm).trans (out_eq hr.1 hr.2 _ (y 0) (y 2) (y 3)).symm

theorem second : Cert.ReferenceIdeal.Value.res_out1 m' c = (Cert.KernelIdeal.Gen.dats m 0 c).arrAt 6 Cert.KernelIdeal.cfg0.N := by
  have hr := finite_real _ _ _ hpre
  rw [arr6, res1_eq, hagree.1, hagree.2.1]
  funext y
  exact (congrArg _ (idx_eq y).symm).trans (lse_eq hr.1 hr.2 (y 0) (y 2) (y 3)).symm

end

end Cert.Bridge

end
-- ==== Proof.Norm.lean ====
/-
  What a layer does with a token after its mixer, over the extended reals: the row's layer norm, its squared-ReLU
  feed-forward part, and the two normalised residual sums.
-/
module

public import Idealize.ShloMosaic.Lib.Pointwise

@[expose] public section

noncomputable section

namespace Cert.Norm

open Idealize.ShloMosaic

/-- The residual's factor, the row's width and the variance's offset, as the programs' words denote them. -/
def alpha : EReal := Ideal.ofBits .f32 0x3FB504F3#32
def width : EReal := Ideal.ofBits .f32 0x44800000#32
def eps : EReal := Ideal.ofBits .f32 0x3727C5AC#32

/-- A row's mean. -/
def mean (y : Fin 1024 → EReal) : EReal := Ideal.div (∑ j, y j) width

/-- A row's layer norm. -/
def norm (y g b : Fin 1024 → EReal) (j : Fin 1024) : EReal :=
  (y j - mean y) * Ideal.rsqrt (mean (fun i => (y i - mean y) * (y i - mean y)) + eps) * g j + b j

/-- A hidden unit: the square of the positive part. -/
def unit (h : Fin 1024 → EReal) (w : Fin 1024 → EReal) : EReal := max (∑ e, h e * w e) 0 * max (∑ e, h e * w e) 0

/-- The feed-forward part of a row. -/
def ff (h : Fin 1024 → EReal) (win : Fin 1024 → Fin 4096 → EReal) (wout : Fin 4096 → Fin 1024 → EReal) (j : Fin 1024) : EReal :=
  ∑ f : Fin 4096, unit h (fun e => win e f) * wout f j

/-- The row after the mixer's normalised residual sum. -/
def mid (mix x g b : Fin 1024 → EReal) : Fin 1024 → EReal := norm (fun j => alpha * x j + mix j) g b

/-- The row after the whole layer. -/
def row (mix x g1 b1 : Fin 1024 → EReal) (win : Fin 1024 → Fin 4096 → EReal) (wout : Fin 4096 → Fin 1024 → EReal)
    (g2 b2 : Fin 1024 → EReal) : Fin 1024 → EReal :=
  norm (fun j => alpha * mid mix x g1 b1 j + ff (mid mix x g1 b1) win wout j) g2 b2

theorem row_congr {mix mix' x x' g1 g1' b1 b1' : Fin 1024 → EReal} {win : Fin 1024 → Fin 4096 → EReal} {wout : Fin 4096 → Fin 1024 → EReal}
    {g2 g2' b2 b2' : Fin 1024 → EReal} (hm : ∀ j, mix j = mix' j) (hx : ∀ j, x j = x' j) (hg1 : ∀ j, g1 j = g1' j) (hb1 : ∀ j, b1 j = b1' j)
    (hg2 : ∀ j, g2 j = g2' j) (hb2 : ∀ j, b2 j = b2' j) (j : Fin 1024) :
    row mix x g1 b1 win wout g2 b2 j = row mix' x' g1' b1' win wout g2' b2' j := by
  rw [funext hm, funext hx, funext hg1, funext hb1, funext hg2, funext hb2]

/-- A sum of 4096 terms from its four quarters. -/
theorem sum_quarters (f : Fin 4096 → EReal) :
    ∑ k, f k = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  have h1 := Fin.sum_univ_add (a := 3072) (b := 1024) (f := f)
  have h2 := Fin.sum_univ_add (a := 2048) (b := 1024) (f := fun k : Fin 3072 => f (Fin.castAdd 1024 k))
  have h3 := Fin.sum_univ_add (a := 1024) (b := 1024) (f := fun k : Fin 2048 => f (Fin.castAdd 1024 (Fin.castAdd 1024 k)))
  exact h1.trans (congrArg (· + _) (h2.trans (congrArg (· + _) h3)))

end Cert.Norm

end
-- ==== Proof.TailBlock.lean ====
/-
  The layer tail's output block at a row: both of its halves are the row's function of the mixer's row, the residual's row and
  the weights.
-/
module

public import proofs.«01_k».proof.Proof.Norm
public import proofs.«01_k».proof.Proof.Words
public import proofs.«01_k».proof.Proof.Gen.TailIdeal.Frame

@[expose] public section

noncomputable section

namespace Cert.TailBlock

open Idealize.ShloMosaic Cert.TailIdeal Cert.TailIdeal.Gen
open Cert.TailIdeal.Facts

/-- A product of a half's rows with a square weight. -/
def mat (a : FVec Ideal S256x1024 .bf16) (w : FVec Ideal S1024x1024 .bf16) : FVec Ideal S256x1024 .f32 :=
  matmul dot_S256x1024_S1024x1024_S256x1024_1_0_0_1_n_n none a w (constant S256x1024 .f32 0x00000000#32)

/-- The rows' means. -/
def mean (y : FVec Ideal S256x1024 .f32) : FVec Ideal S256x1 .f32 :=
  divf (shapeCast S256x1 (multiReduction .add [1] S256 y 0x00000000#32 reduces_S256x1024_S256 (.inl rfl) rfl) shapeCasts_S256_S256x1)
    (broadcast S256x1 (Scalar.ofBits .f32 0x44800000#32))

/-- The rows less their means. -/
def centred (y : FVec Ideal S256x1024 .f32) : FVec Ideal S256x1024 .f32 :=
  subf y (broadcastTo S256x1024 (mean y) broadcasts_S256x1_S256x1024)

/-- The rows' layer norms. -/
def norm (y : FVec Ideal S256x1024 .f32) (g b : FVec Ideal S1x1024 .f32) : FVec Ideal S256x1024 .f32 :=
  addf (mulf (mulf (centred y) (broadcastTo S256x1024 (rsqrt (addf (mean (mulf (centred y) (centred y)))
    (broadcast S256x1 (Scalar.ofBits .f32 0x3727C5AC#32)))) broadcasts_S256x1_S256x1024))
    (broadcastTo S256x1024 g broadcasts_S1x1024_S256x1024)) (broadcastTo S256x1024 b broadcasts_S1x1024_S256x1024)

/-- A quarter of the hidden units. -/
def hid (h : FVec Ideal S256x1024 .bf16) (w : FVec Ideal S1024x1024 .bf16) : FVec Ideal S256x1024 .bf16 :=
  truncf .bf16 (mulf (maximumf (mat h w) (broadcast S256x1024 (Scalar.ofBits .f32 0x00000000#32)))
    (maximumf (mat h w) (broadcast S256x1024 (Scalar.ofBits .f32 0x00000000#32)))) bitsLt_bf16_f32

/-- The feed-forward part, quarter after quarter. -/
def ff (h : FVec Ideal S256x1024 .bf16) (w0 w1 w2 w3 u0 u1 u2 u3 : FVec Ideal S1024x1024 .bf16) : FVec Ideal S256x1024 .f32 :=
  addf (addf (addf (addf (broadcast S256x1024 (Scalar.ofBits .f32 0x00000000#32)) (mat (hid h w0) u0)) (mat (hid h w1) u1))
    (mat (hid h w2) u2)) (mat (hid h w3) u3)

/-- A residual sum. -/
def res (x y : FVec Ideal S256x1024 .f32) : FVec Ideal S256x1024 .f32 :=
  addf (mulf (broadcast S256x1024 (Scalar.ofBits .f32 0x3FB504F3#32)) x) y

/-- What is stored for a half of the block's rows, from its product with the output projection. -/
def half (mix x : FVec Ideal S256x1024 .f32) (g1 b1 : FVec Ideal S1x1024 .f32) (w0 w1 w2 w3 u0 u1 u2 u3 : FVec Ideal S1024x1024 .bf16)
    (g2 b2 : FVec Ideal S1x1024 .f32) : FVec Ideal S256x1024 .f32 :=
  norm (res (norm (res x mix) g1 b1) (ff (truncf .bf16 (norm (res x mix) g1 b1) bitsLt_bf16_f32) w0 w1 w2 w3 u0 u1 u2 u3)) g2 b2

theorem mat_apply (a : FVec Ideal S256x1024 .bf16) (w : FVec Ideal S1024x1024 .bf16) (r : Fin 256) (j : Fin 1024) :
    mat a w (ix2 r j) = ∑ e : Fin 1024, a (ix2 r e) * w (ix2 e j) := by
  pointwise [mat]

theorem mean_apply (y : FVec Ideal S256x1024 .f32) (r : Fin 256) : mean y (ix2 r 0) = Norm.mean fun j => y (ix2 r j) := by
  pointwise [mean, Norm.mean, Norm.width]

theorem centred_apply (y : FVec Ideal S256x1024 .f32) (r : Fin 256) (j : Fin 1024) :
    centred y (ix2 r j) = y (ix2 r j) - Norm.mean fun j => y (ix2 r j) := by
  pointwise [centred, mean_apply]

theorem norm_apply (y : FVec Ideal S256x1024 .f32) (g b : FVec Ideal S1x1024 .f32) (r : Fin 256) (j : Fin 1024) :
    norm y g b (ix2 r j) = Norm.norm (fun j => y (ix2 r j)) (fun j => g (ix2 0 j)) (fun j => b (ix2 0 j)) j := by
  pointwise [norm, mean_apply, centred_apply, Norm.norm, Norm.eps]

theorem hid_apply (h : FVec Ideal S256x1024 .bf16) (w : FVec Ideal S1024x1024 .bf16) (r : Fin 256) (j : Fin 1024) :
    hid h w (ix2 r j) = Norm.unit (fun e => h (ix2 r e)) fun e => w (ix2 e j) := by
  pointwise [hid, mat_apply, Norm.unit]

theorem res_apply (x y : FVec Ideal S256x1024 .f32) (r : Fin 256) (j : Fin 1024) :
    res x y (ix2 r j) = Norm.alpha * x (ix2 r j) + y (ix2 r j) := by
  pointwise [res, Norm.alpha]

theorem ff_apply (h : FVec Ideal S256x1024 .bf16) (w0 w1 w2 w3 u0 u1 u2 u3 : FVec Ideal S1024x1024 .bf16)
    (win : Fin 1024 → Fin 4096 → EReal) (wout : Fin 4096 → Fin 1024 → EReal)
    (hw0 : ∀ e f : Fin 1024, w0 (ix2 e f) = win e ⟨f.val, by omega⟩) (hw1 : ∀ e f : Fin 1024, w1 (ix2 e f) = win e ⟨1024 + f.val, by omega⟩)
    (hw2 : ∀ e f : Fin 1024, w2 (ix2 e f) = win e ⟨2048 + f.val, by omega⟩) (hw3 : ∀ e f : Fin 1024, w3 (ix2 e f) = win e ⟨3072 + f.val, by omega⟩)
    (hu0 : ∀ f j : Fin 1024, u0 (ix2 f j) = wout ⟨f.val, by omega⟩ j) (hu1 : ∀ f j : Fin 1024, u1 (ix2 f j) = wout ⟨1024 + f.val, by omega⟩ j)
    (hu2 : ∀ f j : Fin 1024, u2 (ix2 f j) = wout ⟨2048 + f.val, by omega⟩ j) (hu3 : ∀ f j : Fin 1024, u3 (ix2 f j) = wout ⟨3072 + f.val, by omega⟩ j)
    (r : Fin 256) (j : Fin 1024) :
    ff h w0 w1 w2 w3 u0 u1 u2 u3 (ix2 r j) = Norm.ff (fun e => h (ix2 r e)) win wout j := by
  pointwise [ff, mat_apply, hid_apply]
  unfold Norm.ff
  rw [Norm.sum_quarters]
  simp only [hw0, hw1, hw2, hw3, hu0, hu1, hu2, hu3]

theorem half_apply (mix x : FVec Ideal S256x1024 .f32) (g1 b1 : FVec Ideal S1x1024 .f32) (w0 w1 w2 w3 u0 u1 u2 u3 : FVec Ideal S1024x1024 .bf16)
    (g2 b2 : FVec Ideal S1x1024 .f32) (win : Fin 1024 → Fin 4096 → EReal) (wout : Fin 4096 → Fin 1024 → EReal)
    (hw0 : ∀ e f : Fin 1024, w0 (ix2 e f) = win e ⟨f.val, by omega⟩) (hw1 : ∀ e f : Fin 1024, w1 (ix2 e f) = win e ⟨1024 + f.val, by omega⟩)
    (hw2 : ∀ e f : Fin 1024, w2 (ix2 e f) = win e ⟨2048 + f.val, by omega⟩) (hw3 : ∀ e f : Fin 1024, w3 (ix2 e f) = win e ⟨3072 + f.val, by omega⟩)
    (hu0 : ∀ f j : Fin 1024, u0 (ix2 f j) = wout ⟨f.val, by omega⟩ j) (hu1 : ∀ f j : Fin 1024, u1 (ix2 f j) = wout ⟨1024 + f.val, by omega⟩ j)
    (hu2 : ∀ f j : Fin 1024, u2 (ix2 f j) = wout ⟨2048 + f.val, by omega⟩ j) (hu3 : ∀ f j : Fin 1024, u3 (ix2 f j) = wout ⟨3072 + f.val, by omega⟩ j)
    (r : Fin 256) (j : Fin 1024) :
    half mix x g1 b1 w0 w1 w2 w3 u0 u1 u2 u3 g2 b2 (ix2 r j)
      = Norm.row (fun j => mix (ix2 r j)) (fun j => x (ix2 r j)) (fun j => g1 (ix2 0 j)) (fun j => b1 (ix2 0 j)) win wout
        (fun j => g2 (ix2 0 j)) (fun j => b2 (ix2 0 j)) j := by
  unfold half Norm.row
  rw [norm_apply]
  have e1 (j : Fin 1024) : norm (res x mix) g1 b1 (ix2 r j)
      = Norm.mid (fun j => mix (ix2 r j)) (fun j => x (ix2 r j)) (fun j => g1 (ix2 0 j)) (fun j => b1 (ix2 0 j)) j := by
    rw [norm_apply]
    simp only [res_apply]
    rfl
  have e2 (j : Fin 1024) := (ff_apply (truncf .bf16 (norm (res x mix) g1 b1) bitsLt_bf16_f32) w0 w1 w2 w3 u0 u1 u2 u3 win wout hw0 hw1 hw2 hw3 hu0 hu1 hu2 hu3 r j).trans
    (congrArg (fun h => Norm.ff h win wout j) (funext e1))
  simp only [res_apply, e1, e2]

/-! ## The block -/

/-- The output block at an index: the row's function of the blocks' rows. -/
def blk (x0 : Vec Ideal S1x1x512x1024 .bf16) (x1 : Vec Ideal S512x1024 .f32) (x2 : Vec Ideal S1024x1024 .bf16) (x3 x4 : Vec Ideal S1x1024 .f32)
    (x5 : Vec Ideal S1024x4096 .bf16) (x6 : Vec Ideal S4096x1024 .bf16) (x7 x8 : Vec Ideal S1x1024 .f32) (y : S512x1024.Idx) : EReal :=
  Norm.row (fun j => ∑ e : Fin 1024, x0 (ix4 0 0 (y 0) e) * x2 (ix2 e j)) (fun j => x1 (ix2 (y 0) j)) (fun j => x3 (ix2 0 j)) (fun j => x4 (ix2 0 j))
    (fun e f => x5 (ix2 e f)) (fun f j => x6 (ix2 f j)) (fun j => x7 (ix2 0 j)) (fun j => x8 (ix2 0 j)) (y 1)

section
variable (x0 : Vec Ideal S1x1x512x1024 .bf16) (x1 : Vec Ideal S512x1024 .f32) (x2 : Vec Ideal S1024x1024 .bf16) (x3 x4 : Vec Ideal S1x1024 .f32)
    (x5 : Vec Ideal S1024x4096 .bf16) (x6 : Vec Ideal S4096x1024 .bf16) (x7 x8 : Vec Ideal S1x1024 .f32)

/-- The product of a half's rows with the output projection. -/
def mixOf (o : ℕ) (h : S512x1024.Slices ![o, 0] S256x1024) : FVec Ideal S256x1024 .f32 :=
  mat (extractStridedSlice S256x1024 ![o, 0] (k0_pay2 (View.ld x0 r0_0)) h) (View.ld x2 r0_1)

theorem mixOf_apply (o : ℕ) (h : S512x1024.Slices ![o, 0] S256x1024) (ho : o ≤ 256) (r : Fin 256) (j : Fin 1024) :
    mixOf x0 x2 o h (ix2 r j) = ∑ e : Fin 1024, x0 (ix4 0 0 ⟨o + r.val, by omega⟩ e) * x2 (ix2 e j) := by
  unfold mixOf
  rw [mat_apply]
  refine Finset.sum_congr rfl fun e _ => ?_
  congr 1
  · pointwise [k0_pay2]
  · pointwise

/-- What a half stores is the block's function at the half's rows. -/
theorem store (o : ℕ) (h : S512x1024.Slices ![o, 0] S256x1024) (ho : o ≤ 256)
    (inb : ∀ a, (![o, 0] : Fin 2 → ℕ) a + S256x1024.size a ≤ S512x1024.size a) (i : S256x1024.Idx) :
    half (mixOf x0 x2 o h) (View.ld x1 (Rect.unit (s := S512x1024) ![o, 0] S256x1024.size inb)) (View.ld x3 r0_3) (View.ld x4 r0_3)
      (View.ld x5 r0_4) (View.ld x5 r0_6) (View.ld x5 r0_8) (View.ld x5 r0_10) (View.ld x6 r0_5) (View.ld x6 r0_7) (View.ld x6 r0_9) (View.ld x6 r0_11)
      (View.ld x7 r0_3) (View.ld x8 r0_3) i
      = blk x0 x1 x2 x3 x4 x5 x6 x7 x8 ((Rect.unit (s := S512x1024) ![o, 0] S256x1024.size inb).emb i) := by
  obtain ⟨r, j, rfl⟩ : ∃ (r : Fin 256) (j : Fin 1024), i = ix2 r j := ⟨i 0, i 1, by funext a; fin_cases a <;> rfl⟩
  have er : (Rect.unit (s := S512x1024) ![o, 0] S256x1024.size inb).emb (ix2 r j) = ix2 (⟨o + r.val, by omega⟩ : Fin 512) j := by
    funext a
    fin_cases a <;> apply Fin.ext <;> simp [Rect.emb, Rect.unit]
  rw [er]
  refine (half_apply _ _ _ _ _ _ _ _ _ _ _ _ _ _ (fun e f => x5 (ix2 e f)) (fun f j => x6 (ix2 f j)) ?_ ?_ ?_ ?_ ?_ ?_ ?_ ?_ _ _).trans ?_
  iterate 8 (intro e f; pointwise)
  refine Norm.row_congr (fun j => mixOf_apply _ _ o h ho r j) (fun j => ?_) (fun j => ?_) (fun j => ?_) (fun j => ?_) (fun j => ?_) j
  iterate 5 pointwise

theorem out9_apply (y : S512x1024.Idx) : out0_9 x0 x1 x2 x3 x4 x5 x6 x7 x8 y = blk x0 x1 x2 x3 x4 x5 x6 x7 x8 y := by
  unfold_out out0_9
  refine View.canon_apply_of_pieces (Val := Elt Ideal) (e := .f32) (fun y : S512x1024.Idx => blk x0 x1 x2 x3 x4 x5 x6 x7 x8 y) _ ?_ y (cover0_9 _ _ y)
  simp only [List.forall_mem_cons, List.not_mem_nil, false_imp_iff, implies_true, and_true]
  exact ⟨store x0 x1 x2 x3 x4 x5 x6 x7 x8 256 slices_S512x1024_o256_0_S256x1024 (by decide) _,
    store x0 x1 x2 x3 x4 x5 x6 x7 x8 0 slices_S512x1024_o0_0_S256x1024 (by decide) _⟩

end

end Cert.TailBlock

end
-- ==== Proof.TailWhole.lean ====
/-
  The layer tail's result array as a function of its argument arrays, row by row.
-/
module

public import proofs.«01_k».proof.Proof.TailBlock
public import Idealize.ShloMosaic.Lib.Pipeline.ValueKit

@[expose] public section

set_option maxRecDepth 16384

noncomputable section

namespace Cert.TailWhole

open Idealize.ShloMosaic Idealize.ShloMosaic.TcCoe Cert.TailIdeal Cert.TailIdeal.Gen

/-- The layer tail of the token of flat position `n`. -/
def whole (A : S4x1x8192x1024.Idx → EReal) (x : S32768x1024.Idx → EReal) (wo : S1024x1024.Idx → EReal) (g1 b1 : S1x1024.Idx → EReal)
    (win : S1024x4096.Idx → EReal) (wout : S4096x1024.Idx → EReal) (g2 b2 : S1x1024.Idx → EReal) (n : Fin 32768) (j : Fin 1024) : EReal :=
  Norm.row (fun j => ∑ e : Fin 1024, A (ix4 ⟨n.val / 8192, by omega⟩ 0 ⟨n.val % 8192, by omega⟩ e) * wo (ix2 e j)) (fun j => x (ix2 n j))
    (fun j => g1 (ix2 0 j)) (fun j => b1 (ix2 0 j)) (fun e f => win (ix2 e f)) (fun f j => wout (ix2 f j))
    (fun j => g2 (ix2 0 j)) (fun j => b2 (ix2 0 j)) j

variable (m : (ℓ : Loc nD τ sig) → Buf (Elt Ideal) ℓ) (c : Dev nD)

theorem idx_tile (t : Fin cfg0.N) : win0_0.index t = ![t.val / 16, 0, t.val % 16, 0] ∧ win0_1.index t = ![t.val, 0] ∧ win0_9.index t = ![t.val, 0]
    ∧ (win0_2.index t = ![0, 0] ∧ win0_3.index t = ![0, 0] ∧ win0_4.index t = ![0, 0] ∧ win0_5.index t = ![0, 0])
    ∧ (win0_6.index t = ![0, 0] ∧ win0_7.index t = ![0, 0] ∧ win0_8.index t = ![0, 0]) :=
  (by decide +kernel : ∀ t : Fin grid0.N, win0_0.index t = ![t.val / 16, 0, t.val % 16, 0] ∧ win0_1.index t = ![t.val, 0] ∧ win0_9.index t = ![t.val, 0]
    ∧ (win0_2.index t = ![0, 0] ∧ win0_3.index t = ![0, 0] ∧ win0_4.index t = ![0, 0] ∧ win0_5.index t = ![0, 0])
    ∧ (win0_6.index t = ![0, 0] ∧ win0_7.index t = ![0, 0] ∧ win0_8.index t = ![0, 0])) t

theorem arr9 : (dats m 0 c).arrAt 9 cfg0.N = fun y : S32768x1024.Idx => whole (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (y 0) (y 1) := by
  refine (dats m 0 c).arrAt_eq_of_covers 9 _ (by decide +kernel) fun t hf y => ?_
  blk_simp
  rw [after0_9]
  obtain ⟨i0, i1, i9, ⟨i2, i3, i4, i5⟩, i6, i7, i8⟩ := idx_tile t
  refine (TailBlock.out9_apply _ _ _ _ _ _ _ _ _ y).trans ?_
  unfold TailBlock.blk whole
  have e1 : (win0_9.blk t).view.emb y 1 = y 1 := by apply Fin.ext; blk_simp [i9]
  have ew (e : Fin 1024) (f : Fin 4096) : iblk m c 5 t (ix2 e f) = m ((c : Thread nD τ).loc main_arg5) (ix2 e f) := by blk_ext [iblk, V, i5]
  have eu (f : Fin 4096) (j : Fin 1024) : iblk m c 6 t (ix2 f j) = m ((c : Thread nD τ).loc main_arg6) (ix2 f j) := by blk_ext [iblk, V, i6]
  rw [e1]
  simp only [ew, eu]
  refine Norm.row_congr (fun j => Finset.sum_congr rfl fun e _ => ?_) (fun j => ?_) (fun j => ?_) (fun j => ?_) (fun j => ?_) (fun j => ?_) _
  · congr 1
    · blk_ext [iblk, V, i0, i9]
    · blk_ext [iblk, V, i2]
  · blk_ext [iblk, V, i1, i9]
  · blk_ext [iblk, V, i3]
  · blk_ext [iblk, V, i4]
  · blk_ext [iblk, V, i7]
  · blk_ext [iblk, V, i8]

end Cert.TailWhole

end
-- ==== Proof.TailRef.lean ====
/-
  The layer tail's reference, read at a token and a lane, and the equation with the kernel's result.
-/
module

public import proofs.«01_k».proof.Proof.TailWhole
public import proofs.«01_k».proof.Proof.Gen.TailRefIdeal.Run

@[expose] public section

set_option maxRecDepth 16384

noncomputable section

namespace Cert.TailRef

open Idealize.ShloMosaic Idealize.ShloMosaic.TcCoe Cert.TailRefIdeal
open Cert.TailRefIdeal.Gen

/-- The rows' means. -/
def mean (y : FVec Ideal S32768x1024 .f32) : FVec Ideal S32768x1 .f32 :=
  Host.divf (broadcastInDim S32768x1 ![0] bcast_S32768_S32768x1_0 (Host.reduceAdd y (constant S_ .f32 0x00000000#32) reducesTo_S32768x1024_S32768_d1 h_S_))
    (broadcastInDim S32768x1 ![] bcast_S_S32768x1 (constant S_ .f32 0x44800000#32))

/-- The rows less their means. -/
def centred (y : FVec Ideal S32768x1024 .f32) : FVec Ideal S32768x1024 .f32 :=
  subf y (broadcastInDim S32768x1024 ![0, 1] bcast_S32768x1_S32768x1024_0_1 (mean y))

/-- One row for all tokens. -/
def spread (g : FVec Ideal S1x1024 .f32) : FVec Ideal S32768x1024 .f32 :=
  broadcastInDim S32768x1024 ![0, 1] bcast_S1x1024_S32768x1024_0_1 (broadcastInDim S1x1024 ![1] bcast_S1024_S1x1024_1 (shapeCast S1024 g shapeCasts_S1x1024_S1024))

/-- The rows' layer norms. -/
def norm (y : FVec Ideal S32768x1024 .f32) (g b : FVec Ideal S1x1024 .f32) : FVec Ideal S32768x1024 .f32 :=
  addf (mulf (mulf (centred y) (broadcastInDim S32768x1024 ![0, 1] bcast_S32768x1_S32768x1024_0_1 (Host.rsqrt (addf (mean (mulf (centred y) (centred y)))
    (broadcastInDim S32768x1 ![] bcast_S_S32768x1 (constant S_ .f32 0x3727C5AC#32)))))) (spread g)) (spread b)

/-- A residual sum. -/
def res (x y : FVec Ideal S32768x1024 .f32) : FVec Ideal S32768x1024 .f32 :=
  addf (mulf (broadcastInDim S32768x1024 ![] bcast_S_S32768x1024 (constant S_ .f32 0x3FB504F3#32)) x) y

/-- The hidden layer before its square. -/
def pos (h : FVec Ideal S32768x1024 .f32) (win : FVec Ideal S1024x4096 .bf16) : FVec Ideal S32768x4096 .f32 :=
  maximumf (Host.dotGeneral dot_S32768x1024_S1024x4096_S32768x4096_1_0_0_1_n_n none h (extf .f32 win bitsLt_bf16_f32))
    (broadcastInDim S32768x4096 ![] bcast_S_S32768x4096 (constant S_ .f32 0x00000000#32))

/-- The feed-forward part. -/
def ff (h : FVec Ideal S32768x1024 .f32) (win : FVec Ideal S1024x4096 .bf16) (wout : FVec Ideal S4096x1024 .bf16) : FVec Ideal S32768x1024 .f32 :=
  Host.dotGeneral dot_S32768x4096_S4096x1024_S32768x1024_1_0_0_1_n_n none (mulf (pos h win) (pos h win)) (extf .f32 wout bitsLt_bf16_f32)

/-- The layer after the mixer's output projection. -/
def layer (mix x : FVec Ideal S32768x1024 .f32) (g1 b1 : FVec Ideal S1x1024 .f32) (win : FVec Ideal S1024x4096 .bf16) (wout : FVec Ideal S4096x1024 .bf16)
    (g2 b2 : FVec Ideal S1x1024 .f32) : FVec Ideal S32768x1024 .f32 :=
  norm (res (norm (res x mix) g1 b1) (ff (norm (res x mix) g1 b1) win wout)) g2 b2

/-- The mixer's output projection. -/
def proj (A : FVec Ideal S4x1x8192x1024 .bf16) (wo : FVec Ideal S1024x1024 .bf16) : FVec Ideal S32768x1024 .f32 :=
  Host.dotGeneral dot_S32768x1024_S1024x1024_S32768x1024_1_0_0_1_n_n none (shapeCast _ (extf .f32 A bitsLt_bf16_f32) shapeCasts_S4x1x8192x1024_S32768x1024)
    (extf .f32 wo bitsLt_bf16_f32)

theorem mean_apply (y : FVec Ideal S32768x1024 .f32) (r : Fin 32768) : mean y (ix2 r 0) = Norm.mean fun j => y (ix2 r j) := by
  pointwise [mean, Norm.mean, Norm.width]

theorem centred_apply (y : FVec Ideal S32768x1024 .f32) (r : Fin 32768) (j : Fin 1024) :
    centred y (ix2 r j) = y (ix2 r j) - Norm.mean fun j => y (ix2 r j) := by
  pointwise [centred, mean_apply]

theorem spread_apply (g : FVec Ideal S1x1024 .f32) (r : Fin 32768) (j : Fin 1024) : spread g (ix2 r j) = g (ix2 0 j) := by
  pointwise [spread]

theorem norm_apply (y : FVec Ideal S32768x1024 .f32) (g b : FVec Ideal S1x1024 .f32) (r : Fin 32768) (j : Fin 1024) :
    norm y g b (ix2 r j) = Norm.norm (fun j => y (ix2 r j)) (fun j => g (ix2 0 j)) (fun j => b (ix2 0 j)) j := by
  pointwise [norm, mean_apply, centred_apply, spread_apply, Norm.norm, Norm.eps]

theorem res_apply (x y : FVec Ideal S32768x1024 .f32) (r : Fin 32768) (j : Fin 1024) :
    res x y (ix2 r j) = Norm.alpha * x (ix2 r j) + y (ix2 r j) := by
  pointwise [res, Norm.alpha]

theorem pos_apply (h : FVec Ideal S32768x1024 .f32) (win : FVec Ideal S1024x4096 .bf16) (r : Fin 32768) (f : Fin 4096) :
    pos h win (ix2 r f) = max (∑ e : Fin 1024, h (ix2 r e) * win (ix2 e f)) 0 := by
  pointwise [pos]

theorem ff_apply (h : FVec Ideal S32768x1024 .f32) (win : FVec Ideal S1024x4096 .bf16) (wout : FVec Ideal S4096x1024 .bf16) (r : Fin 32768) (j : Fin 1024) :
    ff h win wout (ix2 r j) = Norm.ff (fun e => h (ix2 r e)) (fun e f => win (ix2 e f)) (fun f j => wout (ix2 f j)) j := by
  pointwise [ff, pos_apply, Norm.ff, Norm.unit]

theorem layer_apply (mix x : FVec Ideal S32768x1024 .f32) (g1 b1 : FVec Ideal S1x1024 .f32) (win : FVec Ideal S1024x4096 .bf16)
    (wout : FVec Ideal S4096x1024 .bf16) (g2 b2 : FVec Ideal S1x1024 .f32) (r : Fin 32768) (j : Fin 1024) :
    layer mix x g1 b1 win wout g2 b2 (ix2 r j)
      = Norm.row (fun j => mix (ix2 r j)) (fun j => x (ix2 r j)) (fun j => g1 (ix2 0 j)) (fun j => b1 (ix2 0 j)) (fun e f => win (ix2 e f))
        (fun f j => wout (ix2 f j)) (fun j => g2 (ix2 0 j)) (fun j => b2 (ix2 0 j)) j := by
  unfold layer Norm.row
  rw [norm_apply]
  have e1 (j : Fin 1024) : norm (res x mix) g1 b1 (ix2 r j)
      = Norm.mid (fun j => mix (ix2 r j)) (fun j => x (ix2 r j)) (fun j => g1 (ix2 0 j)) (fun j => b1 (ix2 0 j)) j := by
    rw [norm_apply]
    simp only [res_apply]
    rfl
  have e2 (j : Fin 1024) := (ff_apply (norm (res x mix) g1 b1) win wout r j).trans
    (congrArg (fun h => Norm.ff h (fun e f => win (ix2 e f)) (fun f j => wout (ix2 f j)) j) (funext e1))
  simp only [res_apply, e1, e2]

theorem proj_apply (A : FVec Ideal S4x1x8192x1024 .bf16) (wo : FVec Ideal S1024x1024 .bf16) (r : Fin 32768) (j : Fin 1024) :
    proj A wo (ix2 r j) = ∑ e : Fin 1024, A (ix4 ⟨r.val / 8192, by omega⟩ 0 ⟨r.val % 8192, by omega⟩ e) * wo (ix2 e j) := by
  pointwise [proj]

section
variable (m : (ℓ : Loc nD τ sig) → Buf (Elt Ideal) ℓ) (c : Dev nD)

theorem res0_eq : Value.res_out0 m c = layer (proj (m ((c.tc : Thread nD τ).loc main_arg0)) (m ((c.tc : Thread nD τ).loc main_arg2)))
    (m ((c.tc : Thread nD τ).loc main_arg1)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) := by
  unfold Value.res_out0 Value.res_main_v67 layer ff pos res norm spread centred mean proj
  rfl

/-- The reference's result is the whole layer tail of its own arguments. -/
theorem res0_whole : Value.res_out0 m c = fun y : S32768x1024.Idx => TailWhole.whole (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (y 0) (y 1) := by
  rw [res0_eq]
  funext y
  obtain ⟨r, j, rfl⟩ : ∃ (r : Fin 32768) (j : Fin 1024), y = ix2 r j := ⟨y 0, y 1, (ix2_eta y).symm⟩
  rw [layer_apply]
  simp only [proj_apply]
  rfl

end

end Cert.TailRef

end
-- ==== Proof.Stage.lean ====
/-
  The merge's scratch: a group's residue classes are stored with a stride, one after another, and a slot read whole
  afterwards holds them in the order of the positions.
-/
module

public import proofs.«01_k».proof.Proof.Words
public import proofs.«01_k».proof.Proof.Gen.MergeIdeal.Frame
public import Idealize.ShloMosaic.Lib.Pipeline.ValueKit

@[expose] public section

set_option maxRecDepth 16384

noncomputable section

namespace Cert.Stage

open Idealize.ShloMosaic Idealize.ShloMosaic.TcCoe Cert.MergeIdeal Cert.MergeIdeal.Gen
open Cert.MergeIdeal.Facts

section
variable (x1 : Vec Ideal S1x4x128x256 .bf16) (x2 : Vec Ideal S1x16x32x256 .bf16) (x4 : Vec Ideal S1x4x128x256 .f32) (x5 : Vec Ideal S1x16x32x256 .f32)

/-- A four-class group at a position: its class is the position's remainder. -/
def at4 (x : S1x4x128x256.Idx → EReal) (p : Fin 512) (k : Fin 256) : EReal := x (ix4 0 ⟨p.val % 4, by omega⟩ ⟨p.val / 4, by omega⟩ k)

/-- A sixteen-class group at a position. -/
def at16 (x : S1x16x32x256.Idx → EReal) (p : Fin 512) (k : Fin 256) : EReal := x (ix4 0 ⟨p.val % 16, by omega⟩ ⟨p.val / 16, by omega⟩ k)

/-- What the scratch is meant to hold: the two groups' outputs and log denominators, two slots of lanes each. -/
def plane (y : S12x512x128.Idx) : EReal :=
  have k : Fin 256 := ⟨128 * ((y 0).val % 2) + (y 2).val, by have : (y 2).val < 128 := (y 2).isLt; omega⟩
  if (y 0).val < 6 then at4 x1 (y 1) k else if (y 0).val < 8 then at4 x4 (y 1) k
  else if (y 0).val < 10 then at16 x2 (y 1) k else at16 x5 (y 1) k

/-- The rows of a slot that a residue class of four is stored to. -/
abbrev rows4 (z r : ℕ) (inb : ∀ a, S1x128x128.size a = 0 ∨ (![z, r, 0] : Fin 3 → ℕ) a + (![1, 4, 1] : Fin 3 → ℕ) a * (S1x128x128.size a - 1) < S12x512x128.size a)
    (sp : ∀ a, 0 < (![1, 4, 1] : Fin 3 → ℕ) a) : Rect S12x512x128 :=
  { off := ![z, r, 0], size := S1x128x128.size, stride := ![1, 4, 1], inb := inb, stride_pos := sp }

/-- The rows of a slot that a residue class of sixteen is stored to. -/
abbrev rows16 (z r : ℕ) (inb : ∀ a, S1x32x128.size a = 0 ∨ (![z, r, 0] : Fin 3 → ℕ) a + (![1, 16, 1] : Fin 3 → ℕ) a * (S1x32x128.size a - 1) < S12x512x128.size a)
    (sp : ∀ a, 0 < (![1, 16, 1] : Fin 3 → ℕ) a) : Rect S12x512x128 :=
  { off := ![z, r, 0], size := S1x32x128.size, stride := ![1, 16, 1], inb := inb, stride_pos := sp }

theorem put4 (x : S1x4x128x256.Idx → EReal) (z r s : ℕ) (hr : r < 4) (hs : s < 2)
    (hp : ∀ y : S12x512x128.Idx, (y 0).val = z → plane x1 x2 x4 x5 y = at4 x (y 1) ⟨128 * s + (y 2).val, by have : (y 2).val < 128 := (y 2).isLt; omega⟩)
    (inb) (sp) (w : S1x128x128.Idx → EReal) (hw : ∀ (i k : Fin 128), w (ix3 0 i k) = x (ix4 0 ⟨r, hr⟩ i ⟨128 * s + k.val, by omega⟩)) (y : S1x128x128.Idx) :
    w y = plane x1 x2 x4 x5 ((rows4 z r inb sp).emb y) := by
  obtain ⟨i, k, rfl⟩ : ∃ (i k : Fin 128), y = ix3 0 i k := ⟨y 1, y 2, by rw [← ix3_eta y]; congr 1; exact Subsingleton.elim _ _⟩
  rw [hw, hp _ (show z + 1 * 0 = z by omega)]
  unfold at4
  congr 1
  refine congr (congrArg₂ (ix4 0) (Fin.ext ?_) (Fin.ext ?_)) (Fin.ext ?_)
  · show r = (r + 4 * i.val) % 4; omega
  · show i.val = (r + 4 * i.val) / 4; omega
  · show 128 * s + k.val = 128 * s + (0 + 1 * k.val); omega

theorem put16 (x : S1x16x32x256.Idx → EReal) (z r s : ℕ) (hr : r < 16) (hs : s < 2)
    (hp : ∀ y : S12x512x128.Idx, (y 0).val = z → plane x1 x2 x4 x5 y = at16 x (y 1) ⟨128 * s + (y 2).val, by have : (y 2).val < 128 := (y 2).isLt; omega⟩)
    (inb) (sp) (w : S1x32x128.Idx → EReal) (hw : ∀ (i : Fin 32) (k : Fin 128), w (ix3 0 i k) = x (ix4 0 ⟨r, hr⟩ i ⟨128 * s + k.val, by omega⟩)) (y : S1x32x128.Idx) :
    w y = plane x1 x2 x4 x5 ((rows16 z r inb sp).emb y) := by
  obtain ⟨i, k, rfl⟩ : ∃ (i : Fin 32) (k : Fin 128), y = ix3 0 i k := ⟨y 1, y 2, by rw [← ix3_eta y]; congr 1; exact Subsingleton.elim _ _⟩
  rw [hw, hp _ (show z + 1 * 0 = z by omega)]
  unfold at16
  congr 1
  refine congr (congrArg₂ (ix4 0) (Fin.ext ?_) (Fin.ext ?_)) (Fin.ext ?_)
  · show r = (r + 16 * i.val) % 16; omega
  · show i.val = (r + 16 * i.val) / 16; omega
  · show 128 * s + k.val = 128 * s + (0 + 1 * k.val); omega

/-- Slots 4 and 5 hold the four-class outputs. -/
theorem plane_out4 (s : ℕ) (hs : s < 2) (y : S12x512x128.Idx) (hy : (y 0).val = 4 + s) :
    plane x1 x2 x4 x5 y = at4 x1 (y 1) ⟨128 * s + (y 2).val, by have : (y 2).val < 128 := (y 2).isLt; omega⟩ := by
  unfold plane
  rw [if_pos (by omega)]
  exact congrArg (at4 x1 (y 1)) (Fin.ext (show 128 * ((y 0).val % 2) + (y 2).val = 128 * s + (y 2).val by rw [hy]; omega))

/-- Slots 6 and 7 hold the four-class log denominators. -/
theorem plane_lse4 (s : ℕ) (hs : s < 2) (y : S12x512x128.Idx) (hy : (y 0).val = 6 + s) :
    plane x1 x2 x4 x5 y = at4 x4 (y 1) ⟨128 * s + (y 2).val, by have : (y 2).val < 128 := (y 2).isLt; omega⟩ := by
  unfold plane
  rw [if_neg (by omega), if_pos (by omega)]
  exact congrArg (at4 x4 (y 1)) (Fin.ext (show 128 * ((y 0).val % 2) + (y 2).val = 128 * s + (y 2).val by rw [hy]; omega))

/-- Slots 8 and 9 hold the sixteen-class outputs. -/
theorem plane_out16 (s : ℕ) (hs : s < 2) (y : S12x512x128.Idx) (hy : (y 0).val = 8 + s) :
    plane x1 x2 x4 x5 y = at16 x2 (y 1) ⟨128 * s + (y 2).val, by have : (y 2).val < 128 := (y 2).isLt; omega⟩ := by
  unfold plane
  rw [if_neg (by omega), if_neg (by omega), if_pos (by omega)]
  exact congrArg (at16 x2 (y 1)) (Fin.ext (show 128 * ((y 0).val % 2) + (y 2).val = 128 * s + (y 2).val by rw [hy]; omega))

/-- Slots 10 and 11 hold the sixteen-class log denominators. -/
theorem plane_lse16 (s : ℕ) (hs : s < 2) (y : S12x512x128.Idx) (hy : (y 0).val = 10 + s) :
    plane x1 x2 x4 x5 y = at16 x5 (y 1) ⟨128 * s + (y 2).val, by have : (y 2).val < 128 := (y 2).isLt; omega⟩ := by
  unfold plane
  rw [if_neg (by omega), if_neg (by omega), if_neg (by omega)]
  exact congrArg (at16 x5 (y 1)) (Fin.ext (show 128 * ((y 0).val % 2) + (y 2).val = 128 * s + (y 2).val by rw [hy]; omega))

theorem out4 (r s : ℕ) (hr : r < 4) (hs : s < 2) (inb) (sp) (inb' : ∀ a, (![0, r, 0, 128 * s] : Fin 4 → ℕ) a + S1x1x128x128.size a ≤ S1x4x128x256.size a)
    (y : S1x128x128.Idx) : k0_pay3 (View.ld x1 (Rect.unit (s := S1x4x128x256) ![0, r, 0, 128 * s] S1x1x128x128.size inb')) y
      = plane x1 x2 x4 x5 ((rows4 (4 + s) r inb sp).emb y) := by
  refine put4 x1 x2 x4 x5 x1 _ r s hr hs (plane_out4 x1 x2 x4 x5 s hs) inb sp _ (fun i k => ?_) y
  pointwise [k0_pay3]

theorem lse4 (r s : ℕ) (hr : r < 4) (hs : s < 2) (inb) (sp) (inb' : ∀ a, (![0, r, 0, 128 * s] : Fin 4 → ℕ) a + S1x1x128x128.size a ≤ S1x4x128x256.size a)
    (y : S1x128x128.Idx) : k0_pay50 (View.ld x4 (Rect.unit (s := S1x4x128x256) ![0, r, 0, 128 * s] S1x1x128x128.size inb')) y
      = plane x1 x2 x4 x5 ((rows4 (6 + s) r inb sp).emb y) := by
  refine put4 x1 x2 x4 x5 x4 _ r s hr hs (plane_lse4 x1 x2 x4 x5 s hs) inb sp _ (fun i k => ?_) y
  pointwise [k0_pay50]

theorem out16 (r s : ℕ) (hr : r < 16) (hs : s < 2) (inb) (sp) (inb' : ∀ a, (![0, r, 0, 128 * s] : Fin 4 → ℕ) a + S1x1x32x128.size a ≤ S1x16x32x256.size a)
    (y : S1x32x128.Idx) : k0_pay23 (View.ld x2 (Rect.unit (s := S1x16x32x256) ![0, r, 0, 128 * s] S1x1x32x128.size inb')) y
      = plane x1 x2 x4 x5 ((rows16 (8 + s) r inb sp).emb y) := by
  refine put16 x1 x2 x4 x5 x2 _ r s hr hs (plane_out16 x1 x2 x4 x5 s hs) inb sp _ (fun i k => ?_) y
  pointwise [k0_pay23]

theorem lse16 (r s : ℕ) (hr : r < 16) (hs : s < 2) (inb) (sp) (inb' : ∀ a, (![0, r, 0, 128 * s] : Fin 4 → ℕ) a + S1x1x32x128.size a ≤ S1x16x32x256.size a)
    (y : S1x32x128.Idx) : k0_pay69 (View.ld x5 (Rect.unit (s := S1x16x32x256) ![0, r, 0, 128 * s] S1x1x32x128.size inb')) y
      = plane x1 x2 x4 x5 ((rows16 (10 + s) r inb sp).emb y) := by
  refine put16 x1 x2 x4 x5 x5 _ r s hr hs (plane_lse16 x1 x2 x4 x5 s hs) inb sp _ (fun i k => ?_) y
  pointwise [k0_pay69]

/-! ## The stores -/

variable (c : Dev nD) (arg2 : Memref sig .tc .vmem S1x4x128x256 .bf16) (harg2 : arg2.IsWhole) (arg3 : Memref sig .tc .vmem S1x16x32x256 .bf16) (harg3 : arg3.IsWhole)
  (arg5 : Memref sig .tc .vmem S1x4x128x256 .f32) (harg5 : arg5.IsWhole) (arg6 : Memref sig .tc .vmem S1x16x32x256 .f32) (harg6 : arg6.IsWhole)

/-- Every store of the four-class outputs writes the plane's values. -/
theorem agree8 : ∀ p ∈ kernelRun0_A.sl.HS0_8 (F := Ideal) c arg2 harg2 x1, ∀ y, p.2 y = plane x1 x2 x4 x5 (p.1.emb y) := by
  unfold kernelRun0_A.sl.HS0_8
  simp only [List.forall_mem_cons, kernelRun0_A.sl.r_1, View.readAt_eq_ld, Memref.IsWhole.read_unread]
  iterate 4 refine And.intro (out4 x1 x2 x4 x5 _ 1 (by decide) (by decide) _ _ _) ?_
  iterate 4 refine And.intro (out4 x1 x2 x4 x5 _ 0 (by decide) (by decide) _ _ _) ?_
  simp

theorem agree15 : ∀ p ∈ kernelRun0_A.sl.HS0_15 (F := Ideal) c arg2 harg2 arg3 harg3 x1 x2, ∀ y, p.2 y = plane x1 x2 x4 x5 (p.1.emb y) := by
  unfold kernelRun0_A.sl.HS0_15
  simp only [List.forall_mem_cons, kernelRun0_A.sl.r_3, kernelRun0_A.sl.r_4, View.readAt_eq_ld, Memref.IsWhole.read_unread]
  iterate 7 refine And.intro (out16 x1 x2 x4 x5 _ 0 (by decide) (by decide) _ _ _) ?_
  exact agree8 x1 x2 x4 x5 c arg2 harg2

/-- So does every store of the sixteen-class outputs, -/
theorem agree40 : ∀ p ∈ kernelRun0_A.sl.HS0_40 (F := Ideal) c arg2 harg2 arg3 harg3 x1 x2, ∀ y, p.2 y = plane x1 x2 x4 x5 (p.1.emb y) := by
  unfold kernelRun0_A.sl.HS0_40
  simp only [List.forall_mem_cons, kernelRun0_A.sl.r_4, kernelRun0_A.sl.r_5, kernelRun0_A.sl.r_6, kernelRun0_A.sl.r_7, View.readAt_eq_ld, Memref.IsWhole.read_unread]
  iterate 16 refine And.intro (out16 x1 x2 x4 x5 _ 1 (by decide) (by decide) _ _ _) ?_
  iterate 9 refine And.intro (out16 x1 x2 x4 x5 _ 0 (by decide) (by decide) _ _ _) ?_
  exact agree15 x1 x2 x4 x5 c arg2 harg2 arg3 harg3

/-- every store of the four-class log denominators -/
theorem agree48 : ∀ p ∈ kernelRun0_A.sl.HS0_48 (F := Ideal) c arg2 harg2 arg3 harg3 arg5 harg5 x1 x2 x4, ∀ y, p.2 y = plane x1 x2 x4 x5 (p.1.emb y) := by
  unfold kernelRun0_A.sl.HS0_48
  simp only [List.forall_mem_cons, kernelRun0_A.sl.r_10, View.readAt_eq_ld, Memref.IsWhole.read_unread]
  iterate 4 refine And.intro (lse4 x1 x2 x4 x5 _ 1 (by decide) (by decide) _ _ _) ?_
  iterate 4 refine And.intro (lse4 x1 x2 x4 x5 _ 0 (by decide) (by decide) _ _ _) ?_
  exact agree40 x1 x2 x4 x5 c arg2 harg2 arg3 harg3

theorem agree71 : ∀ p ∈ kernelRun0_A.sl.HS0_71 (F := Ideal) c arg2 harg2 arg3 harg3 arg5 harg5 arg6 harg6 x1 x2 x4 x5, ∀ y, p.2 y = plane x1 x2 x4 x5 (p.1.emb y) := by
  unfold kernelRun0_A.sl.HS0_71
  simp only [List.forall_mem_cons, kernelRun0_A.sl.r_12, kernelRun0_A.sl.r_13, kernelRun0_A.sl.r_14, kernelRun0_A.sl.r_15, View.readAt_eq_ld, Memref.IsWhole.read_unread]
  iterate 7 refine And.intro (lse16 x1 x2 x4 x5 _ 1 (by decide) (by decide) _ _ _) ?_
  iterate 16 refine And.intro (lse16 x1 x2 x4 x5 _ 0 (by decide) (by decide) _ _ _) ?_
  exact agree48 x1 x2 x4 x5 c arg2 harg2 arg3 harg3 arg5 harg5

/-- and every store of the sixteen-class log denominators. -/
theorem agree80 : ∀ p ∈ kernelRun0_A.sl.HS0_80 (F := Ideal) c arg2 harg2 arg3 harg3 arg5 harg5 arg6 harg6 x1 x2 x4 x5, ∀ y, p.2 y = plane x1 x2 x4 x5 (p.1.emb y) := by
  unfold kernelRun0_A.sl.HS0_80
  simp only [List.forall_mem_cons, kernelRun0_A.sl.r_15, kernelRun0_A.sl.r_16, View.readAt_eq_ld, Memref.IsWhole.read_unread]
  iterate 9 refine And.intro (lse16 x1 x2 x4 x5 _ 1 (by decide) (by decide) _ _ _) ?_
  exact agree71 x1 x2 x4 x5 c arg2 harg2 arg3 harg3 arg5 harg5 arg6 harg6

/-! ## The loads -/

/-- A slot's load after stores that write the plane's values and cover the slot holds the plane. -/
theorem slot (arg16 : Memref sig .tc .vmem S12x512x128 .f32) (L : List (View.Piece (Elt Ideal) S12x512x128 .f32))
    (hL : ∀ p ∈ L, ∀ y, p.2 y = plane x1 x2 x4 x5 (p.1.emb y)) (z : ℕ) (hz : z < 12) (inb : ∀ a, (![z, 0, 0] : Fin 3 → ℕ) a + S1x512x128.size a ≤ S12x512x128.size a)
    (hc : ∀ (p : Fin 512) (k : Fin 128), ∃ q ∈ L, (ix3 ⟨z, hz⟩ p k : S12x512x128.Idx) ∈ q.1.set) (p : Fin 512) (k : Fin 128) :
    arg16.view.readCov L (Rect.unit (s := S12x512x128) ![z, 0, 0] S1x512x128.size inb).toLoadRect (ix3 0 p k)
      = plane x1 x2 x4 x5 (ix3 ⟨z, hz⟩ p k) := by
  rw [View.readCov_eq_canon']
  have e : (Rect.unit (s := S12x512x128) ![z, 0, 0] S1x512x128.size inb).toLoadRect.idx (ix3 0 p k) = (ix3 ⟨z, hz⟩ p k : S12x512x128.Idx) := by
    funext a
    apply Fin.ext
    match a with
    | ⟨0, _⟩ => show z + 1 * 0 = z; omega
    | ⟨1, _⟩ => show 0 + 1 * p.val = p.val; omega
    | ⟨2, _⟩ => show 0 + 1 * k.val = k.val; omega
  exact (congrArg (View.canon L) e).trans (View.canon_apply_of_pieces (plane x1 x2 x4 x5) L hL _ (hc p k))

theorem mem4 (z : ℕ) (hz : z < 12) (p : Fin 512) (k : Fin 128) (inb) (sp) : (ix3 ⟨z, hz⟩ p k : S12x512x128.Idx) ∈ (rows4 z (p.val % 4) inb sp).set := by
  rw [LoadRect.mem_set]
  intro a
  match a with
  | ⟨0, _⟩ => exact ⟨0, Nat.one_pos, show z = z + 1 * 0 by omega⟩
  | ⟨1, _⟩ => exact ⟨p.val / 4, show p.val / 4 < 128 by omega, show p.val = p.val % 4 + 4 * (p.val / 4) by omega⟩
  | ⟨2, _⟩ => exact ⟨k.val, k.isLt, show k.val = 0 + 1 * k.val by omega⟩

theorem mem16 (z : ℕ) (hz : z < 12) (p : Fin 512) (k : Fin 128) (inb) (sp) : (ix3 ⟨z, hz⟩ p k : S12x512x128.Idx) ∈ (rows16 z (p.val % 16) inb sp).set := by
  rw [LoadRect.mem_set]
  intro a
  match a with
  | ⟨0, _⟩ => exact ⟨0, Nat.one_pos, show z = z + 1 * 0 by omega⟩
  | ⟨1, _⟩ => exact ⟨p.val / 16, show p.val / 16 < 32 by omega, show p.val = p.val % 16 + 16 * (p.val / 16) by omega⟩
  | ⟨2, _⟩ => exact ⟨k.val, k.isLt, show k.val = 0 + 1 * k.val by omega⟩

/-- A slot of four classes is covered when each class is at some place of the list. -/
theorem cover4 (L : List (View.Piece (Elt Ideal) S12x512x128 .f32)) (z : ℕ) (hz : z < 12) (at' : Fin 4 → ℕ) (hl : ∀ r, at' r < L.length)
    (he : ∀ r : Fin 4, ∃ inb sp, (L[at' r]'(hl r)).1 = rows4 z r.val inb sp) (p : Fin 512) (k : Fin 128) :
    ∃ q ∈ L, (ix3 ⟨z, hz⟩ p k : S12x512x128.Idx) ∈ q.1.set := by
  obtain ⟨inb, sp, e⟩ := he ⟨p.val % 4, by omega⟩
  exact ⟨_, List.getElem_mem (hl ⟨p.val % 4, by omega⟩), by rw [e]; exact mem4 z hz p k inb sp⟩

theorem cover16 (L : List (View.Piece (Elt Ideal) S12x512x128 .f32)) (z : ℕ) (hz : z < 12) (at' : Fin 16 → ℕ) (hl : ∀ r, at' r < L.length)
    (he : ∀ r : Fin 16, ∃ inb sp, (L[at' r]'(hl r)).1 = rows16 z r.val inb sp) (p : Fin 512) (k : Fin 128) :
    ∃ q ∈ L, (ix3 ⟨z, hz⟩ p k : S12x512x128.Idx) ∈ q.1.set := by
  obtain ⟨inb, sp, e⟩ := he ⟨p.val % 16, by omega⟩
  exact ⟨_, List.getElem_mem (hl ⟨p.val % 16, by omega⟩), by rw [e]; exact mem16 z hz p k inb sp⟩

variable (arg16 : Memref sig .tc .vmem S12x512x128 .f32)

theorem v51_apply (p : Fin 512) (k : Fin 128) :
    kernelRun0_A.sl.v51 (F := Ideal) c arg2 harg2 arg16 x1 (ix3 0 p k) = at4 x1 p ⟨k.val, by omega⟩ := by
  unfold kernelRun0_A.sl.v51
  refine (slot x1 (fun _ => 0) (fun _ => 0) (fun _ => 0) arg16 _ (agree8 x1 (fun _ => 0) (fun _ => 0) (fun _ => 0) c arg2 harg2) 4 (by decide) _ (cover4 _ 4 _ (fun r => 7 - r.val) (fun r => ?_) fun r => ?_) p k).trans ?_
  · show 7 - r.val < 8; omega
  · fin_cases r <;> exact ⟨_, _, rfl⟩
  · exact (plane_out4 x1 (fun _ => 0) (fun _ => 0) (fun _ => 0) 0 (by decide) _ rfl).trans (congrArg (at4 x1 p) (Fin.ext (show 128 * 0 + k.val = k.val by omega)))

theorem v53_apply (p : Fin 512) (k : Fin 128) :
    kernelRun0_A.sl.v53 (F := Ideal) c arg2 harg2 arg16 x1 (ix3 0 p k) = at4 x1 p ⟨128 + k.val, by omega⟩ := by
  unfold kernelRun0_A.sl.v53
  refine (slot x1 (fun _ => 0) (fun _ => 0) (fun _ => 0) arg16 _ (agree8 x1 (fun _ => 0) (fun _ => 0) (fun _ => 0) c arg2 harg2) 5 (by decide) _ (cover4 _ 5 _ (fun r => 3 - r.val) (fun r => ?_) fun r => ?_) p k).trans ?_
  · show 3 - r.val < 8; omega
  · fin_cases r <;> exact ⟨_, _, rfl⟩
  · exact (plane_out4 x1 (fun _ => 0) (fun _ => 0) (fun _ => 0) 1 (by decide) _ rfl).trans (congrArg (at4 x1 p) (Fin.ext (show 128 * 1 + k.val = 128 + k.val by omega)))

theorem v248_apply (p : Fin 512) (k : Fin 128) :
    kernelRun0_A.sl.v248 (F := Ideal) c arg2 harg2 arg3 harg3 arg16 x1 x2 (ix3 0 p k) = at16 x2 p ⟨k.val, by omega⟩ := by
  unfold kernelRun0_A.sl.v248
  refine (slot x1 x2 (fun _ => 0) (fun _ => 0) arg16 _ (agree40 x1 x2 (fun _ => 0) (fun _ => 0) c arg2 harg2 arg3 harg3) 8 (by decide) _ (cover16 _ 8 _ (fun r => 31 - r.val) (fun r => ?_) fun r => ?_) p k).trans ?_
  · show 31 - r.val < 40; omega
  · fin_cases r <;> exact ⟨_, _, rfl⟩
  · exact (plane_out16 x1 x2 (fun _ => 0) (fun _ => 0) 0 (by decide) _ rfl).trans (congrArg (at16 x2 p) (Fin.ext (show 128 * 0 + k.val = k.val by omega)))

theorem v250_apply (p : Fin 512) (k : Fin 128) :
    kernelRun0_A.sl.v250 (F := Ideal) c arg2 harg2 arg3 harg3 arg16 x1 x2 (ix3 0 p k) = at16 x2 p ⟨128 + k.val, by omega⟩ := by
  unfold kernelRun0_A.sl.v250
  refine (slot x1 x2 (fun _ => 0) (fun _ => 0) arg16 _ (agree40 x1 x2 (fun _ => 0) (fun _ => 0) c arg2 harg2 arg3 harg3) 9 (by decide) _ (cover16 _ 9 _ (fun r => 15 - r.val) (fun r => ?_) fun r => ?_) p k).trans ?_
  · show 15 - r.val < 40; omega
  · fin_cases r <;> exact ⟨_, _, rfl⟩
  · exact (plane_out16 x1 x2 (fun _ => 0) (fun _ => 0) 1 (by decide) _ rfl).trans (congrArg (at16 x2 p) (Fin.ext (show 128 * 1 + k.val = 128 + k.val by omega)))

theorem v295_apply (p : Fin 512) (k : Fin 128) :
    kernelRun0_A.sl.v295 (F := Ideal) c arg2 harg2 arg3 harg3 arg5 harg5 arg16 x1 x2 x4 (ix3 0 p k) = at4 x4 p ⟨k.val, by omega⟩ := by
  unfold kernelRun0_A.sl.v295
  refine (slot x1 x2 x4 (fun _ => 0) arg16 _ (agree48 x1 x2 x4 (fun _ => 0) c arg2 harg2 arg3 harg3 arg5 harg5) 6 (by decide) _ (cover4 _ 6 _ (fun r => 7 - r.val) (fun r => ?_) fun r => ?_) p k).trans ?_
  · show 7 - r.val < 48; omega
  · fin_cases r <;> exact ⟨_, _, rfl⟩
  · exact (plane_lse4 x1 x2 x4 (fun _ => 0) 0 (by decide) _ rfl).trans (congrArg (at4 x4 p) (Fin.ext (show 128 * 0 + k.val = k.val by omega)))

theorem v297_apply (p : Fin 512) (k : Fin 128) :
    kernelRun0_A.sl.v297 (F := Ideal) c arg2 harg2 arg3 harg3 arg5 harg5 arg16 x1 x2 x4 (ix3 0 p k) = at4 x4 p ⟨128 + k.val, by omega⟩ := by
  unfold kernelRun0_A.sl.v297
  refine (slot x1 x2 x4 (fun _ => 0) arg16 _ (agree48 x1 x2 x4 (fun _ => 0) c arg2 harg2 arg3 harg3 arg5 harg5) 7 (by decide) _ (cover4 _ 7 _ (fun r => 3 - r.val) (fun r => ?_) fun r => ?_) p k).trans ?_
  · show 3 - r.val < 48; omega
  · fin_cases r <;> exact ⟨_, _, rfl⟩
  · exact (plane_lse4 x1 x2 x4 (fun _ => 0) 1 (by decide) _ rfl).trans (congrArg (at4 x4 p) (Fin.ext (show 128 * 1 + k.val = 128 + k.val by omega)))

theorem v460_apply (p : Fin 512) (k : Fin 128) :
    kernelRun0_A.sl.v460 (F := Ideal) c arg2 harg2 arg3 harg3 arg5 harg5 arg6 harg6 arg16 x1 x2 x4 x5 (ix3 0 p k) = at16 x5 p ⟨k.val, by omega⟩ := by
  unfold kernelRun0_A.sl.v460
  refine (slot x1 x2 x4 x5 arg16 _ (agree80 x1 x2 x4 x5 c arg2 harg2 arg3 harg3 arg5 harg5 arg6 harg6) 10 (by decide) _ (cover16 _ 10 _ (fun r => 31 - r.val) (fun r => ?_) fun r => ?_) p k).trans ?_
  · show 31 - r.val < 80; omega
  · fin_cases r <;> exact ⟨_, _, rfl⟩
  · exact (plane_lse16 x1 x2 x4 x5 0 (by decide) _ rfl).trans (congrArg (at16 x5 p) (Fin.ext (show 128 * 0 + k.val = k.val by omega)))

theorem v462_apply (p : Fin 512) (k : Fin 128) :
    kernelRun0_A.sl.v462 (F := Ideal) c arg2 harg2 arg3 harg3 arg5 harg5 arg6 harg6 arg16 x1 x2 x4 x5 (ix3 0 p k) = at16 x5 p ⟨128 + k.val, by omega⟩ := by
  unfold kernelRun0_A.sl.v462
  refine (slot x1 x2 x4 x5 arg16 _ (agree80 x1 x2 x4 x5 c arg2 harg2 arg3 harg3 arg5 harg5 arg6 harg6) 11 (by decide) _ (cover16 _ 11 _ (fun r => 15 - r.val) (fun r => ?_) fun r => ?_) p k).trans ?_
  · show 15 - r.val < 80; omega
  · fin_cases r <;> exact ⟨_, _, rfl⟩
  · exact (plane_lse16 x1 x2 x4 x5 1 (by decide) _ rfl).trans (congrArg (at16 x5 p) (Fin.ext (show 128 * 1 + k.val = 128 + k.val by omega)))

/-- Two slots side by side are one array of all lanes. -/
theorem pair (a b : Vec Ideal S1x512x128 .f32) (f : Fin 512 → Fin 256 → EReal) (ha : ∀ (p : Fin 512) (k : Fin 128), a (ix3 0 p k) = f p ⟨k.val, by omega⟩)
    (hb : ∀ (p : Fin 512) (k : Fin 128), b (ix3 0 p k) = f p ⟨128 + k.val, by omega⟩) (p : Fin 512) (k : Fin 256) : k0_pay12 a b (ix2 p k) = f p k := by
  by_cases hk : k.val < 128
  · pointwise [k0_pay12]
    simp only [hk]
    exact ha p ⟨k.val, hk⟩
  · pointwise [k0_pay12]
    simp only [hk]
    exact (hb p ⟨k.val - 128, by omega⟩).trans (congrArg (f p) (Fin.ext (show 128 + (k.val - 128) = k.val by omega)))

end

end Cert.Stage

end
-- ==== Proof.Share.lean ====
/-
  The dilated groups' outputs merged by their log denominators, over the extended reals: the weights in base two,
  multiplied by the reciprocal of their sum, against a softmax in base e.
-/
module

public import proofs.«01_k».proof.Proof.Soft

@[expose] public section

noncomputable section

namespace Cert.Share

open Idealize.ShloMosaic

/-- A group's base-two weight, below the largest of the three log denominators. -/
def wt (a b c x : EReal) : EReal := Ideal.exp2 (x - max (max a b) c)

/-- A group's share in base two: its weight times the reciprocal of the weights' sum. -/
def share (a b c x : EReal) : EReal := wt a b c x * Ideal.div 1 (wt a b c a + wt a b c b + wt a b c c)

/-- A group's share in base e: a softmax over the groups. -/
def shareE (s : Fin 3 → EReal) (g : Fin 3) : EReal := Ideal.div (Ideal.exp (s g - Soft.top s)) (∑ g, Ideal.exp (s g - Soft.top s))

theorem top_three (s : Fin 3 → EReal) : Soft.top s = max (max (s 0) (s 1)) (s 2) := by
  have e : Soft.top s = Finset.univ.sup s := rfl
  rw [e]
  simp [Fin.univ_succ, max_assoc]

theorem coe_max (a b : ℝ) : max (a : EReal) (b : EReal) = ((max a b : ℝ) : EReal) := (EReal.coe_strictMono.monotone.map_max).symm

theorem exp2_coe (x μ : ℝ) : Ideal.exp2 ((x : EReal) - (μ : EReal)) = ((Real.exp (x * Real.log 2 - μ * Real.log 2) : ℝ) : EReal) := by
  rw [← EReal.coe_sub]
  show ((Real.rpow 2 (x - μ) : ℝ) : EReal) = _
  have : Real.rpow 2 (x - μ) = (2 : ℝ) ^ (x - μ) := rfl
  rw [this, Real.rpow_def_of_pos (by norm_num), mul_comm, sub_mul]

theorem exp_coe (x μ : ℝ) : Ideal.exp ((x : EReal) - (μ : EReal)) = ((Real.exp (x - μ) : ℝ) : EReal) := by
  rw [← EReal.coe_sub]
  rfl

/-- The two shares are one where the log denominators are real numbers. -/
theorem share_eq (x : Fin 3 → ℝ) (g : Fin 3) :
    shareE (fun g => (x g : EReal) * ((Real.log 2 : ℝ) : EReal)) g = share (x 0) (x 1) (x 2) (x g) := by
  have hl := Soft.log_two_pos.le
  have ht : Soft.top (fun g => (x g : EReal) * ((Real.log 2 : ℝ) : EReal)) = ((max (max (x 0) (x 1)) (x 2) * Real.log 2 : ℝ) : EReal) := by
    rw [top_three]
    simp only [← EReal.coe_mul, coe_max]
    rw [max_mul_of_nonneg _ _ hl, max_mul_of_nonneg _ _ hl]
  unfold shareE share wt
  rw [ht]
  simp only [coe_max, exp2_coe, ← EReal.coe_mul, exp_coe, Fin.sum_univ_three, ← EReal.coe_add]
  have hp (a b c : ℝ) : Real.exp a + Real.exp b + Real.exp c ≠ 0 := (add_pos (add_pos (Real.exp_pos a) (Real.exp_pos b)) (Real.exp_pos c)).ne'
  rw [Ideal.div_coe (hp _ _ _), Ideal.div_coe (hp _ _ _), one_mul]

/-- A token's merged heads: lane `e` is lane `e % 256` of group `e / 256`. -/
def merged (o l : Fin 3 → Fin 256 → EReal) (e : Fin 768) : EReal :=
  o ⟨e.val / 256, by omega⟩ ⟨e.val % 256, by omega⟩
    * share (l 0 ⟨e.val % 256, by omega⟩) (l 1 ⟨e.val % 256, by omega⟩) (l 2 ⟨e.val % 256, by omega⟩) (l ⟨e.val / 256, by omega⟩ ⟨e.val % 256, by omega⟩)

end Cert.Share

end
-- ==== Proof.MergeBlock.lean ====
/-
  The merging layer tail's output block at a row: both of its halves are the row's function of the three groups' rows, the
  residual's row and the weights.
-/
module

public import proofs.«01_k».proof.Proof.Stage
public import proofs.«01_k».proof.Proof.Share
public import proofs.«01_k».proof.Proof.TailBlock

@[expose] public section

set_option maxRecDepth 16384

noncomputable section

namespace Cert.MergeBlock

open Idealize.ShloMosaic Idealize.ShloMosaic.TcCoe Cert.MergeIdeal Cert.MergeIdeal.Gen
open Cert.MergeIdeal.Facts Cert.Stage

/-! ## The merged heads -/

section
variable (a0 a1 a2 l0 l1 : FVec Ideal S512x256 .f32) (b c : Vec Ideal S1x512x128 .f32)

/-- A row's merged heads, from the rows' outputs and log denominators. -/
theorem heads_apply (p : Fin 512) (e : Fin 768) :
    k0_pay96 a0 a1 a2 l0 l1 (k0_pay94 b c) (k0_pay95 l0 l1 b c) (ix2 p e)
      = Share.merged ![fun k => a0 (ix2 p k), fun k => a1 (ix2 p k), fun k => a2 (ix2 p k)]
          ![fun k => l0 (ix2 p k), fun k => l1 (ix2 p k), fun k => k0_pay94 b c (ix2 p k)] e := by
  have key (o x : FVec Ideal S512x256 .f32) (k : Fin 256) :
      mulf o (mulf (exp2 (subf x (k0_pay95 l0 l1 b c)))
        (divf (broadcast S512x256 (Scalar.ofBits .f32 0x3F800000#32)) (addf (addf (exp2 (subf l0 (k0_pay95 l0 l1 b c))) (exp2 (subf l1 (k0_pay95 l0 l1 b c))))
          (exp2 (subf (k0_pay94 b c) (k0_pay95 l0 l1 b c)))))) (ix2 p k)
        = o (ix2 p k) * Share.share (l0 (ix2 p k)) (l1 (ix2 p k)) (k0_pay94 b c (ix2 p k)) (x (ix2 p k)) := by
    pointwise [k0_pay95, Share.share, Share.wt]
    rfl
  unfold Share.merged
  by_cases h0 : e.val < 256
  · rw [show (⟨e.val / 256, by omega⟩ : Fin 3) = 0 from Fin.ext (show e.val / 256 = 0 by omega),
      show (⟨e.val % 256, by omega⟩ : Fin 256) = ⟨e.val, h0⟩ from Fin.ext (show e.val % 256 = e.val by omega)]
    refine Eq.trans ?_ (key a0 l0 ⟨e.val, h0⟩)
    pointwise [k0_pay96]
    simp [h0]
  by_cases h1 : e.val < 512
  · rw [show (⟨e.val / 256, by omega⟩ : Fin 3) = 1 from Fin.ext (show e.val / 256 = 1 by omega),
      show (⟨e.val % 256, by omega⟩ : Fin 256) = ⟨e.val - 256, by omega⟩ from Fin.ext (show e.val % 256 = e.val - 256 by omega)]
    refine Eq.trans ?_ (key a1 l1 ⟨e.val - 256, by omega⟩)
    pointwise [k0_pay96]
    simp only [h0, dif_neg, not_false_eq_true]
    rw [dif_pos (by omega)]
  · rw [show (⟨e.val / 256, by omega⟩ : Fin 3) = 2 from Fin.ext (show e.val / 256 = 2 by omega),
      show (⟨e.val % 256, by omega⟩ : Fin 256) = ⟨e.val - 256 - 256, by omega⟩ from Fin.ext (show e.val % 256 = e.val - 256 - 256 by omega)]
    refine Eq.trans ?_ (key a2 (k0_pay94 b c) ⟨e.val - 256 - 256, by omega⟩)
    pointwise [k0_pay96]
    simp only [h0, dif_neg, not_false_eq_true]
    rw [dif_neg (by omega)]

/-- The product of a half's merged heads with the output projection. -/
def mixOf (o : ℕ) (h : S512x768.Slices ![o, 0] S256x768) (w : FVec Ideal S768x1024 .bf16) : FVec Ideal S256x1024 .f32 :=
  matmul dot_S256x768_S768x1024_S256x1024_1_0_0_1_n_n none
    (extractStridedSlice S256x768 ![o, 0] (k0_pay96 a0 a1 a2 l0 l1 (k0_pay94 b c) (k0_pay95 l0 l1 b c)) h) w (constant S256x1024 .f32 0x00000000#32)

theorem mixOf_apply (o : ℕ) (h : S512x768.Slices ![o, 0] S256x768) (ho : o ≤ 256) (w : FVec Ideal S768x1024 .bf16) (r : Fin 256) (j : Fin 1024) :
    mixOf a0 a1 a2 l0 l1 b c o h w (ix2 r j)
      = ∑ e : Fin 768, k0_pay96 a0 a1 a2 l0 l1 (k0_pay94 b c) (k0_pay95 l0 l1 b c) (ix2 ⟨o + r.val, by omega⟩ e) * w (ix2 e j) := by
  pointwise [mixOf]

end

/-! ## The block -/

/-- The groups' outputs at a position of the block. -/
def outsAt (x0 : S1x1x512x256.Idx → EReal) (x1 : S1x4x128x256.Idx → EReal) (x2 : S1x16x32x256.Idx → EReal) (p : Fin 512) : Fin 3 → Fin 256 → EReal :=
  ![fun k => x0 (ix4 0 0 p k), at4 x1 p, at16 x2 p]

/-- The output block at an index: the row's function of the blocks' rows. -/
def blk (x0 : Vec Ideal S1x1x512x256 .bf16) (x1 : Vec Ideal S1x4x128x256 .bf16) (x2 : Vec Ideal S1x16x32x256 .bf16)
    (x3 : Vec Ideal S1x1x512x256 .f32) (x4 : Vec Ideal S1x4x128x256 .f32) (x5 : Vec Ideal S1x16x32x256 .f32) (x6 : Vec Ideal S512x1024 .f32)
    (x7 : Vec Ideal S768x1024 .bf16) (x8 x9 : Vec Ideal S1x1024 .f32) (x10 : Vec Ideal S1024x4096 .bf16) (x11 : Vec Ideal S4096x1024 .bf16)
    (x12 x13 : Vec Ideal S1x1024 .f32) (y : S512x1024.Idx) : EReal :=
  Norm.row (fun j => ∑ e : Fin 768, Share.merged (outsAt x0 x1 x2 (y 0)) (outsAt x3 x4 x5 (y 0)) e * x7 (ix2 e j)) (fun j => x6 (ix2 (y 0) j))
    (fun j => x8 (ix2 0 j)) (fun j => x9 (ix2 0 j)) (fun e f => x10 (ix2 e f)) (fun f j => x11 (ix2 f j)) (fun j => x12 (ix2 0 j)) (fun j => x13 (ix2 0 j)) (y 1)

section
variable (x0 : Vec Ideal S1x1x512x256 .bf16) (x1 : Vec Ideal S1x4x128x256 .bf16) (x2 : Vec Ideal S1x16x32x256 .bf16)
    (x3 : Vec Ideal S1x1x512x256 .f32) (x4 : Vec Ideal S1x4x128x256 .f32) (x5 : Vec Ideal S1x16x32x256 .f32) (x6 : Vec Ideal S512x1024 .f32)
    (x7 : Vec Ideal S768x1024 .bf16) (x8 x9 : Vec Ideal S1x1024 .f32) (x10 : Vec Ideal S1024x4096 .bf16) (x11 : Vec Ideal S4096x1024 .bf16)
    (x12 x13 : Vec Ideal S1x1024 .f32)

/-- What a half stores is the block's function at the half's rows. -/
theorem store (a0 a1 a2 l0 l1 : FVec Ideal S512x256 .f32) (b c : Vec Ideal S1x512x128 .f32)
    (ha0 : ∀ p k, a0 (ix2 p k) = x0 (ix4 0 0 p k)) (ha1 : ∀ p k, a1 (ix2 p k) = at4 x1 p k) (ha2 : ∀ p k, a2 (ix2 p k) = at16 x2 p k)
    (hl0 : ∀ p k, l0 (ix2 p k) = x3 (ix4 0 0 p k)) (hl1 : ∀ p k, l1 (ix2 p k) = at4 x4 p k) (hl2 : ∀ p k, k0_pay94 b c (ix2 p k) = at16 x5 p k)
    (o : ℕ) (h : S512x768.Slices ![o, 0] S256x768) (ho : o ≤ 256)
    (inb : ∀ a, (![o, 0] : Fin 2 → ℕ) a + S256x1024.size a ≤ S512x1024.size a) (i : S256x1024.Idx) :
    TailBlock.half (mixOf a0 a1 a2 l0 l1 b c o h (View.ld x7 (Rect.unit (s := S768x1024) ![0, 0] S768x1024.size inb_S768x1024_S768x1024_0_0)))
      (View.ld x6 (Rect.unit (s := S512x1024) ![o, 0] S256x1024.size inb))
      (View.ld x8 (Rect.unit (s := S1x1024) ![0, 0] S1x1024.size inb_S1x1024_S1x1024_0_0)) (View.ld x9 (Rect.unit (s := S1x1024) ![0, 0] S1x1024.size inb_S1x1024_S1x1024_0_0))
      (View.ld x10 (Rect.unit (s := S1024x4096) ![0, 0] S1024x1024.size inb_S1024x4096_S1024x1024_0_0))
      (View.ld x10 (Rect.unit (s := S1024x4096) ![0, 1024] S1024x1024.size inb_S1024x4096_S1024x1024_0_1024))
      (View.ld x10 (Rect.unit (s := S1024x4096) ![0, 2048] S1024x1024.size inb_S1024x4096_S1024x1024_0_2048))
      (View.ld x10 (Rect.unit (s := S1024x4096) ![0, 3072] S1024x1024.size inb_S1024x4096_S1024x1024_0_3072))
      (View.ld x11 (Rect.unit (s := S4096x1024) ![0, 0] S1024x1024.size inb_S4096x1024_S1024x1024_0_0))
      (View.ld x11 (Rect.unit (s := S4096x1024) ![1024, 0] S1024x1024.size inb_S4096x1024_S1024x1024_1024_0))
      (View.ld x11 (Rect.unit (s := S4096x1024) ![2048, 0] S1024x1024.size inb_S4096x1024_S1024x1024_2048_0))
      (View.ld x11 (Rect.unit (s := S4096x1024) ![3072, 0] S1024x1024.size inb_S4096x1024_S1024x1024_3072_0))
      (View.ld x12 (Rect.unit (s := S1x1024) ![0, 0] S1x1024.size inb_S1x1024_S1x1024_0_0)) (View.ld x13 (Rect.unit (s := S1x1024) ![0, 0] S1x1024.size inb_S1x1024_S1x1024_0_0)) i
      = blk x0 x1 x2 x3 x4 x5 x6 x7 x8 x9 x10 x11 x12 x13 ((Rect.unit (s := S512x1024) ![o, 0] S256x1024.size inb).emb i) := by
  obtain ⟨r, j, rfl⟩ : ∃ (r : Fin 256) (j : Fin 1024), i = ix2 r j := ⟨i 0, i 1, by funext a; fin_cases a <;> rfl⟩
  have er : (Rect.unit (s := S512x1024) ![o, 0] S256x1024.size inb).emb (ix2 r j) = ix2 (⟨o + r.val, by omega⟩ : Fin 512) j := by
    funext a
    fin_cases a <;> apply Fin.ext <;> simp [Rect.emb, Rect.unit]
  rw [er]
  refine (TailBlock.half_apply _ _ _ _ _ _ _ _ _ _ _ _ _ _ (fun e f => x10 (ix2 e f)) (fun f j => x11 (ix2 f j)) ?_ ?_ ?_ ?_ ?_ ?_ ?_ ?_ _ _).trans ?_
  iterate 8 (intro e f; pointwise)
  refine Norm.row_congr (fun j => ?_) (fun j => ?_) (fun j => ?_) (fun j => ?_) (fun j => ?_) (fun j => ?_) j
  · refine (mixOf_apply _ _ _ _ _ _ _ o h ho _ r j).trans (Finset.sum_congr rfl fun e _ => ?_)
    congr 1
    · rw [heads_apply]
      simp only [ha0, ha1, ha2, hl0, hl1, hl2]
      rfl
    · pointwise
  iterate 5 pointwise

theorem out14_apply (c : Dev nD) (i : grid0.Coords) (arg1 : Memref sig .tc .vmem S1x1x512x256 .bf16) (harg1 : arg1.IsWhole) (arg2 : Memref sig .tc .vmem S1x4x128x256 .bf16)
    (harg2 : arg2.IsWhole) (arg3 : Memref sig .tc .vmem S1x16x32x256 .bf16) (harg3 : arg3.IsWhole) (arg4 : Memref sig .tc .vmem S1x1x512x256 .f32) (harg4 : arg4.IsWhole)
    (arg5 : Memref sig .tc .vmem S1x4x128x256 .f32) (harg5 : arg5.IsWhole) (arg6 : Memref sig .tc .vmem S1x16x32x256 .f32) (harg6 : arg6.IsWhole)
    (arg7 : Memref sig .tc .vmem S512x1024 .f32) (harg7 : arg7.IsWhole) (arg8 : Memref sig .tc .vmem S768x1024 .bf16) (harg8 : arg8.IsWhole)
    (arg9 : Memref sig .tc .vmem S1x1024 .f32) (harg9 : arg9.IsWhole) (arg10 : Memref sig .tc .vmem S1x1024 .f32) (harg10 : arg10.IsWhole)
    (arg11 : Memref sig .tc .vmem S1024x4096 .bf16) (harg11 : arg11.IsWhole) (arg12 : Memref sig .tc .vmem S4096x1024 .bf16) (harg12 : arg12.IsWhole)
    (arg13 : Memref sig .tc .vmem S1x1024 .f32) (harg13 : arg13.IsWhole) (arg14 : Memref sig .tc .vmem S1x1024 .f32) (harg14 : arg14.IsWhole)
    (arg15 : Memref sig .tc .vmem S512x1024 .f32) (harg15 : arg15.IsWhole) (arg16 : Memref sig .tc .vmem S12x512x128 .f32) (harg16 : arg16.IsWhole) (y : S512x1024.Idx) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 y = blk x0 x1 x2 x3 x4 x5 x6 x7 x8 x9 x10 x11 x12 x13 y := by
  have half := store x0 x1 x2 x3 x4 x5 x6 x7 x8 x9 x10 x11 x12 x13 (kernelRun0_A.sl.r c arg1 harg1 x0) (kernelRun0_A.sl.r_2 c arg2 harg2 arg16 x1)
    (kernelRun0_A.sl.r_8 c arg2 harg2 arg3 harg3 arg16 x1 x2) (kernelRun0_A.sl.r_9 c arg4 harg4 x3) (kernelRun0_A.sl.r_11 c arg2 harg2 arg3 harg3 arg5 harg5 arg16 x1 x2 x4)
    (kernelRun0_A.sl.v460 c arg2 harg2 arg3 harg3 arg5 harg5 arg6 harg6 arg16 x1 x2 x4 x5) (kernelRun0_A.sl.v462 c arg2 harg2 arg3 harg3 arg5 harg5 arg6 harg6 arg16 x1 x2 x4 x5)
    (fun p k => by pointwise [kernelRun0_A.sl.r, k0_pay2, View.readAt_eq_ld, Memref.IsWhole.read_unread])
    (pair _ _ _ (v51_apply x1 c arg2 harg2 arg16) (v53_apply x1 c arg2 harg2 arg16))
    (pair _ _ _ (v248_apply x1 x2 c arg2 harg2 arg3 harg3 arg16) (v250_apply x1 x2 c arg2 harg2 arg3 harg3 arg16))
    (fun p k => by pointwise [kernelRun0_A.sl.r_9, k0_pay49, View.readAt_eq_ld, Memref.IsWhole.read_unread])
    (pair _ _ _ (v295_apply x1 x2 x4 c arg2 harg2 arg3 harg3 arg5 harg5 arg16) (v297_apply x1 x2 x4 c arg2 harg2 arg3 harg3 arg5 harg5 arg16))
    (pair _ _ _ (v460_apply x1 x2 x4 x5 c arg2 harg2 arg3 harg3 arg5 harg5 arg6 harg6 arg16) (v462_apply x1 x2 x4 x5 c arg2 harg2 arg3 harg3 arg5 harg5 arg6 harg6 arg16))
  unfold out0_A_14
  rw [View.read_writes_junk_eq_canon]
  have hc := cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 y
  revert hc
  unfold kernelRun0_A
  dsimp only
  intro hc
  refine View.canon_apply_of_pieces (Val := Elt Ideal) (e := .f32) (fun y : S512x1024.Idx => blk x0 x1 x2 x3 x4 x5 x6 x7 x8 x9 x10 x11 x12 x13 y) _ ?_ y hc
  simp only [List.forall_mem_cons, List.not_mem_nil, false_imp_iff, implies_true, and_true]
  simp only [kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, View.readAt_eq_ld, Memref.IsWhole.read_unread]
  exact ⟨half 256 slices_S512x768_o256_0_S256x768 (by decide) _, half 0 slices_S512x768_o0_0_S256x768 (by decide) _⟩

end

end Cert.MergeBlock

end
-- ==== Proof.MergeWhole.lean ====
/-
  The merging layer tail's result array as a function of its argument arrays, row by row.
-/
module

public import proofs.«01_k».proof.Proof.MergeBlock
public import Idealize.ShloMosaic.Lib.Pipeline.ValueKit

@[expose] public section

set_option maxRecDepth 16384

noncomputable section

namespace Cert.MergeWhole

open Idealize.ShloMosaic Idealize.ShloMosaic.TcCoe Cert.MergeIdeal Cert.MergeIdeal.Gen

/-- The groups' arrays at the token of flat position `n`: its residue class, and its place in the class. -/
def token (A0 : S4x1x8192x256.Idx → EReal) (A1 : S4x4x2048x256.Idx → EReal) (A2 : S4x16x512x256.Idx → EReal) (n : Fin 32768) : Fin 3 → Fin 256 → EReal :=
  ![fun k => A0 (ix4 ⟨n.val / 8192, by omega⟩ 0 ⟨n.val % 8192, by omega⟩ k),
    fun k => A1 (ix4 ⟨n.val / 8192, by omega⟩ ⟨n.val % 4, by omega⟩ ⟨n.val % 8192 / 4, by omega⟩ k),
    fun k => A2 (ix4 ⟨n.val / 8192, by omega⟩ ⟨n.val % 16, by omega⟩ ⟨n.val % 8192 / 16, by omega⟩ k)]

/-- The merging layer tail of the token of flat position `n`. -/
def whole (O0 : S4x1x8192x256.Idx → EReal) (O1 : S4x4x2048x256.Idx → EReal) (O2 : S4x16x512x256.Idx → EReal)
    (L0 : S4x1x8192x256.Idx → EReal) (L1 : S4x4x2048x256.Idx → EReal) (L2 : S4x16x512x256.Idx → EReal) (x : S32768x1024.Idx → EReal)
    (wo : S768x1024.Idx → EReal) (g1 b1 : S1x1024.Idx → EReal) (win : S1024x4096.Idx → EReal) (wout : S4096x1024.Idx → EReal)
    (g2 b2 : S1x1024.Idx → EReal) (n : Fin 32768) (j : Fin 1024) : EReal :=
  Norm.row (fun j => ∑ e : Fin 768, Share.merged (token O0 O1 O2 n) (token L0 L1 L2 n) e * wo (ix2 e j)) (fun j => x (ix2 n j))
    (fun j => g1 (ix2 0 j)) (fun j => b1 (ix2 0 j)) (fun e f => win (ix2 e f)) (fun f j => wout (ix2 f j))
    (fun j => g2 (ix2 0 j)) (fun j => b2 (ix2 0 j)) j

variable (m : (ℓ : Loc nD τ sig) → Buf (Elt Ideal) ℓ) (c : Dev nD)

theorem idx_groups (t : Fin cfg0.N) : (win0_0.index t = ![t.val / 16, 0, t.val % 16, 0] ∧ win0_1.index t = ![t.val / 16, 0, t.val % 16, 0]
    ∧ win0_2.index t = ![t.val / 16, 0, t.val % 16, 0]) ∧ win0_3.index t = ![t.val / 16, 0, t.val % 16, 0] ∧ win0_4.index t = ![t.val / 16, 0, t.val % 16, 0]
    ∧ win0_5.index t = ![t.val / 16, 0, t.val % 16, 0] :=
  (by decide +kernel : ∀ t : Fin grid0.N, (win0_0.index t = ![t.val / 16, 0, t.val % 16, 0] ∧ win0_1.index t = ![t.val / 16, 0, t.val % 16, 0]
    ∧ win0_2.index t = ![t.val / 16, 0, t.val % 16, 0]) ∧ win0_3.index t = ![t.val / 16, 0, t.val % 16, 0] ∧ win0_4.index t = ![t.val / 16, 0, t.val % 16, 0]
    ∧ win0_5.index t = ![t.val / 16, 0, t.val % 16, 0]) t

theorem idx_tile (t : Fin cfg0.N) : (win0_6.index t = ![t.val, 0] ∧ win0_14.index t = ![t.val, 0])
    ∧ (win0_7.index t = ![0, 0] ∧ win0_8.index t = ![0, 0] ∧ win0_9.index t = ![0, 0] ∧ win0_10.index t = ![0, 0])
    ∧ (win0_11.index t = ![0, 0] ∧ win0_12.index t = ![0, 0] ∧ win0_13.index t = ![0, 0]) :=
  (by decide +kernel : ∀ t : Fin grid0.N, (win0_6.index t = ![t.val, 0] ∧ win0_14.index t = ![t.val, 0])
    ∧ (win0_7.index t = ![0, 0] ∧ win0_8.index t = ![0, 0] ∧ win0_9.index t = ![0, 0] ∧ win0_10.index t = ![0, 0])
    ∧ (win0_11.index t = ![0, 0] ∧ win0_12.index t = ![0, 0] ∧ win0_13.index t = ![0, 0])) t

/-- The outputs of a block's position are the token's. -/
theorem outs_eq (t : Fin cfg0.N) (p : Fin 512) (n : Fin 32768) (hn : n.val = t.val * 512 + p.val) :
    MergeBlock.outsAt (iblk m c 0 t) (iblk m c 1 t) (iblk m c 2 t) p
      = token (m ((c : Thread nD τ).loc main_arg0)) (m ((c : Thread nD τ).loc main_arg1)) (m ((c : Thread nD τ).loc main_arg2)) n := by
  obtain ⟨⟨i0, i1, i2⟩, -⟩ := idx_groups t
  funext g k
  fin_cases g
  · show iblk m c 0 t (ix4 0 0 p k) = _
    blk_ext [iblk, V, i0, token]
  · show iblk m c 1 t (ix4 0 _ _ k) = _
    blk_ext [iblk, V, i1, token]
  · show iblk m c 2 t (ix4 0 _ _ k) = _
    blk_ext [iblk, V, i2, token]

/-- The log denominators of a block's position are the token's. -/
theorem lses_eq (t : Fin cfg0.N) (p : Fin 512) (n : Fin 32768) (hn : n.val = t.val * 512 + p.val) :
    MergeBlock.outsAt (iblk m c 3 t) (iblk m c 4 t) (iblk m c 5 t) p
      = token (m ((c : Thread nD τ).loc main_arg3)) (m ((c : Thread nD τ).loc main_arg4)) (m ((c : Thread nD τ).loc main_arg5)) n := by
  obtain ⟨-, i3, i4, i5⟩ := idx_groups t
  funext g k
  fin_cases g
  · show iblk m c 3 t (ix4 0 0 p k) = _
    blk_ext [iblk, V, i3, token]
  · show iblk m c 4 t (ix4 0 _ _ k) = _
    blk_ext [iblk, V, i4, token]
  · show iblk m c 5 t (ix4 0 _ _ k) = _
    blk_ext [iblk, V, i5, token]

theorem arr14 : (dats m 0 c).arrAt 14 cfg0.N = fun y : S32768x1024.Idx => whole
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (y 0) (y 1) := by
  refine (dats m 0 c).arrAt_eq_of_covers 14 _ (by decide +kernel) fun t hf y => ?_
  blk_simp
  rw [after0_14]
  obtain ⟨⟨i6, i14⟩, ⟨i7, i8, i9, i10⟩, i11, i12, i13⟩ := idx_tile t
  unfold outsAt0
  refine (MergeBlock.out14_apply _ _ _ _ _ _ _ _ _ _ _ _ _ _ _ _ _ _ _ _ _ _ _ _ _ _ _ _ _ _ _ _ _ _ _ _ _ _ _ _ _ _ _ _ _ _ _ _ y).trans ?_
  unfold MergeBlock.blk whole
  have e1 : (win0_14.blk t).view.emb y 1 = y 1 := by apply Fin.ext; blk_simp [i14]
  have e0 : ((win0_14.blk t).view.emb y 0).val = t.val * 512 + (y 0).val := by blk_simp [i14]
  have ew (e : Fin 1024) (f : Fin 4096) : iblk m c 10 t (ix2 e f) = m ((c : Thread nD τ).loc main_arg10) (ix2 e f) := by blk_ext [iblk, V, i10]
  have eu (f : Fin 4096) (j : Fin 1024) : iblk m c 11 t (ix2 f j) = m ((c : Thread nD τ).loc main_arg11) (ix2 f j) := by blk_ext [iblk, V, i11]
  rw [e1, outs_eq m c t (y 0) _ e0, lses_eq m c t (y 0) _ e0]
  simp only [ew, eu]
  refine Norm.row_congr (fun j => Finset.sum_congr rfl fun e _ => ?_) (fun j => ?_) (fun j => ?_) (fun j => ?_) (fun j => ?_) (fun j => ?_) _
  · congr 1
    blk_ext [iblk, V, i7]
  · blk_ext [iblk, V, i6, i14]
  · blk_ext [iblk, V, i8]
  · blk_ext [iblk, V, i9]
  · blk_ext [iblk, V, i12]
  · blk_ext [iblk, V, i13]

end Cert.MergeWhole

end
-- ==== Proof.MergeRef.lean ====
/-
  The merging layer tail's reference, read at a token and a lane.
-/
module

public import proofs.«01_k».proof.Proof.MergeWhole
public import proofs.«01_k».proof.Proof.TailRef
public import proofs.«01_k».proof.Proof.Host
public import proofs.«01_k».proof.Proof.Bridge
public import proofs.«01_k».proof.Pre_finite_lse
public import proofs.«01_k».proof.Proof.Gen.MergeRefIdeal.Run

@[expose] public section

set_option maxRecDepth 16384

noncomputable section

namespace Cert.MergeRef

open Idealize.ShloMosaic Idealize.ShloMosaic.TcCoe Cert.MergeRefIdeal
open Cert.MergeRefIdeal.Gen Cert.MergeRefIdeal.Facts

/-- A group of one class in the order of the positions. -/
def ord0 (t : FVec Ideal S4x1x8192x256 .f32) : FVec Ideal S32768x256 .f32 :=
  shapeCast _ (transpose S4x8192x1x256 [0, 2, 1, 3] t transposes_S4x1x8192x256_S4x8192x1x256_0_2_1_3) shapeCasts_S4x8192x1x256_S32768x256

/-- A group of four classes in the order of the positions. -/
def ord1 (t : FVec Ideal S4x4x2048x256 .f32) : FVec Ideal S32768x256 .f32 :=
  shapeCast _ (transpose S4x2048x4x256 [0, 2, 1, 3] t transposes_S4x4x2048x256_S4x2048x4x256_0_2_1_3) shapeCasts_S4x2048x4x256_S32768x256

/-- A group of sixteen classes in the order of the positions. -/
def ord2 (t : FVec Ideal S4x16x512x256 .f32) : FVec Ideal S32768x256 .f32 :=
  shapeCast _ (transpose S4x512x16x256 [0, 2, 1, 3] t transposes_S4x16x512x256_S4x512x16x256_0_2_1_3) shapeCasts_S4x512x16x256_S32768x256

/-- Three groups on one axis. -/
def stack (a0 a1 a2 : FVec Ideal S32768x256 .f32) : FVec Ideal S3x32768x256 .f32 :=
  concatenate S3x32768x256 0 [⟨S1x32768x256, broadcastInDim S1x32768x256 ![1, 2] bcast_S32768x256_S1x32768x256_1_2 a0⟩,
    ⟨S1x32768x256, broadcastInDim S1x32768x256 ![1, 2] bcast_S32768x256_S1x32768x256_1_2 a1⟩,
    ⟨S1x32768x256, broadcastInDim S1x32768x256 ![1, 2] bcast_S32768x256_S1x32768x256_1_2 a2⟩] concatenates_S1x32768x256_S1x32768x256_S1x32768x256_S3x32768x256_d0

/-- Log denominators in base e. -/
def nat (a : FVec Ideal S32768x256 .f32) : FVec Ideal S32768x256 .f32 :=
  mulf a (broadcastInDim S32768x256 ![] bcast_S_S32768x256 (Host.log (constant S_ .f32 0x40000000#32)))

/-- One value for the three groups. -/
def three (a : FVec Ideal S32768x256 .f32) : FVec Ideal S3x32768x256 .f32 :=
  broadcastInDim S3x32768x256 ![0, 1, 2] bcast_S1x32768x256_S3x32768x256_0_1_2 (broadcastInDim S1x32768x256 ![1, 2] bcast_S32768x256_S1x32768x256_1_2 a)

/-- The groups' weights below the largest log denominator. -/
def wts (s : FVec Ideal S3x32768x256 .f32) : FVec Ideal S3x32768x256 .f32 :=
  Host.exp (subf s (three (Host.reduce FloatOps.maximumf s (constant S_ .f32 0xFF800000#32) reducesTo_S3x32768x256_S32768x256_d0 h_S_)))

/-- The groups' shares. -/
def alpha (s : FVec Ideal S3x32768x256 .f32) : FVec Ideal S3x32768x256 .f32 :=
  Host.divf (wts s) (three (Host.reduceAdd (wts s) (constant S_ .f32 0x00000000#32) reducesTo_S3x32768x256_S32768x256_d0 h_S_))

/-- The product of the merged heads with the output projection. -/
def mix (o s : FVec Ideal S3x32768x256 .f32) (wo : FVec Ideal S768x1024 .bf16) : FVec Ideal S32768x1024 .f32 :=
  Host.dotGeneral dot_S32768x768_S768x1024_S32768x1024_1_0_0_1_n_n none
    (shapeCast _ (transpose S32768x3x256 [1, 0, 2] (mulf o (alpha s)) transposes_S3x32768x256_S32768x3x256_1_0_2) shapeCasts_S32768x3x256_S32768x768)
    (extf .f32 wo bitsLt_bf16_f32)

theorem ord0_apply (t : FVec Ideal S4x1x8192x256 .f32) (n : Fin 32768) (k : Fin 256) :
    ord0 t (ix2 n k) = t (ix4 ⟨n.val / 8192, by omega⟩ 0 ⟨n.val % 8192, by omega⟩ k) := by
  pointwise [ord0]

theorem ord1_apply (t : FVec Ideal S4x4x2048x256 .f32) (n : Fin 32768) (k : Fin 256) :
    ord1 t (ix2 n k) = t (ix4 ⟨n.val / 8192, by omega⟩ ⟨n.val % 4, by omega⟩ ⟨n.val % 8192 / 4, by omega⟩ k) := by
  pointwise [ord1]
  refine congrArg t (congrArg (fun i => ix4 _ _ i k) (Fin.ext ?_))
  show n.val / 4 % 2048 = n.val % 8192 / 4
  omega

theorem ord2_apply (t : FVec Ideal S4x16x512x256 .f32) (n : Fin 32768) (k : Fin 256) :
    ord2 t (ix2 n k) = t (ix4 ⟨n.val / 8192, by omega⟩ ⟨n.val % 16, by omega⟩ ⟨n.val % 8192 / 16, by omega⟩ k) := by
  pointwise [ord2]
  refine congrArg t (congrArg (fun i => ix4 _ _ i k) (Fin.ext ?_))
  show n.val / 16 % 512 = n.val % 8192 / 16
  omega

theorem stack_apply (a0 a1 a2 : FVec Ideal S32768x256 .f32) (g : Fin 3) (n : Fin 32768) (k : Fin 256) :
    stack a0 a1 a2 (ix3 g n k) = ![a0 (ix2 n k), a1 (ix2 n k), a2 (ix2 n k)] g := by
  fin_cases g <;> pointwise [stack] <;> rfl

theorem nat_apply (a : FVec Ideal S32768x256 .f32) (n : Fin 32768) (k : Fin 256) :
    nat a (ix2 n k) = a (ix2 n k) * ((Real.log 2 : ℝ) : EReal) := by
  pointwise [nat]
  rw [Ref.two_word, Soft.log_coe (by norm_num)]

theorem three_apply (a : FVec Ideal S32768x256 .f32) (g : Fin 3) (n : Fin 32768) (k : Fin 256) : three a (ix3 g n k) = a (ix2 n k) := by
  pointwise [three]

theorem wts_apply (s : FVec Ideal S3x32768x256 .f32) (g : Fin 3) (n : Fin 32768) (k : Fin 256) :
    wts s (ix3 g n k) = Ideal.exp (s (ix3 g n k) - Soft.top fun g => s (ix3 g n k)) := by
  pointwise [wts, three_apply, Soft.top]
  rw [Dil.ofBits_bot]

theorem alpha_apply (s : FVec Ideal S3x32768x256 .f32) (g : Fin 3) (n : Fin 32768) (k : Fin 256) :
    alpha s (ix3 g n k) = Share.shareE (fun g => s (ix3 g n k)) g := by
  pointwise [alpha, three_apply, wts_apply, Share.shareE]

theorem mix_apply (o s : FVec Ideal S3x32768x256 .f32) (wo : FVec Ideal S768x1024 .bf16) (n : Fin 32768) (j : Fin 1024) :
    mix o s wo (ix2 n j) = ∑ e : Fin 768, o (ix3 ⟨e.val / 256, by omega⟩ n ⟨e.val % 256, by omega⟩)
      * Share.shareE (fun g => s (ix3 g n ⟨e.val % 256, by omega⟩)) ⟨e.val / 256, by omega⟩ * wo (ix2 e j) := by
  pointwise [mix, alpha_apply]

/-- The reference's result is its tail's. -/
theorem res_layer (m : (ℓ : Loc nD τ sig) → Buf (Elt Ideal) ℓ) (c : Dev nD) :
    TailRef.norm (Value.res_main_v81 (StableHlo.launchContents m c)) (m ((c.tc : Thread nD τ).loc main_arg12)) (m ((c.tc : Thread nD τ).loc main_arg13))
      = TailRef.layer (mix (stack (ord0 (extf .f32 (m ((c.tc : Thread nD τ).loc main_arg0)) bitsLt_bf16_f32))
          (ord1 (extf .f32 (m ((c.tc : Thread nD τ).loc main_arg1)) bitsLt_bf16_f32)) (ord2 (extf .f32 (m ((c.tc : Thread nD τ).loc main_arg2)) bitsLt_bf16_f32)))
        (stack (nat (ord0 (m ((c.tc : Thread nD τ).loc main_arg3)))) (nat (ord1 (m ((c.tc : Thread nD τ).loc main_arg4)))) (nat (ord2 (m ((c.tc : Thread nD τ).loc main_arg5)))))
        (m ((c.tc : Thread nD τ).loc main_arg7))) (m ((c.tc : Thread nD τ).loc main_arg6)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)) (m ((c.tc : Thread nD τ).loc main_arg13)) := rfl

/-- An entry below infinity in size is a real. -/
theorem below_inf {s : Shape} (x z : s.Idx → EReal) (i : s.Idx) (hz : z i = ⊤)
    (h : Ideal.cmp .olt (max (x i) (-(x i))) (z i) = 1#1) : ∃ r : ℝ, x i = (r : EReal) := by
  rw [hz] at h
  apply Bridge.real_of_abs
  by_contra hc
  simp [Ideal.cmp, hc] at h

/-- What the precondition says: every log denominator is a real. -/
theorem reals [Cert.Pre_finite_lse.Facts] {o0 : FVec Ideal S4x1x8192x256 .bf16} {o1 : FVec Ideal S4x4x2048x256 .bf16} {o2 : FVec Ideal S4x16x512x256 .bf16}
    {l0 : FVec Ideal S4x1x8192x256 .f32} {l1 : FVec Ideal S4x4x2048x256 .f32} {l2 : FVec Ideal S4x16x512x256 .f32} {x : FVec Ideal S32768x1024 .f32}
    {wo : FVec Ideal S768x1024 .bf16} {g1 b1 : FVec Ideal S1x1024 .f32} {win : FVec Ideal S1024x4096 .bf16} {wout : FVec Ideal S4096x1024 .bf16}
    {g2 b2 : FVec Ideal S1x1024 .f32}
    (h : Cert.Pre_finite_lse.fn (F := Ideal) o0 o1 o2 l0 l1 l2 x wo g1 b1 win wout g2 b2 = fun _ => 1#1) :
    (∀ i, ∃ r : ℝ, l0 i = (r : EReal)) ∧ (∀ i, ∃ r : ℝ, l1 i = (r : EReal)) ∧ ∀ i, ∃ r : ℝ, l2 i = (r : EReal) := by
  have h0 := congrFun h (fun a => a.elim0)
  dsimp only [Cert.Pre_finite_lse.fn] at h0
  obtain ⟨h1, h2⟩ := IntOp.andi_eq_one.1 h0
  obtain ⟨h3, h4⟩ := IntOp.andi_eq_one.1 h1
  have hz : (Ideal.ofBits .f32 0x7F800000#32 : EReal) = ⊤ := by simp [Ideal.ofBits, Ideal.ieee]
  exact ⟨fun i => below_inf l0 _ i hz (Host.reduce_andi_all _ _ _ _ _ h3 i), fun i => below_inf l1 _ i hz (Host.reduce_andi_all _ _ _ _ _ h4 i),
    fun i => below_inf l2 _ i hz (Host.reduce_andi_all _ _ _ _ _ h2 i)⟩

/-- Under real log denominators the reference's merged heads are the kernel's. -/
theorem mix_merged (o0 : FVec Ideal S4x1x8192x256 .bf16) (o1 : FVec Ideal S4x4x2048x256 .bf16) (o2 : FVec Ideal S4x16x512x256 .bf16)
    {l0 : FVec Ideal S4x1x8192x256 .f32} {l1 : FVec Ideal S4x4x2048x256 .f32} {l2 : FVec Ideal S4x16x512x256 .f32}
    (h0 : ∀ i, ∃ r : ℝ, l0 i = (r : EReal)) (h1 : ∀ i, ∃ r : ℝ, l1 i = (r : EReal)) (h2 : ∀ i, ∃ r : ℝ, l2 i = (r : EReal))
    (wo : FVec Ideal S768x1024 .bf16) (n : Fin 32768) (j : Fin 1024) :
    mix (stack (ord0 (extf .f32 o0 bitsLt_bf16_f32)) (ord1 (extf .f32 o1 bitsLt_bf16_f32)) (ord2 (extf .f32 o2 bitsLt_bf16_f32)))
        (stack (nat (ord0 l0)) (nat (ord1 l1)) (nat (ord2 l2))) wo (ix2 n j)
      = ∑ e : Fin 768, Share.merged (MergeWhole.token o0 o1 o2 n) (MergeWhole.token l0 l1 l2 n) e * wo (ix2 e j) := by
  rw [mix_apply]
  refine Finset.sum_congr rfl fun e _ => congrArg (· * wo (ix2 e j)) ?_
  unfold Share.merged
  refine congrArg₂ (· * ·) ?_ ?_
  · rw [stack_apply, ord0_apply, ord1_apply, ord2_apply]
    generalize (⟨e.val / 256, _⟩ : Fin 3) = g
    fin_cases g <;> rfl
  · generalize (⟨e.val / 256, _⟩ : Fin 3) = g
    generalize (⟨e.val % 256, _⟩ : Fin 256) = k
    obtain ⟨r0, e0⟩ := h0 (ix4 ⟨n.val / 8192, by omega⟩ 0 ⟨n.val % 8192, by omega⟩ k)
    obtain ⟨r1, e1⟩ := h1 (ix4 ⟨n.val / 8192, by omega⟩ ⟨n.val % 4, by omega⟩ ⟨n.val % 8192 / 4, by omega⟩ k)
    obtain ⟨r2, e2⟩ := h2 (ix4 ⟨n.val / 8192, by omega⟩ ⟨n.val % 16, by omega⟩ ⟨n.val % 8192 / 16, by omega⟩ k)
    have hs : (fun g => stack (nat (ord0 l0)) (nat (ord1 l1)) (nat (ord2 l2)) (ix3 g n k))
        = fun g => ((![r0, r1, r2] g : ℝ) : EReal) * ((Real.log 2 : ℝ) : EReal) := by
      funext g
      rw [stack_apply, nat_apply, nat_apply, nat_apply, ord0_apply, ord1_apply, ord2_apply, e0, e1, e2]
      fin_cases g <;> rfl
    have ht : ∀ g, MergeWhole.token l0 l1 l2 n g k = ((![r0, r1, r2] g : ℝ) : EReal) := by
      intro g
      fin_cases g
      · exact e0
      · exact e1
      · exact e2
    rw [hs, Share.share_eq, ht, ht, ht, ht]

/-- The reference's layer is the kernel's. -/
theorem layer_whole (o0 : FVec Ideal S4x1x8192x256 .bf16) (o1 : FVec Ideal S4x4x2048x256 .bf16) (o2 : FVec Ideal S4x16x512x256 .bf16)
    {l0 : FVec Ideal S4x1x8192x256 .f32} {l1 : FVec Ideal S4x4x2048x256 .f32} {l2 : FVec Ideal S4x16x512x256 .f32}
    (h0 : ∀ i, ∃ r : ℝ, l0 i = (r : EReal)) (h1 : ∀ i, ∃ r : ℝ, l1 i = (r : EReal)) (h2 : ∀ i, ∃ r : ℝ, l2 i = (r : EReal))
    (x : FVec Ideal S32768x1024 .f32) (wo : FVec Ideal S768x1024 .bf16) (g1 b1 : FVec Ideal S1x1024 .f32) (win : FVec Ideal S1024x4096 .bf16)
    (wout : FVec Ideal S4096x1024 .bf16) (g2 b2 : FVec Ideal S1x1024 .f32) :
    TailRef.layer (mix (stack (ord0 (extf .f32 o0 bitsLt_bf16_f32)) (ord1 (extf .f32 o1 bitsLt_bf16_f32)) (ord2 (extf .f32 o2 bitsLt_bf16_f32)))
        (stack (nat (ord0 l0)) (nat (ord1 l1)) (nat (ord2 l2))) wo) x g1 b1 win wout g2 b2
      = fun y : S32768x1024.Idx => MergeWhole.whole o0 o1 o2 l0 l1 l2 x wo g1 b1 win wout g2 b2 (y 0) (y 1) := by
  funext y
  obtain ⟨n, j, rfl⟩ : ∃ n j, y = ix2 n j := ⟨y 0, y 1, (ix2_eta y).symm⟩
  refine (TailRef.layer_apply _ _ _ _ _ _ _ _ n j).trans ?_
  simp only [mix_merged o0 o1 o2 h0 h1 h2]
  rfl

end Cert.MergeRef

end
-- ==== Proof.ProjBlock.lean ====
/-
  The projections' output blocks at an index: the keys' rows and the queries' lanes rotated slab by slab, the values'
  lanes, and the keys' means over the blocks of 256 positions.
-/
module

public import proofs.«01_k».proof.Proof.Stage
public import proofs.«01_k».proof.Proof.Gen.ProjIdeal.Frame
public import proofs.«01_k».proof.Proof.Gen.ProjIdeal.Value

@[expose] public section

set_option maxRecDepth 16384

noncomputable section

namespace Cert.ProjBlock

open Idealize.ShloMosaic Idealize.ShloMosaic.TcCoe Cert.ProjIdeal Cert.ProjIdeal.Gen
open Cert.ProjIdeal.Facts

/-- A lane's place within its slab of 128 lanes. -/
def place (e : Fin 1024) : Fin 128 := ⟨e.val % 128, by omega⟩

/-- The lane of the same slab whose half of the slab is the other one. -/
def swap (e : Fin 1024) : Fin 1024 := ⟨e.val / 128 * 128 + (e.val % 128 + 64) % 128, by omega⟩

/-- A lane rotated: the lane times its cosine, plus the other half's lane times its signed sine. -/
def rot (t : Fin 1024 → EReal) (c s : Fin 128 → EReal) (e : Fin 1024) : EReal :=
  t e * c (place e) + t (swap e) * s (place e)

theorem rot_congr {t t' : Fin 1024 → EReal} {c c' s s' : Fin 128 → EReal} (ht : ∀ e, t e = t' e) (hc : ∀ l, c l = c' l)
    (hs : ∀ l, s l = s' l) (e : Fin 1024) : rot t c s e = rot t' c' s' e := by
  rw [funext ht, funext hc, funext hs]

/-- The number of positions of a block. -/
def count : EReal := FloatOps.ofBits (F := Ideal) .f32 0x43800000#32

/-- Lane `l` of the slab whose lanes begin at `o`. -/
def lane (o : Nat) (l1 : o + 128 ≤ 1024) (l : Fin 128) : Fin 1024 := ⟨o + l.val, by omega⟩

theorem place_lane (o : Nat) (h : o % 128 = 0) (l1 : o + 128 ≤ 1024) (l : Fin 128) : place (lane o l1 l) = l := by
  apply Fin.ext
  show (o + l.val) % 128 = l.val
  omega

theorem swap_lane (o : Nat) (h : o % 128 = 0) (l1 : o + 128 ≤ 1024) (l : Fin 128) :
    swap (lane o l1 l) = lane o l1 ⟨(l.val + 64) % 128, by omega⟩ := by
  apply Fin.ext
  show (o + l.val) / 128 * 128 + ((o + l.val) % 128 + 64) % 128 = o + (l.val + 64) % 128
  omega

/-! ## The keys -/

/-- A slab's mean over the block whose rows begin at `q`. -/
def mean (T : FVec Ideal S1024x128 .f32) (q : Nat) (hq : S1024x128.Slices ![q, 0] S256x128) : FVec Ideal S1x1x1x128 .f32 :=
  shapeCast S1x1x1x128 (divf (shapeCast S1x128 (multiReduction .add [0] S128 (extractStridedSlice S256x128 ![q, 0] T hq)
      0x00000000#32 reduces_S256x128_S128 (.inl rfl) rfl) shapeCasts_S128_S1x128)
    (broadcast S1x128 (Scalar.ofBits .f32 0x43800000#32))) shapeCasts_S1x128_S1x1x1x128

theorem mean_apply (T : FVec Ideal S1024x128 .f32) (q : Nat) (hq : S1024x128.Slices ![q, 0] S256x128) (q1 : q + 256 ≤ 1024) (l : Fin 128) :
    mean T q hq (ix4 0 0 0 l) = Ideal.div (∑ i : Fin 256, T (ix2 ⟨q + i.val, by omega⟩ l)) count := by
  pointwise [mean]
  rfl

/-- The keys' block at a row and a lane. -/
def blkK (K : FVec Ideal S1024x1024 .f32) (c s : FVec Ideal S1024x128 .f32) (r e : Fin 1024) : EReal := rot (fun e => K (ix2 r e)) (fun l => c (ix2 r l)) (fun l => s (ix2 r l)) e

/-- The keys' means' block at a block of positions and a lane. -/
def blkM (K : FVec Ideal S1024x1024 .f32) (c s : FVec Ideal S1024x128 .f32) (p : Fin 4) (e : Fin 1024) : EReal := Ideal.div (∑ i : Fin 256, blkK K c s ⟨p.val * 256 + i.val, by omega⟩ e) count

section
variable (o : Nat) (h : o % 128 = 0) (l1 : o + 128 ≤ 1024) (hs : S1024x1024.Slices ![0, o] S1024x128)
  (K : FVec Ideal S1024x1024 .f32) (c s : FVec Ideal S1024x128 .f32)

/-- A slab of the keys, rotated. -/
def keys : FVec Ideal S1024x128 .f32 :=
  addf (mulf (extractStridedSlice S1024x128 ![0, o] K hs) c)
    (mulf (dynamicRotate 1 64#32 none (extractStridedSlice S1024x128 ![0, o] K hs) rotates_S1024x128_d1) s)

include h in
theorem keys_apply (r : Fin 1024) (l : Fin 128) :
    keys o hs K c s (ix2 r l) = rot (fun e => K (ix2 r e)) (fun l => c (ix2 r l)) (fun l => s (ix2 r l)) (lane o l1 l) := by
  unfold rot
  rw [place_lane o h, swap_lane o h]
  pointwise [keys]
  have e : (⟨o + (l.val + 128 - 64) % 128, by omega⟩ : Fin 1024) = lane o l1 ⟨(l.val + 64) % 128, by omega⟩ := by
    apply Fin.ext
    show o + (l.val + 128 - 64) % 128 = o + (l.val + 64) % 128
    omega
  rw [e]
  rfl

include h l1 in
/-- A slab's store writes `blkK` where it lands. -/
theorem storeK (inb) (x : S1x1024x128.Idx) :
    shapeCast S1x1024x128 (truncf .bf16 (keys o hs K c s) bitsLt_bf16_f32) shapeCasts_S1024x128_S1x1024x128 x
      = blkK K c s ((Rect.unit (s := S1x1024x1024) ![0, 0, o] S1x1024x128.size inb).emb x 1)
          ((Rect.unit (s := S1x1024x1024) ![0, 0, o] S1x1024x128.size inb).emb x 2) := by
  obtain ⟨r, l, rfl⟩ : ∃ (r : Fin 1024) (l : Fin 128), x = ix3 0 r l := by
    refine ⟨x 1, x 2, (eq_ix3 x).trans ?_⟩
    have e0 : x 0 = (0 : Fin 1) := Subsingleton.elim (α := Fin 1) _ _
    rw [e0]
  have d1 : (Rect.unit (s := S1x1024x1024) ![0, 0, o] S1x1024x128.size inb).emb (ix3 0 r l) 1 = r := by
    apply Fin.ext
    show 0 + 1 * r.val = r.val
    omega
  have d2 : (Rect.unit (s := S1x1024x1024) ![0, 0, o] S1x1024x128.size inb).emb (ix3 0 r l) 2 = lane o l1 l := by
    apply Fin.ext
    show o + 1 * l.val = o + l.val
    omega
  rw [d1, d2]
  refine Eq.trans ?_ (keys_apply o h l1 hs K c s r l)
  pointwise []

include h l1 in
/-- A slab's mean's store writes `blkM` where it lands. -/
theorem storeM (p q : Nat) (hp : q = p * 256) (p1 : p < 4) (hq : S1024x128.Slices ![q, 0] S256x128) (inb) (x : S1x1x1x128.Idx) :
    mean (keys o hs K c s) q hq x
      = blkM K c s ((Rect.unit (s := S1x1x4x1024) ![0, 0, p, o] S1x1x1x128.size inb).emb x 2)
          ((Rect.unit (s := S1x1x4x1024) ![0, 0, p, o] S1x1x1x128.size inb).emb x 3) := by
  subst hp
  obtain ⟨l, rfl⟩ : ∃ l : Fin 128, x = ix4 0 0 0 l := by
    refine ⟨x 3, (eq_ix4 x).trans ?_⟩
    have e0 : x 0 = (0 : Fin 1) := Subsingleton.elim (α := Fin 1) _ _
    have e1 : x 1 = (0 : Fin 1) := Subsingleton.elim (α := Fin 1) _ _
    have e2 : x 2 = (0 : Fin 1) := Subsingleton.elim (α := Fin 1) _ _
    rw [e0, e1, e2]
  have d2 : (Rect.unit (s := S1x1x4x1024) ![0, 0, p, o] S1x1x1x128.size inb).emb (ix4 0 0 0 l) 2 = ⟨p, p1⟩ := by
    apply Fin.ext
    show p + 1 * 0 = p
    omega
  have d3 : (Rect.unit (s := S1x1x4x1024) ![0, 0, p, o] S1x1x1x128.size inb).emb (ix4 0 0 0 l) 3 = lane o l1 l := by
    apply Fin.ext
    show o + 1 * l.val = o + l.val
    omega
  have q1 : p * 256 + 256 ≤ 1024 := by omega
  rw [d2, d3, mean_apply (q1 := q1)]
  unfold blkM
  refine congrArg (fun z => Ideal.div z count) (Finset.sum_congr rfl fun i _ => ?_)
  exact keys_apply o h l1 hs K c s _ l

end

/-! ## The queries and the values -/

/-- The store of a slab's block of positions. -/
def part (T : FVec Ideal S128x1024 .bf16) (q : Nat) (hq : S128x1024.Slices ![0, q] S128x256) : FVec Ideal S1x1x1x128x256 .bf16 :=
  shapeCast S1x1x1x128x256 (extractStridedSlice S128x256 ![0, q] T hq) shapeCasts_S128x256_S1x1x1x128x256

theorem part_apply (T : FVec Ideal S128x1024 .bf16) (q : Nat) (hq : S128x1024.Slices ![0, q] S128x256) (q1 : q + 256 ≤ 1024) (l : Fin 128) (i : Fin 256) :
    part T q hq (ix5 0 0 0 l i) = T (ix2 l ⟨q + i.val, by omega⟩) := by
  pointwise [part]

/-- The queries' block at a slab, a block of positions, a lane and a position. -/
def blkQ (Q : FVec Ideal S1024x1024 .f32) (c s : FVec Ideal S128x1024 .f32) (g : Fin 8) (p : Fin 4) (l : Fin 128) (i : Fin 256) : EReal :=
  rot (fun e => Q (ix2 e ⟨p.val * 256 + i.val, by omega⟩)) (fun l => c (ix2 l ⟨p.val * 256 + i.val, by omega⟩))
    (fun l => s (ix2 l ⟨p.val * 256 + i.val, by omega⟩)) (lane (g.val * 128) (by omega) l)

section
variable (o : Nat) (h : o % 128 = 0) (l1 : o + 128 ≤ 1024) (hs : S1024x1024.Slices ![o, 0] S128x1024)
  (Q : FVec Ideal S1024x1024 .f32) (c s : FVec Ideal S128x1024 .f32)

/-- A slab of the queries, lanes first. -/
def slab : FVec Ideal S128x1024 .f32 := extractStridedSlice S128x1024 ![o, 0] Q hs

/-- A slab of the queries, rotated. -/
def queries : FVec Ideal S128x1024 .bf16 :=
  truncf .bf16 (addf (mulf (slab o hs Q) c)
    (mulf (concatenate S128x1024 0 [⟨S64x1024, extractStridedSlice S64x1024 ![64, 0] (slab o hs Q) slices_S128x1024_o64_0_S64x1024⟩,
      ⟨S64x1024, extractStridedSlice S64x1024 ![0, 0] (slab o hs Q) slices_S128x1024_o0_0_S64x1024⟩] concatenates_S64x1024_S64x1024_S128x1024_d0) s)) bitsLt_bf16_f32

include h in
theorem queries_apply (r : Fin 1024) (l : Fin 128) :
    queries o hs Q c s (ix2 l r) = rot (fun e => Q (ix2 e r)) (fun l => c (ix2 l r)) (fun l => s (ix2 l r)) (lane o l1 l) := by
  unfold rot
  rw [place_lane o h, swap_lane o h]
  pointwise [queries, slab]
  by_cases hl : l.val < 64
  · have e : (⟨o + (64 + l.val), by omega⟩ : Fin 1024) = lane o l1 ⟨(l.val + 64) % 128, by omega⟩ := by
      apply Fin.ext
      show o + (64 + l.val) = o + (l.val + 64) % 128
      omega
    rw [dif_pos hl, e]
    rfl
  · have e : (⟨o + (l.val - 64), by omega⟩ : Fin 1024) = lane o l1 ⟨(l.val + 64) % 128, by omega⟩ := by
      apply Fin.ext
      show o + (l.val - 64) = o + (l.val + 64) % 128
      omega
    rw [dif_neg hl, e]
    rfl

/-- A slab's store writes `blkQ` where it lands. -/
theorem storeQ (g p q : Nat) (hg : o = g * 128) (g1 : g < 8) (hp : q = p * 256) (p1 : p < 4) (hq : S128x1024.Slices ![0, q] S128x256) (inb) (x : S1x1x1x128x256.Idx) :
    part (queries o hs Q c s) q hq x
      = blkQ Q c s ((Rect.unit (s := S1x8x4x128x256) ![0, g, p, 0, 0] S1x1x1x128x256.size inb).emb x 1)
          ((Rect.unit (s := S1x8x4x128x256) ![0, g, p, 0, 0] S1x1x1x128x256.size inb).emb x 2)
          ((Rect.unit (s := S1x8x4x128x256) ![0, g, p, 0, 0] S1x1x1x128x256.size inb).emb x 3)
          ((Rect.unit (s := S1x8x4x128x256) ![0, g, p, 0, 0] S1x1x1x128x256.size inb).emb x 4) := by
  subst hp hg
  obtain ⟨l, i, rfl⟩ : ∃ (l : Fin 128) (i : Fin 256), x = ix5 0 0 0 l i := by
    refine ⟨x 3, x 4, (eq_ix5 x).trans ?_⟩
    have e0 : x 0 = (0 : Fin 1) := Subsingleton.elim (α := Fin 1) _ _
    have e1 : x 1 = (0 : Fin 1) := Subsingleton.elim (α := Fin 1) _ _
    have e2 : x 2 = (0 : Fin 1) := Subsingleton.elim (α := Fin 1) _ _
    rw [e0, e1, e2]
  have d1 : (Rect.unit (s := S1x8x4x128x256) ![0, g, p, 0, 0] S1x1x1x128x256.size inb).emb (ix5 0 0 0 l i) 1 = ⟨g, g1⟩ := by
    apply Fin.ext
    show g + 1 * 0 = g
    omega
  have d2 : (Rect.unit (s := S1x8x4x128x256) ![0, g, p, 0, 0] S1x1x1x128x256.size inb).emb (ix5 0 0 0 l i) 2 = ⟨p, p1⟩ := by
    apply Fin.ext
    show p + 1 * 0 = p
    omega
  have d3 : (Rect.unit (s := S1x8x4x128x256) ![0, g, p, 0, 0] S1x1x1x128x256.size inb).emb (ix5 0 0 0 l i) 3 = l := by
    apply Fin.ext
    show 0 + 1 * l.val = l.val
    omega
  have d4 : (Rect.unit (s := S1x8x4x128x256) ![0, g, p, 0, 0] S1x1x1x128x256.size inb).emb (ix5 0 0 0 l i) 4 = i := by
    apply Fin.ext
    show 0 + 1 * i.val = i.val
    omega
  have q1 : p * 256 + 256 ≤ 1024 := by omega
  rw [d1, d2, d3, d4, part_apply (q1 := q1)]
  exact queries_apply (g * 128) (by omega) (by omega) hs Q c s _ l

end

/-! ## The blocks -/

section
variable (x0 : Vec Ideal S1x1024x1024 .f32) (x1 x2 x3 : Vec Ideal S1024x1024 .bf16) (x4 x5 : Vec Ideal S1024x128 .f32) (x6 x7 : Vec Ideal S128x1024 .f32)

/-- The keys' block. -/
theorem out8_blk (y : S1x1024x1024.Idx) :
    out0_8 x0 x1 x2 x3 x4 x5 x6 x7 y = blkK (k0_pay4 (View.ld x0 r0_0) (View.ld x1 r0_1)) (View.ld x4 r0_2) (View.ld x5 r0_2) (y 1) (y 2) := by
  unfold_out out0_8
  refine View.canon_apply_of_pieces (Val := Elt Ideal) (e := .bf16)
    (fun y : S1x1024x1024.Idx => blkK (k0_pay4 (View.ld x0 r0_0) (View.ld x1 r0_1)) (View.ld x4 r0_2) (View.ld x5 r0_2) (y 1) (y 2)) _ ?_ y
    (cover0_8 _ _ _ _ _ _ _ _ y)
  have slab (o h l1 hs inb) := storeK o h l1 hs (k0_pay4 (View.ld x0 r0_0) (View.ld x1 r0_1)) (View.ld x4 r0_2) (View.ld x5 r0_2) inb
  simp only [List.forall_mem_cons, List.not_mem_nil, false_imp_iff, implies_true, and_true]
  exact ⟨slab 896 rfl (by decide) slices_S1024x1024_o0_896_S1024x128 _,
    slab 768 rfl (by decide) slices_S1024x1024_o0_768_S1024x128 _,
    slab 640 rfl (by decide) slices_S1024x1024_o0_640_S1024x128 _,
    slab 512 rfl (by decide) slices_S1024x1024_o0_512_S1024x128 _,
    slab 384 rfl (by decide) slices_S1024x1024_o0_384_S1024x128 _,
    slab 256 rfl (by decide) slices_S1024x1024_o0_256_S1024x128 _,
    slab 128 rfl (by decide) slices_S1024x1024_o0_128_S1024x128 _,
    slab 0 rfl (by decide) slices_S1024x1024_o0_0_S1024x128 _⟩

/-- The keys' means' block. -/
theorem out11_blk (y : S1x1x4x1024.Idx) :
    out0_11 x0 x1 x2 x3 x4 x5 x6 x7 y = blkM (k0_pay4 (View.ld x0 r0_0) (View.ld x1 r0_1)) (View.ld x4 r0_2) (View.ld x5 r0_2) (y 2) (y 3) := by
  unfold_out out0_11
  refine View.canon_apply_of_pieces (Val := Elt Ideal) (e := .f32)
    (fun y : S1x1x4x1024.Idx => blkM (k0_pay4 (View.ld x0 r0_0) (View.ld x1 r0_1)) (View.ld x4 r0_2) (View.ld x5 r0_2) (y 2) (y 3)) _ ?_ y
    (cover0_11 _ _ _ _ _ _ _ _ _ _ _ _ _ _ _ _ _ _ _ _ _ _ _ _ _ _ _ _ _ _ _ _ y)
  have slab (o p q h l1 hs hp p1 hq inb) := storeM o h l1 hs (k0_pay4 (View.ld x0 r0_0) (View.ld x1 r0_1)) (View.ld x4 r0_2) (View.ld x5 r0_2) p q hp p1 hq inb
  simp only [List.forall_mem_cons, List.not_mem_nil, false_imp_iff, implies_true, and_true]
  exact ⟨slab 896 3 768 rfl (by decide) slices_S1024x1024_o0_896_S1024x128 rfl (by decide) slices_S1024x128_o768_0_S256x128 _,
    slab 896 2 512 rfl (by decide) slices_S1024x1024_o0_896_S1024x128 rfl (by decide) slices_S1024x128_o512_0_S256x128 _,
    slab 896 1 256 rfl (by decide) slices_S1024x1024_o0_896_S1024x128 rfl (by decide) slices_S1024x128_o256_0_S256x128 _,
    slab 896 0 0 rfl (by decide) slices_S1024x1024_o0_896_S1024x128 rfl (by decide) slices_S1024x128_o0_0_S256x128 _,
    slab 768 3 768 rfl (by decide) slices_S1024x1024_o0_768_S1024x128 rfl (by decide) slices_S1024x128_o768_0_S256x128 _,
    slab 768 2 512 rfl (by decide) slices_S1024x1024_o0_768_S1024x128 rfl (by decide) slices_S1024x128_o512_0_S256x128 _,
    slab 768 1 256 rfl (by decide) slices_S1024x1024_o0_768_S1024x128 rfl (by decide) slices_S1024x128_o256_0_S256x128 _,
    slab 768 0 0 rfl (by decide) slices_S1024x1024_o0_768_S1024x128 rfl (by decide) slices_S1024x128_o0_0_S256x128 _,
    slab 640 3 768 rfl (by decide) slices_S1024x1024_o0_640_S1024x128 rfl (by decide) slices_S1024x128_o768_0_S256x128 _,
    slab 640 2 512 rfl (by decide) slices_S1024x1024_o0_640_S1024x128 rfl (by decide) slices_S1024x128_o512_0_S256x128 _,
    slab 640 1 256 rfl (by decide) slices_S1024x1024_o0_640_S1024x128 rfl (by decide) slices_S1024x128_o256_0_S256x128 _,
    slab 640 0 0 rfl (by decide) slices_S1024x1024_o0_640_S1024x128 rfl (by decide) slices_S1024x128_o0_0_S256x128 _,
    slab 512 3 768 rfl (by decide) slices_S1024x1024_o0_512_S1024x128 rfl (by decide) slices_S1024x128_o768_0_S256x128 _,
    slab 512 2 512 rfl (by decide) slices_S1024x1024_o0_512_S1024x128 rfl (by decide) slices_S1024x128_o512_0_S256x128 _,
    slab 512 1 256 rfl (by decide) slices_S1024x1024_o0_512_S1024x128 rfl (by decide) slices_S1024x128_o256_0_S256x128 _,
    slab 512 0 0 rfl (by decide) slices_S1024x1024_o0_512_S1024x128 rfl (by decide) slices_S1024x128_o0_0_S256x128 _,
    slab 384 3 768 rfl (by decide) slices_S1024x1024_o0_384_S1024x128 rfl (by decide) slices_S1024x128_o768_0_S256x128 _,
    slab 384 2 512 rfl (by decide) slices_S1024x1024_o0_384_S1024x128 rfl (by decide) slices_S1024x128_o512_0_S256x128 _,
    slab 384 1 256 rfl (by decide) slices_S1024x1024_o0_384_S1024x128 rfl (by decide) slices_S1024x128_o256_0_S256x128 _,
    slab 384 0 0 rfl (by decide) slices_S1024x1024_o0_384_S1024x128 rfl (by decide) slices_S1024x128_o0_0_S256x128 _,
    slab 256 3 768 rfl (by decide) slices_S1024x1024_o0_256_S1024x128 rfl (by decide) slices_S1024x128_o768_0_S256x128 _,
    slab 256 2 512 rfl (by decide) slices_S1024x1024_o0_256_S1024x128 rfl (by decide) slices_S1024x128_o512_0_S256x128 _,
    slab 256 1 256 rfl (by decide) slices_S1024x1024_o0_256_S1024x128 rfl (by decide) slices_S1024x128_o256_0_S256x128 _,
    slab 256 0 0 rfl (by decide) slices_S1024x1024_o0_256_S1024x128 rfl (by decide) slices_S1024x128_o0_0_S256x128 _,
    slab 128 3 768 rfl (by decide) slices_S1024x1024_o0_128_S1024x128 rfl (by decide) slices_S1024x128_o768_0_S256x128 _,
    slab 128 2 512 rfl (by decide) slices_S1024x1024_o0_128_S1024x128 rfl (by decide) slices_S1024x128_o512_0_S256x128 _,
    slab 128 1 256 rfl (by decide) slices_S1024x1024_o0_128_S1024x128 rfl (by decide) slices_S1024x128_o256_0_S256x128 _,
    slab 128 0 0 rfl (by decide) slices_S1024x1024_o0_128_S1024x128 rfl (by decide) slices_S1024x128_o0_0_S256x128 _,
    slab 0 3 768 rfl (by decide) slices_S1024x1024_o0_0_S1024x128 rfl (by decide) slices_S1024x128_o768_0_S256x128 _,
    slab 0 2 512 rfl (by decide) slices_S1024x1024_o0_0_S1024x128 rfl (by decide) slices_S1024x128_o512_0_S256x128 _,
    slab 0 1 256 rfl (by decide) slices_S1024x1024_o0_0_S1024x128 rfl (by decide) slices_S1024x128_o256_0_S256x128 _,
    slab 0 0 0 rfl (by decide) slices_S1024x1024_o0_0_S1024x128 rfl (by decide) slices_S1024x128_o0_0_S256x128 _⟩

/-- The queries' block. -/
theorem out9_blk (y : S1x8x4x128x256.Idx) :
    out0_9 x0 x1 x2 x3 x4 x5 x6 x7 y = blkQ (k0_pay61 (k0_pay3 (View.ld x0 r0_0)) (View.ld x2 r0_1)) (View.ld x6 r0_43) (View.ld x7 r0_43) (y 1) (y 2) (y 3) (y 4) := by
  unfold_out out0_9
  refine View.canon_apply_of_pieces (Val := Elt Ideal) (e := .bf16)
    (fun y : S1x8x4x128x256.Idx => blkQ (k0_pay61 (k0_pay3 (View.ld x0 r0_0)) (View.ld x2 r0_1)) (View.ld x6 r0_43) (View.ld x7 r0_43) (y 1) (y 2) (y 3) (y 4)) _ ?_ y
    (cover0_9 _ _ _ _ _ _ _ _ _ _ _ _ _ _ _ _ _ _ _ _ _ _ _ _ _ _ _ _ _ _ _ _ y)
  have part (o g p q hs hg g1 hp p1 hq inb) := storeQ o hs (k0_pay61 (k0_pay3 (View.ld x0 r0_0)) (View.ld x2 r0_1)) (View.ld x6 r0_43) (View.ld x7 r0_43) g p q hg g1 hp p1 hq inb
  simp only [List.forall_mem_cons, List.not_mem_nil, false_imp_iff, implies_true, and_true]
  exact ⟨part 896 7 3 768 slices_S1024x1024_o896_0_S128x1024 rfl (by decide) rfl (by decide) slices_S128x1024_o0_768_S128x256 _,
    part 896 7 2 512 slices_S1024x1024_o896_0_S128x1024 rfl (by decide) rfl (by decide) slices_S128x1024_o0_512_S128x256 _,
    part 896 7 1 256 slices_S1024x1024_o896_0_S128x1024 rfl (by decide) rfl (by decide) slices_S128x1024_o0_256_S128x256 _,
    part 896 7 0 0 slices_S1024x1024_o896_0_S128x1024 rfl (by decide) rfl (by decide) slices_S128x1024_o0_0_S128x256 _,
    part 768 6 3 768 slices_S1024x1024_o768_0_S128x1024 rfl (by decide) rfl (by decide) slices_S128x1024_o0_768_S128x256 _,
    part 768 6 2 512 slices_S1024x1024_o768_0_S128x1024 rfl (by decide) rfl (by decide) slices_S128x1024_o0_512_S128x256 _,
    part 768 6 1 256 slices_S1024x1024_o768_0_S128x1024 rfl (by decide) rfl (by decide) slices_S128x1024_o0_256_S128x256 _,
    part 768 6 0 0 slices_S1024x1024_o768_0_S128x1024 rfl (by decide) rfl (by decide) slices_S128x1024_o0_0_S128x256 _,
    part 640 5 3 768 slices_S1024x1024_o640_0_S128x1024 rfl (by decide) rfl (by decide) slices_S128x1024_o0_768_S128x256 _,
    part 640 5 2 512 slices_S1024x1024_o640_0_S128x1024 rfl (by decide) rfl (by decide) slices_S128x1024_o0_512_S128x256 _,
    part 640 5 1 256 slices_S1024x1024_o640_0_S128x1024 rfl (by decide) rfl (by decide) slices_S128x1024_o0_256_S128x256 _,
    part 640 5 0 0 slices_S1024x1024_o640_0_S128x1024 rfl (by decide) rfl (by decide) slices_S128x1024_o0_0_S128x256 _,
    part 512 4 3 768 slices_S1024x1024_o512_0_S128x1024 rfl (by decide) rfl (by decide) slices_S128x1024_o0_768_S128x256 _,
    part 512 4 2 512 slices_S1024x1024_o512_0_S128x1024 rfl (by decide) rfl (by decide) slices_S128x1024_o0_512_S128x256 _,
    part 512 4 1 256 slices_S1024x1024_o512_0_S128x1024 rfl (by decide) rfl (by decide) slices_S128x1024_o0_256_S128x256 _,
    part 512 4 0 0 slices_S1024x1024_o512_0_S128x1024 rfl (by decide) rfl (by decide) slices_S128x1024_o0_0_S128x256 _,
    part 384 3 3 768 slices_S1024x1024_o384_0_S128x1024 rfl (by decide) rfl (by decide) slices_S128x1024_o0_768_S128x256 _,
    part 384 3 2 512 slices_S1024x1024_o384_0_S128x1024 rfl (by decide) rfl (by decide) slices_S128x1024_o0_512_S128x256 _,
    part 384 3 1 256 slices_S1024x1024_o384_0_S128x1024 rfl (by decide) rfl (by decide) slices_S128x1024_o0_256_S128x256 _,
    part 384 3 0 0 slices_S1024x1024_o384_0_S128x1024 rfl (by decide) rfl (by decide) slices_S128x1024_o0_0_S128x256 _,
    part 256 2 3 768 slices_S1024x1024_o256_0_S128x1024 rfl (by decide) rfl (by decide) slices_S128x1024_o0_768_S128x256 _,
    part 256 2 2 512 slices_S1024x1024_o256_0_S128x1024 rfl (by decide) rfl (by decide) slices_S128x1024_o0_512_S128x256 _,
    part 256 2 1 256 slices_S1024x1024_o256_0_S128x1024 rfl (by decide) rfl (by decide) slices_S128x1024_o0_256_S128x256 _,
    part 256 2 0 0 slices_S1024x1024_o256_0_S128x1024 rfl (by decide) rfl (by decide) slices_S128x1024_o0_0_S128x256 _,
    part 128 1 3 768 slices_S1024x1024_o128_0_S128x1024 rfl (by decide) rfl (by decide) slices_S128x1024_o0_768_S128x256 _,
    part 128 1 2 512 slices_S1024x1024_o128_0_S128x1024 rfl (by decide) rfl (by decide) slices_S128x1024_o0_512_S128x256 _,
    part 128 1 1 256 slices_S1024x1024_o128_0_S128x1024 rfl (by decide) rfl (by decide) slices_S128x1024_o0_256_S128x256 _,
    part 128 1 0 0 slices_S1024x1024_o128_0_S128x1024 rfl (by decide) rfl (by decide) slices_S128x1024_o0_0_S128x256 _,
    part 0 0 3 768 slices_S1024x1024_o0_0_S128x1024 rfl (by decide) rfl (by decide) slices_S128x1024_o0_768_S128x256 _,
    part 0 0 2 512 slices_S1024x1024_o0_0_S128x1024 rfl (by decide) rfl (by decide) slices_S128x1024_o0_512_S128x256 _,
    part 0 0 1 256 slices_S1024x1024_o0_0_S128x1024 rfl (by decide) rfl (by decide) slices_S128x1024_o0_256_S128x256 _,
    part 0 0 0 0 slices_S1024x1024_o0_0_S128x1024 rfl (by decide) rfl (by decide) slices_S128x1024_o0_0_S128x256 _⟩

/-- The values' block. -/
theorem out10_blk (y : S1x8x4x128x256.Idx) :
    out0_10 x0 x1 x2 x3 x4 x5 x6 x7 y = k0_pay108 (k0_pay3 (View.ld x0 r0_0)) (View.ld x3 r0_1)
      (ix2 (lane ((y 1).val * 128) (by have := (y 1).isLt; change _ < 8 at this; omega) (y 3))
        ⟨(y 2).val * 256 + (y 4).val, by have h2 := (y 2).isLt; have h4 := (y 4).isLt; change _ < 4 at h2; change _ < 256 at h4; omega⟩) := by
  unfold_out out0_10
  refine (Value.canon10_eq (View.ld x0 r0_0) (View.ld x3 r0_1) y).trans ?_
  refine congrArg (k0_pay108 (k0_pay3 (View.ld x0 r0_0)) (View.ld x3 r0_1)) ?_
  refine (eq_ix2 _).trans ?_
  congr 1

/-- The product of a token's row with a column of the keys' weight. -/
theorem pay4_apply (r e : Fin 1024) :
    k0_pay4 (View.ld x0 r0_0) (View.ld x1 r0_1) (ix2 r e) = ∑ d : Fin 1024, x0 (ix3 0 r d) * x1 (ix2 d e) := by
  pointwise [k0_pay4, k0_pay3]

/-- The product of a row of the queries' weight with a token's row. -/
theorem pay61_apply (e r : Fin 1024) :
    k0_pay61 (k0_pay3 (View.ld x0 r0_0)) (View.ld x2 r0_1) (ix2 e r) = ∑ d : Fin 1024, x0 (ix3 0 r d) * x2 (ix2 e d) := by
  pointwise [k0_pay61, k0_pay3]
  exact Finset.sum_congr rfl fun d _ => mul_comm _ _

/-- The product of a row of the values' weight with a token's row. -/
theorem pay108_apply (e r : Fin 1024) :
    k0_pay108 (k0_pay3 (View.ld x0 r0_0)) (View.ld x3 r0_1) (ix2 e r) = ∑ d : Fin 1024, x0 (ix3 0 r d) * x3 (ix2 e d) := by
  pointwise [k0_pay108, k0_pay3]
  exact Finset.sum_congr rfl fun d _ => mul_comm _ _

/-- The keys' block, from the arguments' blocks. -/
theorem out8_apply (y : S1x1024x1024.Idx) :
    out0_8 x0 x1 x2 x3 x4 x5 x6 x7 y = rot (fun e => ∑ d : Fin 1024, x0 (ix3 0 (y 1) d) * x1 (ix2 d e)) (fun l => x4 (ix2 (y 1) l)) (fun l => x5 (ix2 (y 1) l)) (y 2) := by
  rw [out8_blk]
  exact rot_congr (fun e => pay4_apply x0 x1 _ e) (fun l => by pointwise []) (fun l => by pointwise []) _

/-- The queries' block, from the arguments' blocks. -/
theorem out9_apply (g : Fin 8) (p : Fin 4) (l : Fin 128) (i : Fin 256) :
    out0_9 x0 x1 x2 x3 x4 x5 x6 x7 (ix5 0 g p l i) = rot (fun e => ∑ d : Fin 1024, x0 (ix3 0 ⟨p.val * 256 + i.val, by omega⟩ d) * x2 (ix2 e d))
      (fun l => x6 (ix2 l ⟨p.val * 256 + i.val, by omega⟩)) (fun l => x7 (ix2 l ⟨p.val * 256 + i.val, by omega⟩)) (lane (g.val * 128) (by omega) l) := by
  rw [out9_blk]
  exact rot_congr (fun e => pay61_apply x0 x2 e _) (fun l => by pointwise []) (fun l => by pointwise []) _

/-- The values' block, from the arguments' blocks. -/
theorem out10_apply (g : Fin 8) (p : Fin 4) (l : Fin 128) (i : Fin 256) :
    out0_10 x0 x1 x2 x3 x4 x5 x6 x7 (ix5 0 g p l i) = ∑ d : Fin 1024, x0 (ix3 0 ⟨p.val * 256 + i.val, by omega⟩ d) * x3 (ix2 (lane (g.val * 128) (by omega) l) d) := by
  rw [out10_blk]
  exact pay108_apply x0 x3 _ _

/-- The keys' means' block, from the arguments' blocks. -/
theorem out11_apply (p : Fin 4) (e : Fin 1024) :
    out0_11 x0 x1 x2 x3 x4 x5 x6 x7 (ix4 0 0 p e) = Ideal.div (∑ i : Fin 256, rot (fun e => ∑ d : Fin 1024, x0 (ix3 0 ⟨p.val * 256 + i.val, by omega⟩ d) * x1 (ix2 d e))
      (fun l => x4 (ix2 ⟨p.val * 256 + i.val, by omega⟩ l)) (fun l => x5 (ix2 ⟨p.val * 256 + i.val, by omega⟩ l)) e) count := by
  rw [out11_blk]
  refine congrArg (fun z => Ideal.div z count) (Finset.sum_congr rfl fun i _ => ?_)
  exact rot_congr (fun e => pay4_apply x0 x1 _ e) (fun l => by pointwise []) (fun l => by pointwise []) _

end

end Cert.ProjBlock

end
-- ==== Proof.ProjWhole.lean ====
/-
  The projections' result arrays as functions of the argument arrays.
-/
module

public import proofs.«01_k».proof.Proof.ProjBlock
public import Idealize.ShloMosaic.Lib.Pipeline.ValueKit

@[expose] public section

set_option maxRecDepth 16384

noncomputable section

namespace Cert.ProjWhole

open Idealize.ShloMosaic Idealize.ShloMosaic.TcCoe Cert.ProjIdeal Cert.ProjIdeal.Gen
open Cert.ProjBlock

/-- Position `i` of block `j`. -/
def pos (j : Fin 32) (i : Fin 256) : Fin 8192 := ⟨j.val * 256 + i.val, by omega⟩

/-- Lane `l` of slab `g`. -/
def lanes (g : Fin 8) (l : Fin 128) : Fin 1024 := ⟨g.val * 128 + l.val, by omega⟩

section
variable (x : S4x8192x1024.Idx → EReal) (w : S1024x1024.Idx → EReal)

/-- A rotated key's lane. -/
def key (c s : S8192x128.Idx → EReal) (b : Fin 4) (n : Fin 8192) (e : Fin 1024) : EReal :=
  rot (fun e => ∑ d : Fin 1024, x (ix3 b n d) * w (ix2 d e)) (fun l => c (ix2 n l)) (fun l => s (ix2 n l)) e

/-- A value's lane. -/
def value (b : Fin 4) (n : Fin 8192) (e : Fin 1024) : EReal := ∑ d : Fin 1024, x (ix3 b n d) * w (ix2 e d)

/-- A rotated query's lane. -/
def query (c s : S128x8192.Idx → EReal) (b : Fin 4) (n : Fin 8192) (e : Fin 1024) : EReal :=
  rot (value x w b n) (fun l => c (ix2 l n)) (fun l => s (ix2 l n)) e

/-- A block's mean of the rotated keys. -/
def means (c s : S8192x128.Idx → EReal) (b : Fin 4) (j : Fin 8) (p : Fin 4) (e : Fin 1024) : EReal :=
  Ideal.div (∑ i : Fin 256, key x w c s b (pos ⟨j.val * 4 + p.val, by omega⟩ i) e) count

end

variable (m : (ℓ : Loc nD τ sig) → Buf (Elt Ideal) ℓ) (c : Dev nD)

theorem idx_tile (t : Fin cfg0.N) : (win0_0.index t = ![t.val / 8, t.val % 8, 0] ∧ win0_1.index t = ![0, 0] ∧ win0_2.index t = ![0, 0] ∧ win0_3.index t = ![0, 0])
    ∧ (win0_4.index t = ![t.val % 8, 0] ∧ win0_5.index t = ![t.val % 8, 0] ∧ win0_6.index t = ![0, t.val % 8] ∧ win0_7.index t = ![0, t.val % 8])
    ∧ (win0_8.index t = ![t.val / 8, t.val % 8, 0] ∧ win0_9.index t = ![t.val / 8, 0, t.val % 8, 0, 0] ∧ win0_10.index t = ![t.val / 8, 0, t.val % 8, 0, 0]
      ∧ win0_11.index t = ![t.val / 8, t.val % 8, 0, 0]) :=
  (by decide +kernel : ∀ t : Fin grid0.N, (win0_0.index t = ![t.val / 8, t.val % 8, 0] ∧ win0_1.index t = ![0, 0] ∧ win0_2.index t = ![0, 0] ∧ win0_3.index t = ![0, 0])
    ∧ (win0_4.index t = ![t.val % 8, 0] ∧ win0_5.index t = ![t.val % 8, 0] ∧ win0_6.index t = ![0, t.val % 8] ∧ win0_7.index t = ![0, t.val % 8])
    ∧ (win0_8.index t = ![t.val / 8, t.val % 8, 0] ∧ win0_9.index t = ![t.val / 8, 0, t.val % 8, 0, 0] ∧ win0_10.index t = ![t.val / 8, 0, t.val % 8, 0, 0]
      ∧ win0_11.index t = ![t.val / 8, t.val % 8, 0, 0])) t

theorem arr8 : (dats m 0 c).arrAt 8 cfg0.N = fun y : S4x8192x1024.Idx => key (m ((c : Thread nD τ).loc main_arg0)) (m ((c : Thread nD τ).loc main_arg1))
    (m ((c : Thread nD τ).loc main_arg4)) (m ((c : Thread nD τ).loc main_arg5)) (y 0) (y 1) (y 2) := by
  refine (dats m 0 c).arrAt_eq_of_covers 8 _ (by decide +kernel) fun t hf y => ?_
  blk_simp
  rw [after0_8]
  obtain ⟨⟨i0, i1, i2, i3⟩, ⟨i4, i5, i6, i7⟩, i8, i9, i10, i11⟩ := idx_tile t
  refine (out8_apply _ _ _ _ _ _ _ _ y).trans ?_
  unfold key
  have e2 : (win0_8.blk t).view.emb y 2 = y 2 := by apply Fin.ext; blk_simp [i8]
  rw [e2]
  refine rot_congr (fun e => Finset.sum_congr rfl fun d _ => ?_) (fun l => ?_) (fun l => ?_) _
  · congr 1
    · blk_ext [iblk, V, i0, i8]
    · blk_ext [iblk, V, i1]
  · blk_ext [iblk, V, i4, i8]
  · blk_ext [iblk, V, i5, i8]

theorem arr9 : (dats m 0 c).arrAt 9 cfg0.N = fun y : S4x8x32x128x256.Idx => query (m ((c : Thread nD τ).loc main_arg0)) (m ((c : Thread nD τ).loc main_arg2))
    (m ((c : Thread nD τ).loc main_arg6)) (m ((c : Thread nD τ).loc main_arg7)) (y 0) (pos (y 2) (y 4)) (lanes (y 1) (y 3)) := by
  refine (dats m 0 c).arrAt_eq_of_covers 9 _ (by decide +kernel) fun t hf y => ?_
  blk_simp
  rw [after0_9]
  obtain ⟨⟨i0, i1, i2, i3⟩, ⟨i4, i5, i6, i7⟩, i8, i9, i10, i11⟩ := idx_tile t
  obtain ⟨g, p, l, i, rfl⟩ : ∃ (g : Fin 8) (p : Fin 4) (l : Fin 128) (i : Fin 256), y = ix5 0 g p l i := by
    refine ⟨y 1, y 2, y 3, y 4, (eq_ix5 y).trans ?_⟩
    have e0 : y 0 = (0 : Fin 1) := Subsingleton.elim (α := Fin 1) _ _
    rw [e0]
  refine (out9_apply _ _ _ _ _ _ _ _ g p l i).trans ?_
  have el : lanes ((win0_9.blk t).view.emb (ix5 0 g p l i) 1) ((win0_9.blk t).view.emb (ix5 0 g p l i) 3) = lane (g.val * 128) (by omega) l := by
    blk_ext [lanes, lane, i9]
  unfold query value
  rw [el]
  refine rot_congr (fun e => Finset.sum_congr rfl fun d _ => ?_) (fun l => ?_) (fun l => ?_) _
  · congr 1
    · blk_ext [iblk, V, i0, i9, pos]
    · blk_ext [iblk, V, i2]
  · blk_ext [iblk, V, i6, i9, pos]
  · blk_ext [iblk, V, i7, i9, pos]

theorem arr10 : (dats m 0 c).arrAt 10 cfg0.N = fun y : S4x8x32x128x256.Idx => value (m ((c : Thread nD τ).loc main_arg0)) (m ((c : Thread nD τ).loc main_arg3))
    (y 0) (pos (y 2) (y 4)) (lanes (y 1) (y 3)) := by
  refine (dats m 0 c).arrAt_eq_of_covers 10 _ (by decide +kernel) fun t hf y => ?_
  blk_simp
  rw [after0_10]
  obtain ⟨⟨i0, i1, i2, i3⟩, ⟨i4, i5, i6, i7⟩, i8, i9, i10, i11⟩ := idx_tile t
  obtain ⟨g, p, l, i, rfl⟩ : ∃ (g : Fin 8) (p : Fin 4) (l : Fin 128) (i : Fin 256), y = ix5 0 g p l i := by
    refine ⟨y 1, y 2, y 3, y 4, (eq_ix5 y).trans ?_⟩
    have e0 : y 0 = (0 : Fin 1) := Subsingleton.elim (α := Fin 1) _ _
    rw [e0]
  refine (out10_apply _ _ _ _ _ _ _ _ g p l i).trans ?_
  unfold value
  refine Finset.sum_congr rfl fun d _ => ?_
  congr 1
  · blk_ext [iblk, V, i0, i10, pos]
  · blk_ext [iblk, V, i3, i10, lanes, lane]

theorem arr11 : (dats m 0 c).arrAt 11 cfg0.N = fun y : S4x8x4x1024.Idx => means (m ((c : Thread nD τ).loc main_arg0)) (m ((c : Thread nD τ).loc main_arg1))
    (m ((c : Thread nD τ).loc main_arg4)) (m ((c : Thread nD τ).loc main_arg5)) (y 0) (y 1) (y 2) (y 3) := by
  refine (dats m 0 c).arrAt_eq_of_covers 11 _ (by decide +kernel) fun t hf y => ?_
  blk_simp
  rw [after0_11]
  obtain ⟨⟨i0, i1, i2, i3⟩, ⟨i4, i5, i6, i7⟩, i8, i9, i10, i11⟩ := idx_tile t
  obtain ⟨p, e, rfl⟩ : ∃ (p : Fin 4) (e : Fin 1024), y = ix4 0 0 p e := by
    refine ⟨y 2, y 3, (eq_ix4 y).trans ?_⟩
    have e0 : y 0 = (0 : Fin 1) := Subsingleton.elim (α := Fin 1) _ _
    have e1 : y 1 = (0 : Fin 1) := Subsingleton.elim (α := Fin 1) _ _
    rw [e0, e1]
  refine (out11_apply _ _ _ _ _ _ _ _ p e).trans ?_
  have e3 : (win0_11.blk t).view.emb (ix4 0 0 p e) 3 = e := by apply Fin.ext; blk_simp [i11]
  unfold means key
  rw [e3]
  refine congrArg (fun z => Ideal.div z count) (Finset.sum_congr rfl fun i _ => ?_)
  refine rot_congr (fun e => Finset.sum_congr rfl fun d _ => ?_) (fun l => ?_) (fun l => ?_) _
  · congr 1
    · blk_ext [iblk, V, i0, i11, pos]
    · blk_ext [iblk, V, i1]
  · blk_ext [iblk, V, i4, i11, pos]
  · blk_ext [iblk, V, i5, i11, pos]

end Cert.ProjWhole

end
-- ==== Proof.ProjRef.lean ====
/-
  The projections' reference, read at a position and a lane.
-/
module

public import proofs.«01_k».proof.Proof.ProjWhole
public import proofs.«01_k».proof.Proof.Host
public import proofs.«01_k».proof.Proof.Gen.ProjRefIdeal.Run

@[expose] public section

set_option maxRecDepth 16384

noncomputable section

namespace Cert.ProjRef

open Idealize.ShloMosaic Idealize.ShloMosaic.TcCoe Cert.ProjRefIdeal
open Cert.ProjRefIdeal.Gen Cert.ProjRefIdeal.Facts
open Cert.ProjBlock Cert.ProjWhole

/-- The tokens' products with a weight's columns, slab by slab. -/
def proj (x : FVec Ideal S4x8192x1024 .f32) (w : FVec Ideal S1024x1024 .f32) : FVec Ideal S4x8192x8x128 .f32 :=
  shapeCast _ (Host.dotGeneral dot_S32768x1024_S1024x1024_S32768x1024_1_0_0_1_n_n none
    (shapeCast _ x shapeCasts_S4x8192x1024_S32768x1024) w) shapeCasts_S32768x1024_S4x8192x8x128

/-- Half of a table, for every token of a batch and every slab. -/
def low (c : FVec Ideal S8192x128 .f32) : FVec Ideal S4x8192x8x64 .f32 :=
  broadcastInDim S4x8192x8x64 ![0, 1, 2, 3] bcast_S1x8192x1x64_S4x8192x8x64_0_1_2_3
    (broadcastInDim S1x8192x1x64 ![1, 3] bcast_S8192x64_S1x8192x1x64_1_3 (extractStridedSlice S8192x64 ![0, 0] c slices_S8192x128_S8192x64_0_0))

/-- The other half of a table. -/
def high (c : FVec Ideal S8192x128 .f32) : FVec Ideal S4x8192x8x64 .f32 :=
  broadcastInDim S4x8192x8x64 ![0, 1, 2, 3] bcast_S1x8192x1x64_S4x8192x8x64_0_1_2_3
    (broadcastInDim S1x8192x1x64 ![1, 3] bcast_S8192x64_S1x8192x1x64_1_3 (extractStridedSlice S8192x64 ![0, 64] c slices_S8192x128_S8192x64_0_64))

/-- The slabs' halves. -/
def first (t : FVec Ideal S4x8192x8x128 .f32) : FVec Ideal S4x8192x8x64 .f32 :=
  extractStridedSlice S4x8192x8x64 ![0, 0, 0, 0] t slices_S4x8192x8x128_S4x8192x8x64_0_0_0_0
def second (t : FVec Ideal S4x8192x8x128 .f32) : FVec Ideal S4x8192x8x64 .f32 :=
  extractStridedSlice S4x8192x8x64 ![0, 0, 0, 64] t slices_S4x8192x8x128_S4x8192x8x64_0_0_0_64

/-- The slabs rotated. -/
def turn (t : FVec Ideal S4x8192x8x128 .f32) (c s : FVec Ideal S8192x128 .f32) : FVec Ideal S4x8192x8x128 .f32 :=
  concatenate S4x8192x8x128 3 [⟨S4x8192x8x64, addf (mulf (first t) (low c)) (mulf (second t) (low s))⟩,
    ⟨S4x8192x8x64, addf (mulf (second t) (high c)) (mulf (first t) (high s))⟩] concatenates_S4x8192x8x64_S4x8192x8x64_S4x8192x8x128_d3

theorem proj_apply (x : FVec Ideal S4x8192x1024 .f32) (w : FVec Ideal S1024x1024 .f32) (b : Fin 4) (n : Fin 8192) (g : Fin 8) (l : Fin 128) :
    proj x w (ix4 b n g l) = ∑ d : Fin 1024, x (ix3 b n d) * w (ix2 d (lanes g l)) := by
  pointwise [proj]
  rfl

theorem low_apply (c : FVec Ideal S8192x128 .f32) (b : Fin 4) (n : Fin 8192) (g : Fin 8) (l : Fin 64) :
    low c (ix4 b n g l) = c (ix2 n ⟨l.val, by omega⟩) := by
  pointwise [low]

theorem high_apply (c : FVec Ideal S8192x128 .f32) (b : Fin 4) (n : Fin 8192) (g : Fin 8) (l : Fin 64) :
    high c (ix4 b n g l) = c (ix2 n ⟨64 + l.val, by omega⟩) := by
  pointwise [high]

theorem turn_apply (t : FVec Ideal S4x8192x8x128 .f32) (c s : FVec Ideal S8192x128 .f32) (b : Fin 4) (n : Fin 8192) (g : Fin 8) (l : Fin 128) :
    turn t c s (ix4 b n g l) = t (ix4 b n g l) * c (ix2 n l) + t (ix4 b n g ⟨(l.val + 64) % 128, by omega⟩) * s (ix2 n l) := by
  pointwise [turn, low_apply, high_apply, first, second]
  by_cases hl : l.val < 64
  · have e : (⟨64 + l.val, by omega⟩ : Fin 128) = ⟨(l.val + 64) % 128, by omega⟩ := by
      apply Fin.ext
      show 64 + l.val = (l.val + 64) % 128
      omega
    rw [dif_pos hl, e]
  · have e : (⟨64 + (l.val - 64), by omega⟩ : Fin 128) = l := by
      apply Fin.ext
      show 64 + (l.val - 64) = l.val
      omega
    have e' : (⟨l.val - 64, by omega⟩ : Fin 128) = ⟨(l.val + 64) % 128, by omega⟩ := by
      apply Fin.ext
      show l.val - 64 = (l.val + 64) % 128
      omega
    rw [dif_neg hl, e, e']

theorem lanes_split (e : Fin 1024) : lanes ⟨e.val / 128, by omega⟩ ⟨e.val % 128, by omega⟩ = e := by
  apply Fin.ext
  show e.val / 128 * 128 + e.val % 128 = e.val
  omega

/-- A rotated slab's lane, from the token's product. -/
theorem turn_rot (t : FVec Ideal S4x8192x8x128 .f32) (c s : FVec Ideal S8192x128 .f32) (b : Fin 4) (n : Fin 8192) (v : Fin 1024 → EReal)
    (hv : ∀ g l, t (ix4 b n g l) = v (lanes g l)) (g : Fin 8) (l : Fin 128) :
    turn t c s (ix4 b n g l) = rot v (fun l => c (ix2 n l)) (fun l => s (ix2 n l)) (lanes g l) := by
  rw [turn_apply, hv, hv]
  unfold rot
  have hp : place (lanes g l) = l := place_lane (g.val * 128) (by omega) (by omega) l
  have hw : swap (lanes g l) = lanes g ⟨(l.val + 64) % 128, by omega⟩ := swap_lane (g.val * 128) (by omega) (by omega) l
  rw [hp, hw]

/-- A rotated key's lane. -/
theorem turn_key (x : FVec Ideal S4x8192x1024 .f32) (w : FVec Ideal S1024x1024 .f32) (c s : FVec Ideal S8192x128 .f32) (b : Fin 4) (n : Fin 8192)
    (g : Fin 8) (l : Fin 128) : turn (proj x w) c s (ix4 b n g l) = key x w c s b n (lanes g l) :=
  turn_rot _ _ _ b n _ (fun g l => proj_apply x w b n g l) g l

variable (x : FVec Ideal S4x8192x1024 .f32) (w : FVec Ideal S1024x1024 .bf16)

/-- The keys. -/
def resK (c s : FVec Ideal S8192x128 .f32) : FVec Ideal S4x8192x1024 .bf16 :=
  truncf .bf16 (shapeCast _ (turn (proj x (extf .f32 w bitsLt_bf16_f32)) c s) shapeCasts_S4x8192x8x128_S4x8192x1024) bitsLt_bf16_f32

/-- The queries, block by block with lanes first. -/
def resQ (c s : FVec Ideal S128x8192 .f32) : FVec Ideal S4x8x32x128x256 .bf16 :=
  truncf .bf16 (transpose S4x8x32x128x256 [0, 3, 1, 4, 2] (shapeCast _ (turn (proj x (transpose S1024x1024 [1, 0] (extf .f32 w bitsLt_bf16_f32) transposes_S1024x1024_S1024x1024_1_0))
    (transpose S8192x128 [1, 0] c transposes_S128x8192_S8192x128_1_0) (transpose S8192x128 [1, 0] s transposes_S128x8192_S8192x128_1_0))
    shapeCasts_S4x8192x8x128_S4x32x256x8x128) transposes_S4x32x256x8x128_S4x8x32x128x256_0_3_1_4_2) bitsLt_bf16_f32

/-- The values, block by block with lanes first. -/
def resV : FVec Ideal S4x8x32x128x256 .bf16 :=
  truncf .bf16 (transpose S4x8x32x128x256 [0, 3, 1, 4, 2] (shapeCast _ (Host.dotGeneral dot_S32768x1024_S1024x1024_S32768x1024_1_0_0_1_n_n none
    (shapeCast _ x shapeCasts_S4x8192x1024_S32768x1024) (transpose S1024x1024 [1, 0] (extf .f32 w bitsLt_bf16_f32) transposes_S1024x1024_S1024x1024_1_0))
    shapeCasts_S32768x1024_S4x32x256x8x128) transposes_S4x32x256x8x128_S4x8x32x128x256_0_3_1_4_2) bitsLt_bf16_f32

/-- The keys' means over the blocks. -/
def resM (c s : FVec Ideal S8192x128 .f32) : FVec Ideal S4x8x4x1024 .f32 :=
  shapeCast _ (Host.divf (Host.reduceAdd (shapeCast _ (turn (proj x (extf .f32 w bitsLt_bf16_f32)) c s) shapeCasts_S4x8192x8x128_S4x32x256x1024)
    (constant S_ .f32 0x00000000#32) reducesTo_S4x32x256x1024_S4x32x1024_d2 h_S_) (broadcastInDim S4x32x1024 ![] bcast_S_S4x32x1024 (constant S_ .f32 0x43800000#32)))
    shapeCasts_S4x32x1024_S4x8x4x1024

section
variable {α : Type} (T : S4x8192x8x128.Idx → α)

/-- Slabs side by side. -/
theorem join_apply (b : Fin 4) (n : Fin 8192) (e : Fin 1024) :
    shapeCast S4x8192x1024 T shapeCasts_S4x8192x8x128_S4x8192x1024 (ix3 b n e) = T (ix4 b n ⟨e.val / 128, by omega⟩ ⟨e.val % 128, by omega⟩) := by
  pointwise []

/-- Positions block by block, slabs side by side. -/
theorem joinBlocks_apply (b : Fin 4) (j : Fin 32) (i : Fin 256) (e : Fin 1024) :
    shapeCast S4x32x256x1024 T shapeCasts_S4x8192x8x128_S4x32x256x1024 (ix4 b j i e)
      = T (ix4 b (pos j i) ⟨e.val / 128, by omega⟩ ⟨e.val % 128, by omega⟩) := by
  pointwise []
  rfl

/-- Positions block by block. -/
theorem blocks_apply (b : Fin 4) (j : Fin 32) (i : Fin 256) (g : Fin 8) (l : Fin 128) :
    shapeCast S4x32x256x8x128 T shapeCasts_S4x8192x8x128_S4x32x256x8x128 (ix5 b j i g l) = T (ix4 b (pos j i) g l) := by
  pointwise []
  rfl

end

/-- A token's place in the flat order. -/
def flat (b : Fin 4) (n : Fin 8192) : Fin 32768 := ⟨b.val * 8192 + n.val, by omega⟩

/-- The flat order, block by block, slab by slab. -/
theorem split_apply {α : Type} (U : S32768x1024.Idx → α) (b : Fin 4) (j : Fin 32) (i : Fin 256) (g : Fin 8) (l : Fin 128) :
    shapeCast S4x32x256x8x128 U shapeCasts_S32768x1024_S4x32x256x8x128 (ix5 b j i g l) = U (ix2 (flat b (pos j i)) (lanes g l)) := by
  pointwise []
  have e : (⟨b.val * 8192 + j.val * 256 + i.val, by omega⟩ : Fin 32768) = flat b (pos j i) := by
    apply Fin.ext
    show b.val * 8192 + j.val * 256 + i.val = b.val * 8192 + (j.val * 256 + i.val)
    omega
  rw [e]
  rfl

theorem flat_apply {α : Type} (x : S4x8192x1024.Idx → α) (b : Fin 4) (n : Fin 8192) (d : Fin 1024) :
    shapeCast S32768x1024 x shapeCasts_S4x8192x1024_S32768x1024 (ix2 (flat b n) d) = x (ix3 b n d) := by
  have e1 : (⟨(flat b n).val / 8192, by omega⟩ : Fin 4) = b := by
    apply Fin.ext
    show (b.val * 8192 + n.val) / 8192 = b.val
    omega
  have e2 : (⟨(flat b n).val % 8192, by omega⟩ : Fin 8192) = n := by
    apply Fin.ext
    show (b.val * 8192 + n.val) % 8192 = n.val
    omega
  pointwise []
  rw [e1, e2]

/-- A flat token's product with a weight's column. -/
theorem dot_apply (x : FVec Ideal S32768x1024 .f32) (w : FVec Ideal S1024x1024 .f32) (n : Fin 32768) (e : Fin 1024) :
    Host.dotGeneral dot_S32768x1024_S1024x1024_S32768x1024_1_0_0_1_n_n none x w (ix2 n e) = ∑ d : Fin 1024, x (ix2 n d) * w (ix2 d e) := by
  pointwise []

/-- Lanes first within a block. -/
theorem lanesFirst_apply {α : Type} (U : S4x32x256x8x128.Idx → α) (b : Fin 4) (g : Fin 8) (j : Fin 32) (l : Fin 128) (i : Fin 256) :
    transpose S4x8x32x128x256 [0, 3, 1, 4, 2] U transposes_S4x32x256x8x128_S4x8x32x128x256_0_3_1_4_2 (ix5 b g j l i) = U (ix5 b j i g l) := by
  pointwise []

/-- A change of width keeps the values. -/
theorem narrow {s : Shape} (A : FVec Ideal s .f32) : truncf .bf16 A bitsLt_bf16_f32 = A := rfl

theorem resK_apply (c s : FVec Ideal S8192x128 .f32) (b : Fin 4) (n : Fin 8192) (e : Fin 1024) : resK x w c s (ix3 b n e) = key x w c s b n e := by
  unfold resK
  rw [narrow, join_apply, turn_key, lanes_split]
  exact rot_congr (fun e => rfl) (fun l => rfl) (fun l => rfl) _

theorem resQ_apply (c s : FVec Ideal S128x8192 .f32) (b : Fin 4) (g : Fin 8) (j : Fin 32) (l : Fin 128) (i : Fin 256) :
    resQ x w c s (ix5 b g j l i) = query x w c s b (pos j i) (lanes g l) := by
  unfold resQ
  rw [narrow, lanesFirst_apply, blocks_apply, turn_key]
  exact rot_congr (fun e => Finset.sum_congr rfl fun d _ => congrArg (x (ix3 b (pos j i) d) * ·) (by pointwise []))
    (fun l => by pointwise []) (fun l => by pointwise []) _

theorem resV_apply (b : Fin 4) (g : Fin 8) (j : Fin 32) (l : Fin 128) (i : Fin 256) :
    resV x w (ix5 b g j l i) = value x w b (pos j i) (lanes g l) := by
  unfold resV
  rw [narrow, lanesFirst_apply, split_apply, dot_apply]
  refine Finset.sum_congr rfl fun d _ => ?_
  rw [flat_apply]
  exact congrArg (x (ix3 b (pos j i) d) * ·) (by pointwise [])

/-- The mean over a block. -/
theorem avg_apply (T : FVec Ideal S4x32x256x1024 .f32) (b : Fin 4) (j : Fin 8) (p : Fin 4) (e : Fin 1024) :
    shapeCast S4x8x4x1024 (Host.divf (Host.reduceAdd T (constant S_ .f32 0x00000000#32) reducesTo_S4x32x256x1024_S4x32x1024_d2 h_S_)
      (broadcastInDim S4x32x1024 ![] bcast_S_S4x32x1024 (constant S_ .f32 0x43800000#32))) shapeCasts_S4x32x1024_S4x8x4x1024 (ix4 b j p e)
      = Ideal.div (∑ i : Fin 256, T (ix4 b ⟨j.val * 4 + p.val, by omega⟩ i e)) count := by
  pointwise []
  rfl

theorem resM_apply (c s : FVec Ideal S8192x128 .f32) (b : Fin 4) (j : Fin 8) (p : Fin 4) (e : Fin 1024) :
    resM x w c s (ix4 b j p e) = means x w c s b j p e := by
  unfold resM
  rw [avg_apply]
  refine congrArg (fun z => Ideal.div z count) (Finset.sum_congr rfl fun i _ => ?_)
  rw [joinBlocks_apply, turn_key, lanes_split]
  exact rot_congr (fun e => rfl) (fun l => rfl) (fun l => rfl) _

theorem resK_whole (c s : FVec Ideal S8192x128 .f32) : resK x w c s = fun y : S4x8192x1024.Idx => key x w c s (y 0) (y 1) (y 2) := by
  funext y
  rw [eq_ix3 y]
  exact resK_apply x w c s _ _ _

theorem resQ_whole (c s : FVec Ideal S128x8192 .f32) : resQ x w c s = fun y : S4x8x32x128x256.Idx => query x w c s (y 0) (pos (y 2) (y 4)) (lanes (y 1) (y 3)) := by
  funext y
  rw [eq_ix5 y]
  exact resQ_apply x w c s _ _ _ _ _

theorem resV_whole : resV x w = fun y : S4x8x32x128x256.Idx => value x w (y 0) (pos (y 2) (y 4)) (lanes (y 1) (y 3)) := by
  funext y
  rw [eq_ix5 y]
  exact resV_apply x w _ _ _ _ _

theorem resM_whole (c s : FVec Ideal S8192x128 .f32) : resM x w c s = fun y : S4x8x4x1024.Idx => means x w c s (y 0) (y 1) (y 2) (y 3) := by
  funext y
  rw [eq_ix4 y]
  exact resM_apply x w c s _ _ _ _

/-- What the reference leaves. -/
theorem results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v60) = resK (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v63) = resQ (m ((c.tc : Thread nD τ).loc main_arg0)) (m ((c.tc : Thread nD τ).loc main_arg2)) (m ((c.tc : Thread nD τ).loc main_arg6)) (m ((c.tc : Thread nD τ).loc main_arg7))
      ∧ r.2.mem ((c.tc : Thread nD τ).loc main_v66) = resV (m ((c.tc : Thread nD τ).loc main_arg0)) (m ((c.tc : Thread nD τ).loc main_arg3))
      ∧ r.2.mem ((c.tc : Thread nD τ).loc main_v67) = resM (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => h c) (Value.run (F := Ideal) m ρ)

end Cert.ProjRef

end
-- ==== Proof.SplitBlock.lean ====
/-
  The dilated projections' output blocks at an index. A product's slab of 128 lanes, rotated for queries and keys, is
  stored as it is by the group of one class; a group of `d` classes stores it to a slot of the scratch and loads every
  `d`-th row of it again, so a class's row `i` is the slab's row `i * d + r`.
-/
module

public import proofs.«01_k».proof.Proof.Stage
public import proofs.«01_k».proof.Proof.Gen.SplitIdeal.Frame
public import proofs.«01_k».proof.Proof.Gen.SplitIdeal.Value

@[expose] public section

set_option maxRecDepth 16384

noncomputable section

namespace Cert.SplitBlock

open Idealize.ShloMosaic Idealize.ShloMosaic.TcCoe Cert.SplitIdeal Cert.SplitIdeal.Gen
open Cert.SplitIdeal.Facts

/-- A lane's place within its slab of 128 lanes. -/
def place (e : Fin 2304) : Fin 128 := ⟨e.val % 128, by omega⟩

/-- The lane of the same slab whose half of the slab is the other one. -/
def swap (e : Fin 2304) : Fin 2304 := ⟨e.val / 128 * 128 + (e.val % 128 + 64) % 128, by omega⟩

/-- A lane rotated: the lane times its cosine, plus the other half's lane times its signed sine. -/
def rot (t : Fin 2304 → EReal) (c s : Fin 128 → EReal) (e : Fin 2304) : EReal :=
  t e * c (place e) + t (swap e) * s (place e)

theorem rot_congr {t t' : Fin 2304 → EReal} {c c' s s' : Fin 128 → EReal} (ht : ∀ e, t e = t' e) (hc : ∀ l, c l = c' l)
    (hs : ∀ l, s l = s' l) (e : Fin 2304) : rot t c s e = rot t' c' s' e := by
  rw [funext ht, funext hc, funext hs]

/-- Lane `l` of the slab whose lanes begin at `o`. -/
def lane (o : Nat) (l1 : o + 128 ≤ 2304) (l : Fin 128) : Fin 2304 := ⟨o + l.val, by omega⟩

theorem place_lane (o : Nat) (h : o % 128 = 0) (l1 : o + 128 ≤ 2304) (l : Fin 128) : place (lane o l1 l) = l := by
  apply Fin.ext
  show (o + l.val) % 128 = l.val
  omega

theorem swap_lane (o : Nat) (h : o % 128 = 0) (l1 : o + 128 ≤ 2304) (l : Fin 128) :
    swap (lane o l1 l) = lane o l1 ⟨(l.val + 64) % 128, by omega⟩ := by
  apply Fin.ext
  show (o + l.val) / 128 * 128 + ((o + l.val) % 128 + 64) % 128 = o + (l.val + 64) % 128
  omega

/-- A token's row times a column of the weight. -/
def proj (x0 : Vec Ideal S1024x1024 .f32) (x1 : Vec Ideal S1024x2304 .bf16) (r : Fin 1024) (e : Fin 2304) : EReal :=
  ∑ d : Fin 1024, x0 (ix2 r d) * x1 (ix2 d e)

/-- The same, rotated. -/
def turn (x0 : Vec Ideal S1024x1024 .f32) (x1 : Vec Ideal S1024x2304 .bf16) (c s : Vec Ideal S1024x128 .f32) (r : Fin 1024) (e : Fin 2304) : EReal :=
  rot (proj x0 x1 r) (fun l => c (ix2 r l)) (fun l => s (ix2 r l)) e

/-! ## A slab -/

section
variable (o : Nat) (h : o % 128 = 0) (l1 : o + 128 ≤ 2304) (hs : S1024x2304.Slices ![0, o] S1024x128)
  (V : FVec Ideal S1024x2304 .f32) (c s : FVec Ideal S1024x128 .f32)

/-- A slab of the product. -/
def flat : FVec Ideal S1024x128 .f32 := extractStridedSlice S1024x128 ![0, o] V hs

theorem flat_apply (r : Fin 1024) (l : Fin 128) : flat o hs V (ix2 r l) = V (ix2 r (lane o l1 l)) := by
  pointwise [flat]
  rfl

/-- A slab of the product, rotated. -/
def turned : FVec Ideal S1024x128 .f32 :=
  addf (mulf (flat o hs V) c) (mulf (dynamicRotate 1 64#32 none (flat o hs V) rotates_S1024x128_d1) s)

include h in
theorem turned_apply (r : Fin 1024) (l : Fin 128) :
    turned o hs V c s (ix2 r l) = rot (fun e => V (ix2 r e)) (fun l => c (ix2 r l)) (fun l => s (ix2 r l)) (lane o l1 l) := by
  unfold rot
  rw [place_lane o h, swap_lane o h]
  pointwise [turned, flat]
  have e : (⟨o + (l.val + 128 - 64) % 128, by omega⟩ : Fin 2304) = lane o l1 ⟨(l.val + 64) % 128, by omega⟩ := by
    apply Fin.ext
    show o + (l.val + 128 - 64) % 128 = o + (l.val + 64) % 128
    omega
  rw [e]
  rfl

end

section
variable {o : Nat} {hs : S1024x2304.Slices ![0, o] S1024x128} {x0 : Vec Ideal S1024x1024 .f32} {x1 : Vec Ideal S1024x2304 .bf16} {c s : Vec Ideal S1024x128 .f32}
  {arg1 : Memref sig .tc .vmem S1024x1024 .f32} {harg1 : arg1.IsWhole} {arg2 : Memref sig .tc .vmem S1024x2304 .bf16} {harg2 : arg2.IsWhole}
  {argc : Memref sig .tc .vmem S1024x128 .f32} {hargc : argc.IsWhole} {args : Memref sig .tc .vmem S1024x128 .f32} {hargs : args.IsWhole}
  {inb0 inb1 inbc inbs}

theorem product_apply (r : Fin 1024) (e : Fin 2304) :
    k0_pay4 (View.readAt (Elt Ideal) arg1.view (Rect.unit (s := S1024x1024) ![0, 0] ![1024, 1024] inb0).toLoadRect (harg1.unread x0))
        (View.readAt (Elt Ideal) arg2.view (Rect.unit (s := S1024x2304) ![0, 0] ![1024, 2304] inb1).toLoadRect (harg2.unread x1)) (ix2 r e)
      = proj x0 x1 r e := by
  rw [View.readAt_eq_ld, View.readAt_eq_ld, Memref.IsWhole.read_unread, Memref.IsWhole.read_unread]
  pointwise [k0_pay4]
  rfl

/-- A slab of the product, from the arguments' blocks. -/
theorem flat_out (l1 : o + 128 ≤ 2304) (r : Fin 1024) (l : Fin 128) :
    flat o hs (k0_pay4 (View.readAt (Elt Ideal) arg1.view (Rect.unit (s := S1024x1024) ![0, 0] ![1024, 1024] inb0).toLoadRect (harg1.unread x0))
        (View.readAt (Elt Ideal) arg2.view (Rect.unit (s := S1024x2304) ![0, 0] ![1024, 2304] inb1).toLoadRect (harg2.unread x1))) (ix2 r l)
      = proj x0 x1 r (lane o l1 l) := by
  rw [flat_apply (l1 := l1)]
  exact product_apply r _

/-- A slab of the product, rotated, from the arguments' blocks. -/
theorem turned_out (h : o % 128 = 0) (l1 : o + 128 ≤ 2304) (r : Fin 1024) (l : Fin 128) :
    turned o hs (k0_pay4 (View.readAt (Elt Ideal) arg1.view (Rect.unit (s := S1024x1024) ![0, 0] ![1024, 1024] inb0).toLoadRect (harg1.unread x0))
        (View.readAt (Elt Ideal) arg2.view (Rect.unit (s := S1024x2304) ![0, 0] ![1024, 2304] inb1).toLoadRect (harg2.unread x1)))
        (View.readAt (Elt Ideal) argc.view (Rect.unit (s := S1024x128) ![0, 0] ![1024, 128] inbc).toLoadRect (hargc.unread c))
        (View.readAt (Elt Ideal) args.view (Rect.unit (s := S1024x128) ![0, 0] ![1024, 128] inbs).toLoadRect (hargs.unread s)) (ix2 r l)
      = turn x0 x1 c s r (lane o l1 l) := by
  rw [turned_apply o h l1]
  refine rot_congr (fun e => product_apply r e) (fun l => ?_) (fun l => ?_) _
  · rw [View.readAt_eq_ld, Memref.IsWhole.read_unread]
    pointwise []
  · rw [View.readAt_eq_ld, Memref.IsWhole.read_unread]
    pointwise []

end

/-- A slab as the scratch takes it. -/
def put (w : FVec Ideal S1024x128 .f32) : FVec Ideal S1x1024x128 .f32 := shapeCast S1x1024x128 w shapeCasts_S1024x128_S1x1024x128

theorem put_apply (w : FVec Ideal S1024x128 .f32) (r : Fin 1024) (l : Fin 128) : put w (ix3 0 r l) = w (ix2 r l) := by
  pointwise [put]

/-! ## The stores -/

/-- A result of the group of one class. -/
def at1 (T : Fin 1024 → Fin 2304 → EReal) (b : Nat) (b1 : b + 256 ≤ 2304) (i : Fin 1024) (l : Fin 256) : EReal :=
  T i ⟨b + l.val, by omega⟩

/-- A store of the group of one class. -/
def pay1 (w : FVec Ideal S1024x128 .f32) : FVec Ideal S1x1x1024x128 .bf16 :=
  shapeCast S1x1x1024x128 (truncf .bf16 w bitsLt_bf16_f32) shapeCasts_S1024x128_S1x1x1024x128

theorem pay1_apply (w : FVec Ideal S1024x128 .f32) (i : Fin 1024) (k : Fin 128) : pay1 w (ix4 0 0 i k) = w (ix2 i k) := by
  pointwise [pay1]

theorem piece1 (T : Fin 1024 → Fin 2304 → EReal) (b : Nat) (b1 : b + 256 ≤ 2304) {q : Nat} (q1 : q + 128 ≤ 256)
    {w : FVec Ideal S1024x128 .f32} (hw : ∀ p k, w (ix2 p k) = T p (lane (b + q) (by omega) k)) {inb} (x : S1x1x1024x128.Idx) :
    pay1 w x = at1 T b b1 ((Rect.unit (s := S1x1x1024x256) ![0, 0, 0, q] ![1, 1, 1024, 128] inb).emb x 2)
      ((Rect.unit (s := S1x1x1024x256) ![0, 0, 0, q] ![1, 1, 1024, 128] inb).emb x 3) := by
  obtain ⟨i, k, rfl⟩ : ∃ (i : Fin 1024) (k : Fin 128), x = ix4 0 0 i k := by
    refine ⟨x 2, x 3, (eq_ix4 x).trans ?_⟩
    have e0 : x 0 = (0 : Fin 1) := Subsingleton.elim (α := Fin 1) _ _
    have e1 : x 1 = (0 : Fin 1) := Subsingleton.elim (α := Fin 1) _ _
    rw [e0, e1]
  rw [pay1_apply, hw]
  unfold at1
  refine congrArg₂ T (Fin.ext ?_) (Fin.ext ?_)
  · show i.val = 0 + 1 * i.val; omega
  · show b + q + k.val = b + (q + 1 * k.val); omega

/-- A result of the group of four classes. -/
def at4 (T : Fin 1024 → Fin 2304 → EReal) (b : Nat) (b1 : b + 256 ≤ 2304) (j : Fin 4) (i : Fin 256) (l : Fin 256) : EReal :=
  T ⟨i.val * 4 + j.val, by omega⟩ ⟨b + l.val, by omega⟩

/-- A store of the group of four classes. -/
def pay4 (v : FVec Ideal S1x256x128 .f32) : FVec Ideal S1x1x256x128 .bf16 :=
  shapeCast S1x1x256x128 (truncf .bf16 (shapeCast S256x128 v shapeCasts_S1x256x128_S256x128) bitsLt_bf16_f32) shapeCasts_S256x128_S1x1x256x128

theorem pay4_apply (v : FVec Ideal S1x256x128 .f32) (i : Fin 256) (k : Fin 128) : pay4 v (ix4 0 0 i k) = v (ix3 0 i k) := by
  pointwise [pay4]

/-- Every fourth row of the slot stored last. -/
theorem load4 {z r : Nat} (r1 : r < 4) (arg16 : Memref sig .tc .vmem S12x1024x128 .f32) {L : List (View.Piece (Elt Ideal) S12x1024x128 .f32)}
    {w : FVec Ideal S1x1024x128 .f32} {inb inb'} (i : Fin 256) (k : Fin 128) :
    arg16.view.readCov (⟨Rect.unit (s := S12x1024x128) ![z, 0, 0] ![1, 1024, 128] inb, w⟩ :: L)
        { off := ![z, r, 0], size := ![1, 256, 128], stride := ![1, 4, 1], inb := inb' } (ix3 0 i k)
      = w (ix3 0 ⟨i.val * 4 + r, by omega⟩ k) := by
  rw [View.readCov_eq_canon']
  refine Eq.trans (congrArg (View.canon _) ?_) (View.canon_cons_emb (Rect.unit (s := S12x1024x128) ![z, 0, 0] ![1, 1024, 128] inb) w L
    (ix3 (0 : Fin 1) (⟨i.val * 4 + r, by omega⟩ : Fin 1024) k))
  funext a
  apply Fin.ext
  match a with
  | ⟨0, _⟩ => rfl
  | ⟨1, _⟩ => show r + 4 * i.val = 0 + 1 * (i.val * 4 + r); omega
  | ⟨2, _⟩ => rfl

theorem piece4 (T : Fin 1024 → Fin 2304 → EReal) (b : Nat) (b1 : b + 256 ≤ 2304) {q r z : Nat} (q1 : q + 128 ≤ 256) (r1 : r < 4)
    {arg16 : Memref sig .tc .vmem S12x1024x128 .f32} {L : List (View.Piece (Elt Ideal) S12x1024x128 .f32)} {w : FVec Ideal S1024x128 .f32}
    (hw : ∀ p k, w (ix2 p k) = T p (lane (b + q) (by omega) k)) {inb inb' inb''} (x : S1x1x256x128.Idx) :
    pay4 (arg16.view.readCov (⟨Rect.unit (s := S12x1024x128) ![z, 0, 0] ![1, 1024, 128] inb, put w⟩ :: L)
        { off := ![z, r, 0], size := ![1, 256, 128], stride := ![1, 4, 1], inb := inb' }) x
      = at4 T b b1 ((Rect.unit (s := S1x4x256x256) ![0, r, 0, q] ![1, 1, 256, 128] inb'').emb x 1)
          ((Rect.unit (s := S1x4x256x256) ![0, r, 0, q] ![1, 1, 256, 128] inb'').emb x 2)
          ((Rect.unit (s := S1x4x256x256) ![0, r, 0, q] ![1, 1, 256, 128] inb'').emb x 3) := by
  obtain ⟨i, k, rfl⟩ : ∃ (i : Fin 256) (k : Fin 128), x = ix4 0 0 i k := by
    refine ⟨x 2, x 3, (eq_ix4 x).trans ?_⟩
    have e0 : x 0 = (0 : Fin 1) := Subsingleton.elim (α := Fin 1) _ _
    have e1 : x 1 = (0 : Fin 1) := Subsingleton.elim (α := Fin 1) _ _
    rw [e0, e1]
  refine (pay4_apply _ i k).trans ((load4 r1 arg16 i k).trans ((put_apply w _ k).trans ((hw _ k).trans ?_)))
  unfold at4
  refine congrArg₂ T (Fin.ext ?_) (Fin.ext ?_)
  · show i.val * 4 + r = (0 + 1 * i.val) * 4 + (r + 1 * 0); omega
  · show b + q + k.val = b + (q + 1 * k.val); omega

/-- A result of the group of sixteen classes. -/
def at16 (T : Fin 1024 → Fin 2304 → EReal) (b : Nat) (b1 : b + 256 ≤ 2304) (j : Fin 16) (i : Fin 64) (l : Fin 256) : EReal :=
  T ⟨i.val * 16 + j.val, by omega⟩ ⟨b + l.val, by omega⟩

/-- A store of the group of sixteen classes. -/
def pay16 (v : FVec Ideal S1x64x128 .f32) : FVec Ideal S1x1x64x128 .bf16 :=
  shapeCast S1x1x64x128 (truncf .bf16 (shapeCast S64x128 v shapeCasts_S1x64x128_S64x128) bitsLt_bf16_f32) shapeCasts_S64x128_S1x1x64x128

theorem pay16_apply (v : FVec Ideal S1x64x128 .f32) (i : Fin 64) (k : Fin 128) : pay16 v (ix4 0 0 i k) = v (ix3 0 i k) := by
  pointwise [pay16]

/-- Every sixteenth row of the slot stored last. -/
theorem load16 {z r : Nat} (r1 : r < 16) (arg16 : Memref sig .tc .vmem S12x1024x128 .f32) {L : List (View.Piece (Elt Ideal) S12x1024x128 .f32)}
    {w : FVec Ideal S1x1024x128 .f32} {inb inb'} (i : Fin 64) (k : Fin 128) :
    arg16.view.readCov (⟨Rect.unit (s := S12x1024x128) ![z, 0, 0] ![1, 1024, 128] inb, w⟩ :: L)
        { off := ![z, r, 0], size := ![1, 64, 128], stride := ![1, 16, 1], inb := inb' } (ix3 0 i k)
      = w (ix3 0 ⟨i.val * 16 + r, by omega⟩ k) := by
  rw [View.readCov_eq_canon']
  refine Eq.trans (congrArg (View.canon _) ?_) (View.canon_cons_emb (Rect.unit (s := S12x1024x128) ![z, 0, 0] ![1, 1024, 128] inb) w L
    (ix3 (0 : Fin 1) (⟨i.val * 16 + r, by omega⟩ : Fin 1024) k))
  funext a
  apply Fin.ext
  match a with
  | ⟨0, _⟩ => rfl
  | ⟨1, _⟩ => show r + 16 * i.val = 0 + 1 * (i.val * 16 + r); omega
  | ⟨2, _⟩ => rfl

theorem piece16 (T : Fin 1024 → Fin 2304 → EReal) (b : Nat) (b1 : b + 256 ≤ 2304) {q r z : Nat} (q1 : q + 128 ≤ 256) (r1 : r < 16)
    {arg16 : Memref sig .tc .vmem S12x1024x128 .f32} {L : List (View.Piece (Elt Ideal) S12x1024x128 .f32)} {w : FVec Ideal S1024x128 .f32}
    (hw : ∀ p k, w (ix2 p k) = T p (lane (b + q) (by omega) k)) {inb inb' inb''} (x : S1x1x64x128.Idx) :
    pay16 (arg16.view.readCov (⟨Rect.unit (s := S12x1024x128) ![z, 0, 0] ![1, 1024, 128] inb, put w⟩ :: L)
        { off := ![z, r, 0], size := ![1, 64, 128], stride := ![1, 16, 1], inb := inb' }) x
      = at16 T b b1 ((Rect.unit (s := S1x16x64x256) ![0, r, 0, q] ![1, 1, 64, 128] inb'').emb x 1)
          ((Rect.unit (s := S1x16x64x256) ![0, r, 0, q] ![1, 1, 64, 128] inb'').emb x 2)
          ((Rect.unit (s := S1x16x64x256) ![0, r, 0, q] ![1, 1, 64, 128] inb'').emb x 3) := by
  obtain ⟨i, k, rfl⟩ : ∃ (i : Fin 64) (k : Fin 128), x = ix4 0 0 i k := by
    refine ⟨x 2, x 3, (eq_ix4 x).trans ?_⟩
    have e0 : x 0 = (0 : Fin 1) := Subsingleton.elim (α := Fin 1) _ _
    have e1 : x 1 = (0 : Fin 1) := Subsingleton.elim (α := Fin 1) _ _
    rw [e0, e1]
  refine (pay16_apply _ i k).trans ((load16 r1 arg16 i k).trans ((put_apply w _ k).trans ((hw _ k).trans ?_)))
  unfold at16
  refine congrArg₂ T (Fin.ext ?_) (Fin.ext ?_)
  · show i.val * 16 + r = (0 + 1 * i.val) * 16 + (r + 1 * 0); omega
  · show b + q + k.val = b + (q + 1 * k.val); omega

end Cert.SplitBlock

end
-- ==== Proof.SplitOut.lean ====
/-
  The dilated projections' output blocks at an index, from the arguments' blocks.
-/
module

public import proofs.«01_k».proof.Proof.SplitBlock
public import proofs.«01_k».proof.Proof.Gen.SplitIdeal.Frame
public import proofs.«01_k».proof.Proof.Gen.SplitIdeal.Value

@[expose] public section

set_option maxRecDepth 16384

noncomputable section

namespace Cert.SplitBlock

open Idealize.ShloMosaic Idealize.ShloMosaic.TcCoe Cert.SplitIdeal Cert.SplitIdeal.Gen
open Cert.SplitIdeal.Facts

section
variable (c : Dev nD) (i : grid0.Coords)
  (arg1 : Memref sig .tc .vmem S1024x1024 .f32) (harg1 : arg1.IsWhole) (arg2 : Memref sig .tc .vmem S1024x2304 .bf16) (harg2 : arg2.IsWhole)
  (arg3 : Memref sig .tc .vmem S1024x128 .f32) (harg3 : arg3.IsWhole) (arg4 : Memref sig .tc .vmem S1024x128 .f32) (harg4 : arg4.IsWhole)
  (arg5 : Memref sig .tc .vmem S1024x128 .f32) (harg5 : arg5.IsWhole) (arg6 : Memref sig .tc .vmem S1024x128 .f32) (harg6 : arg6.IsWhole)
  (arg7 : Memref sig .tc .vmem S1x1x1024x256 .bf16) (harg7 : arg7.IsWhole) (arg8 : Memref sig .tc .vmem S1x1x1024x256 .bf16) (harg8 : arg8.IsWhole)
  (arg9 : Memref sig .tc .vmem S1x1x1024x256 .bf16) (harg9 : arg9.IsWhole) (arg10 : Memref sig .tc .vmem S1x4x256x256 .bf16) (harg10 : arg10.IsWhole)
  (arg11 : Memref sig .tc .vmem S1x4x256x256 .bf16) (harg11 : arg11.IsWhole) (arg12 : Memref sig .tc .vmem S1x4x256x256 .bf16) (harg12 : arg12.IsWhole)
  (arg13 : Memref sig .tc .vmem S1x16x64x256 .bf16) (harg13 : arg13.IsWhole) (arg14 : Memref sig .tc .vmem S1x16x64x256 .bf16) (harg14 : arg14.IsWhole)
  (arg15 : Memref sig .tc .vmem S1x16x64x256 .bf16) (harg15 : arg15.IsWhole) (arg16 : Memref sig .tc .vmem S12x1024x128 .f32) (harg16 : arg16.IsWhole)
  (x0 : Vec Ideal S1024x1024 .f32) (x1 : Vec Ideal S1024x2304 .bf16) (x2 x3 x4 x5 : Vec Ideal S1024x128 .f32)

/-- The queries of the group of one class. -/
theorem out6_apply (y : S1x1x1024x256.Idx) :
    out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y = at1 (turn x0 x1 x2 x3) 0 (by decide) (y 2) (y 3) := by
  unfold out0_A_6
  rw [View.read_writes_junk_eq_canon]
  have hc := cover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y
  revert hc
  unfold kernelRun0_A
  dsimp only
  intro hc
  refine View.canon_apply_of_pieces (Val := Elt Ideal) (e := .bf16) (fun y : S1x1x1024x256.Idx => at1 (turn x0 x1 x2 x3) 0 (by decide) (y 2) (y 3)) _ ?_ y hc
  simp only [List.forall_mem_cons, List.not_mem_nil, false_imp_iff, implies_true, and_true]
  clear hc
  repeat' refine And.intro ?_ ?_
  all_goals
    intro x
    refine piece1 (turn x0 x1 x2 x3) 0 (by decide) (by decide) ?_ x
    exact fun p k => turned_out (by decide) (by decide) p k

/-- The keys of the group of one class. -/
theorem out7_apply (y : S1x1x1024x256.Idx) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y = at1 (turn x0 x1 x4 x5) 768 (by decide) (y 2) (y 3) := by
  unfold out0_A_7
  rw [View.read_writes_junk_eq_canon]
  have hc := cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y
  revert hc
  unfold kernelRun0_A
  dsimp only
  intro hc
  refine View.canon_apply_of_pieces (Val := Elt Ideal) (e := .bf16) (fun y : S1x1x1024x256.Idx => at1 (turn x0 x1 x4 x5) 768 (by decide) (y 2) (y 3)) _ ?_ y hc
  simp only [List.forall_mem_cons, List.not_mem_nil, false_imp_iff, implies_true, and_true]
  clear hc
  repeat' refine And.intro ?_ ?_
  all_goals
    intro x
    refine piece1 (turn x0 x1 x4 x5) 768 (by decide) (by decide) ?_ x
    exact fun p k => turned_out (by decide) (by decide) p k

/-- The values of the group of one class. -/
theorem out8_apply (y : S1x1x1024x256.Idx) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y = at1 (proj x0 x1) 1536 (by decide) (y 2) (y 3) := by
  unfold out0_A_8
  rw [View.read_writes_junk_eq_canon]
  have hc := cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y
  revert hc
  unfold kernelRun0_A
  dsimp only
  intro hc
  refine View.canon_apply_of_pieces (Val := Elt Ideal) (e := .bf16) (fun y : S1x1x1024x256.Idx => at1 (proj x0 x1) 1536 (by decide) (y 2) (y 3)) _ ?_ y hc
  simp only [List.forall_mem_cons, List.not_mem_nil, false_imp_iff, implies_true, and_true]
  clear hc
  repeat' refine And.intro ?_ ?_
  all_goals
    intro x
    refine piece1 (proj x0 x1) 1536 (by decide) (by decide) ?_ x
    exact fun p k => flat_out (hs := by decide) (by decide) p k

/-- The queries of the group of four classes. -/
theorem out9_apply (y : S1x4x256x256.Idx) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y = at4 (turn x0 x1 x2 x3) 256 (by decide) (y 1) (y 2) (y 3) := by
  unfold out0_A_9
  rw [View.read_writes_junk_eq_canon]
  have hc := cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y
  revert hc
  unfold kernelRun0_A
  dsimp only
  intro hc
  refine View.canon_apply_of_pieces (Val := Elt Ideal) (e := .bf16) (fun y : S1x4x256x256.Idx => at4 (turn x0 x1 x2 x3) 256 (by decide) (y 1) (y 2) (y 3)) _ ?_ y hc
  simp only [List.forall_mem_cons, List.not_mem_nil, false_imp_iff, implies_true, and_true]
  clear hc
  repeat' refine And.intro ?_ ?_
  all_goals
    intro x
    refine piece4 (turn x0 x1 x2 x3) 256 (by decide) (by decide) (by decide) ?_ x
    exact fun p k => turned_out (by decide) (by decide) p k

/-- The keys of the group of four classes. -/
theorem out10_apply (y : S1x4x256x256.Idx) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y = at4 (turn x0 x1 x4 x5) 1024 (by decide) (y 1) (y 2) (y 3) := by
  unfold out0_A_10
  rw [View.read_writes_junk_eq_canon]
  have hc := cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y
  revert hc
  unfold kernelRun0_A
  dsimp only
  intro hc
  refine View.canon_apply_of_pieces (Val := Elt Ideal) (e := .bf16) (fun y : S1x4x256x256.Idx => at4 (turn x0 x1 x4 x5) 1024 (by decide) (y 1) (y 2) (y 3)) _ ?_ y hc
  simp only [List.forall_mem_cons, List.not_mem_nil, false_imp_iff, implies_true, and_true]
  clear hc
  repeat' refine And.intro ?_ ?_
  all_goals
    intro x
    refine piece4 (turn x0 x1 x4 x5) 1024 (by decide) (by decide) (by decide) ?_ x
    exact fun p k => turned_out (by decide) (by decide) p k

/-- The values of the group of four classes. -/
theorem out11_apply (y : S1x4x256x256.Idx) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y = at4 (proj x0 x1) 1792 (by decide) (y 1) (y 2) (y 3) := by
  unfold out0_A_11
  rw [View.read_writes_junk_eq_canon]
  have hc := cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y
  revert hc
  unfold kernelRun0_A
  dsimp only
  intro hc
  refine View.canon_apply_of_pieces (Val := Elt Ideal) (e := .bf16) (fun y : S1x4x256x256.Idx => at4 (proj x0 x1) 1792 (by decide) (y 1) (y 2) (y 3)) _ ?_ y hc
  simp only [List.forall_mem_cons, List.not_mem_nil, false_imp_iff, implies_true, and_true]
  clear hc
  repeat' refine And.intro ?_ ?_
  all_goals
    intro x
    refine piece4 (proj x0 x1) 1792 (by decide) (by decide) (by decide) ?_ x
    exact fun p k => flat_out (hs := by decide) (by decide) p k

/-- The queries of the group of sixteen classes. -/
theorem out12_apply (y : S1x16x64x256.Idx) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y = at16 (turn x0 x1 x2 x3) 512 (by decide) (y 1) (y 2) (y 3) := by
  unfold out0_A_12
  rw [View.read_writes_junk_eq_canon]
  have hc := cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y
  revert hc
  unfold kernelRun0_A
  dsimp only
  intro hc
  refine View.canon_apply_of_pieces (Val := Elt Ideal) (e := .bf16) (fun y : S1x16x64x256.Idx => at16 (turn x0 x1 x2 x3) 512 (by decide) (y 1) (y 2) (y 3)) _ ?_ y hc
  simp only [List.forall_mem_cons, List.not_mem_nil, false_imp_iff, implies_true, and_true]
  clear hc
  repeat' refine And.intro ?_ ?_
  all_goals
    intro x
    refine piece16 (turn x0 x1 x2 x3) 512 (by decide) (by decide) (by decide) ?_ x
    exact fun p k => turned_out (by decide) (by decide) p k

/-- The keys of the group of sixteen classes. -/
theorem out13_apply (y : S1x16x64x256.Idx) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y = at16 (turn x0 x1 x4 x5) 1280 (by decide) (y 1) (y 2) (y 3) := by
  unfold out0_A_13
  rw [View.read_writes_junk_eq_canon]
  have hc := cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y
  revert hc
  unfold kernelRun0_A
  dsimp only
  intro hc
  refine View.canon_apply_of_pieces (Val := Elt Ideal) (e := .bf16) (fun y : S1x16x64x256.Idx => at16 (turn x0 x1 x4 x5) 1280 (by decide) (y 1) (y 2) (y 3)) _ ?_ y hc
  simp only [List.forall_mem_cons, List.not_mem_nil, false_imp_iff, implies_true, and_true]
  clear hc
  repeat' refine And.intro ?_ ?_
  all_goals
    intro x
    refine piece16 (turn x0 x1 x4 x5) 1280 (by decide) (by decide) (by decide) ?_ x
    exact fun p k => turned_out (by decide) (by decide) p k

/-- The values of the group of sixteen classes. -/
theorem out14_apply (y : S1x16x64x256.Idx) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y = at16 (proj x0 x1) 2048 (by decide) (y 1) (y 2) (y 3) := by
  unfold out0_A_14
  rw [View.read_writes_junk_eq_canon]
  have hc := cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y
  revert hc
  unfold kernelRun0_A
  dsimp only
  intro hc
  refine View.canon_apply_of_pieces (Val := Elt Ideal) (e := .bf16) (fun y : S1x16x64x256.Idx => at16 (proj x0 x1) 2048 (by decide) (y 1) (y 2) (y 3)) _ ?_ y hc
  simp only [List.forall_mem_cons, List.not_mem_nil, false_imp_iff, implies_true, and_true]
  clear hc
  repeat' refine And.intro ?_ ?_
  all_goals
    intro x
    refine piece16 (proj x0 x1) 2048 (by decide) (by decide) (by decide) ?_ x
    exact fun p k => flat_out (hs := by decide) (by decide) p k

end

end Cert.SplitBlock

end
-- ==== Proof.SplitWhole.lean ====
/-
  The dilated projections' result arrays as functions of the argument arrays.
-/
module

public import proofs.«01_k».proof.Proof.SplitOut
public import Idealize.ShloMosaic.Lib.Pipeline.ValueKit

@[expose] public section

set_option maxRecDepth 16384

noncomputable section

namespace Cert.SplitWhole

open Idealize.ShloMosaic Idealize.ShloMosaic.TcCoe Cert.SplitIdeal Cert.SplitIdeal.Gen
open Cert.SplitBlock

/-- A token's place in the flat order. -/
def flat (b : Fin 4) (n : Fin 8192) : Fin 32768 := ⟨b.val * 8192 + n.val, by omega⟩

/-- A value's lane. -/
def plain (x : S32768x1024.Idx → EReal) (w : S1024x2304.Idx → EReal) (b : Fin 4) (n : Fin 8192) (e : Fin 2304) : EReal :=
  ∑ d : Fin 1024, x (ix2 (flat b n) d) * w (ix2 d e)

/-- A rotated query's or key's lane. -/
def turned (x : S32768x1024.Idx → EReal) (w : S1024x2304.Idx → EReal) (c s : S8192x128.Idx → EReal) (b : Fin 4) (n : Fin 8192) (e : Fin 2304) : EReal :=
  rot (plain x w b n) (fun l => c (ix2 n l)) (fun l => s (ix2 n l)) e

theorem plain_congr {x x' : S32768x1024.Idx → EReal} {w w' : S1024x2304.Idx → EReal} (hx : x' = x) (hw : w' = w) : plain x' w' = plain x w := by
  rw [hx, hw]

theorem turned_congr {x x' : S32768x1024.Idx → EReal} {w w' : S1024x2304.Idx → EReal} {c c' s s' : S8192x128.Idx → EReal} (hx : x' = x) (hw : w' = w)
    (hc : c' = c) (hs : s' = s) : turned x' w' c' s' = turned x w c s := by
  rw [hx, hw, hc, hs]

section
variable (T : Fin 4 → Fin 8192 → Fin 2304 → EReal) (o : Nat) (o1 : o + 256 ≤ 2304)

/-- The group of one class: the 256 lanes beginning at `o`. -/
def lay1 (b : Fin 4) (i : Fin 8192) (l : Fin 256) : EReal := T b i ⟨o + l.val, by omega⟩

/-- The group of four classes: the class `j` holds every fourth position. -/
def lay4 (b : Fin 4) (j : Fin 4) (i : Fin 2048) (l : Fin 256) : EReal := T b ⟨i.val * 4 + j.val, by omega⟩ ⟨o + l.val, by omega⟩

/-- The group of sixteen classes. -/
def lay16 (b : Fin 4) (j : Fin 16) (i : Fin 512) (l : Fin 256) : EReal := T b ⟨i.val * 16 + j.val, by omega⟩ ⟨o + l.val, by omega⟩

end

variable (m : (ℓ : Loc nD τ sig) → Buf (Elt Ideal) ℓ) (c : Dev nD)

theorem idx_in (t : Fin cfg0.N) : (win0_0.index t = ![t.val, 0] ∧ win0_1.index t = ![0, 0]) ∧ (win0_2.index t = ![t.val % 8, 0] ∧ win0_3.index t = ![t.val % 8, 0])
    ∧ win0_4.index t = ![t.val % 8, 0] ∧ win0_5.index t = ![t.val % 8, 0] :=
  (by decide +kernel : ∀ t : Fin grid0.N, (win0_0.index t = ![t.val, 0] ∧ win0_1.index t = ![0, 0]) ∧ (win0_2.index t = ![t.val % 8, 0] ∧ win0_3.index t = ![t.val % 8, 0])
    ∧ win0_4.index t = ![t.val % 8, 0] ∧ win0_5.index t = ![t.val % 8, 0]) t

theorem idx_out (t : Fin cfg0.N) : (win0_6.index t = ![t.val / 8, 0, t.val % 8, 0] ∧ win0_7.index t = ![t.val / 8, 0, t.val % 8, 0] ∧ win0_8.index t = ![t.val / 8, 0, t.val % 8, 0])
    ∧ (win0_9.index t = ![t.val / 8, 0, t.val % 8, 0] ∧ win0_10.index t = ![t.val / 8, 0, t.val % 8, 0] ∧ win0_11.index t = ![t.val / 8, 0, t.val % 8, 0])
    ∧ win0_12.index t = ![t.val / 8, 0, t.val % 8, 0] ∧ win0_13.index t = ![t.val / 8, 0, t.val % 8, 0] ∧ win0_14.index t = ![t.val / 8, 0, t.val % 8, 0] :=
  (by decide +kernel : ∀ t : Fin grid0.N, (win0_6.index t = ![t.val / 8, 0, t.val % 8, 0] ∧ win0_7.index t = ![t.val / 8, 0, t.val % 8, 0] ∧ win0_8.index t = ![t.val / 8, 0, t.val % 8, 0])
    ∧ (win0_9.index t = ![t.val / 8, 0, t.val % 8, 0] ∧ win0_10.index t = ![t.val / 8, 0, t.val % 8, 0] ∧ win0_11.index t = ![t.val / 8, 0, t.val % 8, 0])
    ∧ win0_12.index t = ![t.val / 8, 0, t.val % 8, 0] ∧ win0_13.index t = ![t.val / 8, 0, t.val % 8, 0] ∧ win0_14.index t = ![t.val / 8, 0, t.val % 8, 0]) t

/-- A block's row is its token's. -/
theorem proj_eq (t : Fin cfg0.N) (r : Fin 1024) (b : Fin 4) (n : Fin 8192) (hb : b.val = t.val / 8) (hn : n.val = t.val % 8 * 1024 + r.val) (e : Fin 2304) :
    proj (iblk m c 0 t) (iblk m c 1 t) r e = plain (m ((c : Thread nD τ).loc main_arg0)) (m ((c : Thread nD τ).loc main_arg1)) b n e := by
  obtain ⟨⟨i0, i1⟩, -⟩ := idx_in t
  unfold proj plain
  refine Finset.sum_congr rfl fun d _ => ?_
  congr 1
  · blk_ext [iblk, V, i0, flat]
  · blk_ext [iblk, V, i1]

/-- A block's rotated query. -/
theorem query_eq (t : Fin cfg0.N) (r : Fin 1024) (b : Fin 4) (n : Fin 8192) (hb : b.val = t.val / 8) (hn : n.val = t.val % 8 * 1024 + r.val) (e : Fin 2304) :
    turn (iblk m c 0 t) (iblk m c 1 t) (iblk m c 2 t) (iblk m c 3 t) r e = turned (m ((c : Thread nD τ).loc main_arg0)) (m ((c : Thread nD τ).loc main_arg1))
      (m ((c : Thread nD τ).loc main_arg2)) (m ((c : Thread nD τ).loc main_arg3)) b n e := by
  obtain ⟨-, ⟨i2, i3⟩, -⟩ := idx_in t
  refine rot_congr (fun e => proj_eq m c t r b n hb hn e) (fun l => ?_) (fun l => ?_) _
  · blk_ext [iblk, V, i2]
  · blk_ext [iblk, V, i3]

/-- A block's rotated key. -/
theorem key_eq (t : Fin cfg0.N) (r : Fin 1024) (b : Fin 4) (n : Fin 8192) (hb : b.val = t.val / 8) (hn : n.val = t.val % 8 * 1024 + r.val) (e : Fin 2304) :
    turn (iblk m c 0 t) (iblk m c 1 t) (iblk m c 4 t) (iblk m c 5 t) r e = turned (m ((c : Thread nD τ).loc main_arg0)) (m ((c : Thread nD τ).loc main_arg1))
      (m ((c : Thread nD τ).loc main_arg4)) (m ((c : Thread nD τ).loc main_arg5)) b n e := by
  obtain ⟨-, -, i4, i5⟩ := idx_in t
  refine rot_congr (fun e => proj_eq m c t r b n hb hn e) (fun l => ?_) (fun l => ?_) _
  · blk_ext [iblk, V, i4]
  · blk_ext [iblk, V, i5]

theorem arr6 : (dats m 0 c).arrAt 6 cfg0.N = fun y : S4x1x8192x256.Idx => lay1 (turned (m ((c : Thread nD τ).loc main_arg0)) (m ((c : Thread nD τ).loc main_arg1)) (m ((c : Thread nD τ).loc main_arg2)) (m ((c : Thread nD τ).loc main_arg3))) 0 (by decide)
    (y 0) (y 2) (y 3) := by
  refine (dats m 0 c).arrAt_eq_of_covers 6 _ (by decide +kernel) fun t hf y => ?_
  blk_simp
  rw [after0_6]
  obtain ⟨⟨i6, i7, i8⟩, -⟩ := idx_out t
  unfold outsAt0
  dsimp only
  refine (out6_apply _ _ _ _ _ _ _ _ _ _ _ _ _ _ _ _ _ _ _ _ _ _ _ _ _ _ _ _ _ _ _ _ _ _ _ _ _ _ _ _ y).trans ?_
  unfold at1 lay1
  have e3 : (win0_6.blk t).view.emb y 3 = y 3 := by apply Fin.ext; blk_simp [i6]
  rw [e3]
  refine query_eq m c t _ _ _ ?_ ?_ _
  · blk_simp [i6]
  · blk_simp [i6]

theorem arr7 : (dats m 0 c).arrAt 7 cfg0.N = fun y : S4x1x8192x256.Idx => lay1 (turned (m ((c : Thread nD τ).loc main_arg0)) (m ((c : Thread nD τ).loc main_arg1)) (m ((c : Thread nD τ).loc main_arg4)) (m ((c : Thread nD τ).loc main_arg5))) 768 (by decide)
    (y 0) (y 2) (y 3) := by
  refine (dats m 0 c).arrAt_eq_of_covers 7 _ (by decide +kernel) fun t hf y => ?_
  blk_simp
  rw [after0_7]
  obtain ⟨⟨i6, i7, i8⟩, -⟩ := idx_out t
  unfold outsAt0
  dsimp only
  refine (out7_apply _ _ _ _ _ _ _ _ _ _ _ _ _ _ _ _ _ _ _ _ _ _ _ _ _ _ _ _ _ _ _ _ _ _ _ _ _ _ _ _ y).trans ?_
  unfold at1 lay1
  have e3 : (win0_7.blk t).view.emb y 3 = y 3 := by apply Fin.ext; blk_simp [i7]
  rw [e3]
  refine key_eq m c t _ _ _ ?_ ?_ _
  · blk_simp [i7]
  · blk_simp [i7]

theorem arr8 : (dats m 0 c).arrAt 8 cfg0.N = fun y : S4x1x8192x256.Idx => lay1 (plain (m ((c : Thread nD τ).loc main_arg0)) (m ((c : Thread nD τ).loc main_arg1))) 1536 (by decide)
    (y 0) (y 2) (y 3) := by
  refine (dats m 0 c).arrAt_eq_of_covers 8 _ (by decide +kernel) fun t hf y => ?_
  blk_simp
  rw [after0_8]
  obtain ⟨⟨i6, i7, i8⟩, -⟩ := idx_out t
  unfold outsAt0
  dsimp only
  refine (out8_apply _ _ _ _ _ _ _ _ _ _ _ _ _ _ _ _ _ _ _ _ _ _ _ _ _ _ _ _ _ _ _ _ _ _ _ _ _ _ _ _ y).trans ?_
  unfold at1 lay1
  have e3 : (win0_8.blk t).view.emb y 3 = y 3 := by apply Fin.ext; blk_simp [i8]
  rw [e3]
  refine proj_eq m c t _ _ _ ?_ ?_ _
  · blk_simp [i8]
  · blk_simp [i8]

theorem arr9 : (dats m 0 c).arrAt 9 cfg0.N = fun y : S4x4x2048x256.Idx => lay4 (turned (m ((c : Thread nD τ).loc main_arg0)) (m ((c : Thread nD τ).loc main_arg1)) (m ((c : Thread nD τ).loc main_arg2)) (m ((c : Thread nD τ).loc main_arg3))) 256 (by decide)
    (y 0) (y 1) (y 2) (y 3) := by
  refine (dats m 0 c).arrAt_eq_of_covers 9 _ (by decide +kernel) fun t hf y => ?_
  blk_simp
  rw [after0_9]
  obtain ⟨-, ⟨i9, i10, i11⟩, -⟩ := idx_out t
  unfold outsAt0
  dsimp only
  refine (out9_apply _ _ _ _ _ _ _ _ _ _ _ _ _ _ _ _ _ _ _ _ _ _ _ _ _ _ _ _ _ _ _ _ _ _ _ _ _ _ _ _ y).trans ?_
  unfold at4 lay4
  have e3 : (win0_9.blk t).view.emb y 3 = y 3 := by apply Fin.ext; blk_simp [i9]
  rw [e3]
  refine query_eq m c t _ _ _ ?_ ?_ _
  · blk_simp [i9]
  · blk_simp [i9]
    dsimp only
    omega

theorem arr10 : (dats m 0 c).arrAt 10 cfg0.N = fun y : S4x4x2048x256.Idx => lay4 (turned (m ((c : Thread nD τ).loc main_arg0)) (m ((c : Thread nD τ).loc main_arg1)) (m ((c : Thread nD τ).loc main_arg4)) (m ((c : Thread nD τ).loc main_arg5))) 1024 (by decide)
    (y 0) (y 1) (y 2) (y 3) := by
  refine (dats m 0 c).arrAt_eq_of_covers 10 _ (by decide +kernel) fun t hf y => ?_
  blk_simp
  rw [after0_10]
  obtain ⟨-, ⟨i9, i10, i11⟩, -⟩ := idx_out t
  unfold outsAt0
  dsimp only
  refine (out10_apply _ _ _ _ _ _ _ _ _ _ _ _ _ _ _ _ _ _ _ _ _ _ _ _ _ _ _ _ _ _ _ _ _ _ _ _ _ _ _ _ y).trans ?_
  unfold at4 lay4
  have e3 : (win0_10.blk t).view.emb y 3 = y 3 := by apply Fin.ext; blk_simp [i10]
  rw [e3]
  refine key_eq m c t _ _ _ ?_ ?_ _
  · blk_simp [i10]
  · blk_simp [i10]
    dsimp only
    omega

theorem arr11 : (dats m 0 c).arrAt 11 cfg0.N = fun y : S4x4x2048x256.Idx => lay4 (plain (m ((c : Thread nD τ).loc main_arg0)) (m ((c : Thread nD τ).loc main_arg1))) 1792 (by decide)
    (y 0) (y 1) (y 2) (y 3) := by
  refine (dats m 0 c).arrAt_eq_of_covers 11 _ (by decide +kernel) fun t hf y => ?_
  blk_simp
  rw [after0_11]
  obtain ⟨-, ⟨i9, i10, i11⟩, -⟩ := idx_out t
  unfold outsAt0
  dsimp only
  refine (out11_apply _ _ _ _ _ _ _ _ _ _ _ _ _ _ _ _ _ _ _ _ _ _ _ _ _ _ _ _ _ _ _ _ _ _ _ _ _ _ _ _ y).trans ?_
  unfold at4 lay4
  have e3 : (win0_11.blk t).view.emb y 3 = y 3 := by apply Fin.ext; blk_simp [i11]
  rw [e3]
  refine proj_eq m c t _ _ _ ?_ ?_ _
  · blk_simp [i11]
  · blk_simp [i11]
    dsimp only
    omega

theorem arr12 : (dats m 0 c).arrAt 12 cfg0.N = fun y : S4x16x512x256.Idx => lay16 (turned (m ((c : Thread nD τ).loc main_arg0)) (m ((c : Thread nD τ).loc main_arg1)) (m ((c : Thread nD τ).loc main_arg2)) (m ((c : Thread nD τ).loc main_arg3))) 512 (by decide)
    (y 0) (y 1) (y 2) (y 3) := by
  refine (dats m 0 c).arrAt_eq_of_covers 12 _ (by decide +kernel) fun t hf y => ?_
  blk_simp
  rw [after0_12]
  obtain ⟨-, -, i12, i13, i14⟩ := idx_out t
  unfold outsAt0
  dsimp only
  refine (out12_apply _ _ _ _ _ _ _ _ _ _ _ _ _ _ _ _ _ _ _ _ _ _ _ _ _ _ _ _ _ _ _ _ _ _ _ _ _ _ _ _ y).trans ?_
  unfold at16 lay16
  have e3 : (win0_12.blk t).view.emb y 3 = y 3 := by apply Fin.ext; blk_simp [i12]
  rw [e3]
  refine query_eq m c t _ _ _ ?_ ?_ _
  · blk_simp [i12]
  · blk_simp [i12]
    dsimp only
    omega

theorem arr13 : (dats m 0 c).arrAt 13 cfg0.N = fun y : S4x16x512x256.Idx => lay16 (turned (m ((c : Thread nD τ).loc main_arg0)) (m ((c : Thread nD τ).loc main_arg1)) (m ((c : Thread nD τ).loc main_arg4)) (m ((c : Thread nD τ).loc main_arg5))) 1280 (by decide)
    (y 0) (y 1) (y 2) (y 3) := by
  refine (dats m 0 c).arrAt_eq_of_covers 13 _ (by decide +kernel) fun t hf y => ?_
  blk_simp
  rw [after0_13]
  obtain ⟨-, -, i12, i13, i14⟩ := idx_out t
  unfold outsAt0
  dsimp only
  refine (out13_apply _ _ _ _ _ _ _ _ _ _ _ _ _ _ _ _ _ _ _ _ _ _ _ _ _ _ _ _ _ _ _ _ _ _ _ _ _ _ _ _ y).trans ?_
  unfold at16 lay16
  have e3 : (win0_13.blk t).view.emb y 3 = y 3 := by apply Fin.ext; blk_simp [i13]
  rw [e3]
  refine key_eq m c t _ _ _ ?_ ?_ _
  · blk_simp [i13]
  · blk_simp [i13]
    dsimp only
    omega

theorem arr14 : (dats m 0 c).arrAt 14 cfg0.N = fun y : S4x16x512x256.Idx => lay16 (plain (m ((c : Thread nD τ).loc main_arg0)) (m ((c : Thread nD τ).loc main_arg1))) 2048 (by decide)
    (y 0) (y 1) (y 2) (y 3) := by
  refine (dats m 0 c).arrAt_eq_of_covers 14 _ (by decide +kernel) fun t hf y => ?_
  blk_simp
  rw [after0_14]
  obtain ⟨-, -, i12, i13, i14⟩ := idx_out t
  unfold outsAt0
  dsimp only
  refine (out14_apply _ _ _ _ _ _ _ _ _ _ _ _ _ _ _ _ _ _ _ _ _ _ _ _ _ _ _ _ _ _ _ _ _ _ _ _ _ _ _ _ y).trans ?_
  unfold at16 lay16
  have e3 : (win0_14.blk t).view.emb y 3 = y 3 := by apply Fin.ext; blk_simp [i14]
  rw [e3]
  refine proj_eq m c t _ _ _ ?_ ?_ _
  · blk_simp [i14]
  · blk_simp [i14]
    dsimp only
    omega

end Cert.SplitWhole

end
-- ==== Proof.SplitRef.lean ====
/-
  The dilated projections' reference, read at a class, a position of it and a lane.
-/
module

public import proofs.«01_k».proof.Proof.SplitWhole
public import proofs.«01_k».proof.Proof.Host
public import proofs.«01_k».proof.Proof.Gen.SplitRefIdeal.Run

@[expose] public section

set_option maxRecDepth 16384

noncomputable section

namespace Cert.SplitRef

open Idealize.ShloMosaic Idealize.ShloMosaic.TcCoe Cert.SplitRefIdeal
open Cert.SplitRefIdeal.Gen Cert.SplitRefIdeal.Facts
open Cert.SplitBlock (rot rot_congr place swap place_lane swap_lane lane)
open Cert.SplitWhole (flat plain turned lay1 lay4 lay16)

section
variable (o : Nat) (o1 : o + 768 ≤ 2304) (hs : S32768x2304.Slices ![0, o] S32768x768) (x : FVec Ideal S32768x1024 .f32) (w : FVec Ideal S1024x2304 .bf16)

/-- A third of the tokens' products with the weight's columns, slab by slab. -/
def third : FVec Ideal S4x8192x6x128 .f32 :=
  shapeCast _ (extractStridedSlice S32768x768 ![0, o] (Host.dotGeneral dot_S32768x1024_S1024x2304_S32768x2304_1_0_0_1_n_n none
    x (extf .f32 w bitsLt_bf16_f32)) hs) shapeCasts_S32768x768_S4x8192x6x128

theorem third_apply (b : Fin 4) (n : Fin 8192) (g : Fin 6) (l : Fin 128) :
    third o hs x w (ix4 b n g l) = plain x w b n ⟨o + (g.val * 128 + l.val), by omega⟩ := by
  pointwise [third]
  rfl

end

/-- Half of a table, for every token of a batch and every slab. -/
def low (c : FVec Ideal S8192x128 .f32) : FVec Ideal S4x8192x6x64 .f32 :=
  broadcastInDim S4x8192x6x64 ![0, 1, 2, 3] bcast_S1x8192x1x64_S4x8192x6x64_0_1_2_3
    (broadcastInDim S1x8192x1x64 ![1, 3] bcast_S8192x64_S1x8192x1x64_1_3 (extractStridedSlice S8192x64 ![0, 0] c slices_S8192x128_S8192x64_0_0))

/-- The other half of a table. -/
def high (c : FVec Ideal S8192x128 .f32) : FVec Ideal S4x8192x6x64 .f32 :=
  broadcastInDim S4x8192x6x64 ![0, 1, 2, 3] bcast_S1x8192x1x64_S4x8192x6x64_0_1_2_3
    (broadcastInDim S1x8192x1x64 ![1, 3] bcast_S8192x64_S1x8192x1x64_1_3 (extractStridedSlice S8192x64 ![0, 64] c slices_S8192x128_S8192x64_0_64))

/-- The slabs' halves. -/
def first (t : FVec Ideal S4x8192x6x128 .f32) : FVec Ideal S4x8192x6x64 .f32 :=
  extractStridedSlice S4x8192x6x64 ![0, 0, 0, 0] t slices_S4x8192x6x128_S4x8192x6x64_0_0_0_0
def second (t : FVec Ideal S4x8192x6x128 .f32) : FVec Ideal S4x8192x6x64 .f32 :=
  extractStridedSlice S4x8192x6x64 ![0, 0, 0, 64] t slices_S4x8192x6x128_S4x8192x6x64_0_0_0_64

/-- The slabs rotated. -/
def turn (t : FVec Ideal S4x8192x6x128 .f32) (c s : FVec Ideal S8192x128 .f32) : FVec Ideal S4x8192x6x128 .f32 :=
  concatenate S4x8192x6x128 3 [⟨S4x8192x6x64, addf (mulf (first t) (low c)) (mulf (second t) (low s))⟩,
    ⟨S4x8192x6x64, addf (mulf (second t) (high c)) (mulf (first t) (high s))⟩] concatenates_S4x8192x6x64_S4x8192x6x64_S4x8192x6x128_d3

theorem low_apply (c : FVec Ideal S8192x128 .f32) (b : Fin 4) (n : Fin 8192) (g : Fin 6) (l : Fin 64) :
    low c (ix4 b n g l) = c (ix2 n ⟨l.val, by omega⟩) := by
  pointwise [low]

theorem high_apply (c : FVec Ideal S8192x128 .f32) (b : Fin 4) (n : Fin 8192) (g : Fin 6) (l : Fin 64) :
    high c (ix4 b n g l) = c (ix2 n ⟨64 + l.val, by omega⟩) := by
  pointwise [high]

theorem turn_apply (t : FVec Ideal S4x8192x6x128 .f32) (c s : FVec Ideal S8192x128 .f32) (b : Fin 4) (n : Fin 8192) (g : Fin 6) (l : Fin 128) :
    turn t c s (ix4 b n g l) = t (ix4 b n g l) * c (ix2 n l) + t (ix4 b n g ⟨(l.val + 64) % 128, by omega⟩) * s (ix2 n l) := by
  pointwise [turn, low_apply, high_apply, first, second]
  by_cases hl : l.val < 64
  · have e : (⟨64 + l.val, by omega⟩ : Fin 128) = ⟨(l.val + 64) % 128, by omega⟩ := by
      apply Fin.ext
      show 64 + l.val = (l.val + 64) % 128
      omega
    rw [dif_pos hl, e]
  · have e : (⟨64 + (l.val - 64), by omega⟩ : Fin 128) = l := by
      apply Fin.ext
      show 64 + (l.val - 64) = l.val
      omega
    have e' : (⟨l.val - 64, by omega⟩ : Fin 128) = ⟨(l.val + 64) % 128, by omega⟩ := by
      apply Fin.ext
      show l.val - 64 = (l.val + 64) % 128
      omega
    rw [dif_neg hl, e, e']

/-- A rotated lane. -/
theorem turn_third (o : Nat) (h : o % 128 = 0) (o1 : o + 768 ≤ 2304) (hs : S32768x2304.Slices ![0, o] S32768x768) (x : FVec Ideal S32768x1024 .f32)
    (w : FVec Ideal S1024x2304 .bf16) (c s : FVec Ideal S8192x128 .f32) (b : Fin 4) (n : Fin 8192) (g : Fin 6) (l : Fin 128) :
    turn (third o hs x w) c s (ix4 b n g l) = turned x w c s b n ⟨o + (g.val * 128 + l.val), by omega⟩ := by
  rw [turn_apply, third_apply o o1, third_apply o o1]
  unfold turned rot
  have hp : place (⟨o + (g.val * 128 + l.val), by omega⟩ : Fin 2304) = l := by
    apply Fin.ext
    show (o + (g.val * 128 + l.val)) % 128 = l.val
    omega
  have hw : swap (⟨o + (g.val * 128 + l.val), by omega⟩ : Fin 2304) = ⟨o + (g.val * 128 + (l.val + 64) % 128), by omega⟩ := by
    apply Fin.ext
    show (o + (g.val * 128 + l.val)) / 128 * 128 + ((o + (g.val * 128 + l.val)) % 128 + 64) % 128 = o + (g.val * 128 + (l.val + 64) % 128)
    omega
  rw [hp, hw]

/-! ## A group's 256 lanes, class by class -/

section
variable (T : FVec Ideal S4x8192x6x128 .f32) (q : Nat) (hq : S4x8192x768.Slices ![0, 0, q] S4x8192x256)

/-- The slabs side by side, and a group's lanes of them. -/
def lanes : FVec Ideal S4x8192x256 .f32 :=
  extractStridedSlice S4x8192x256 ![0, 0, q] (shapeCast _ T shapeCasts_S4x8192x6x128_S4x8192x768) hq

theorem lanes_apply (q1 : q + 256 ≤ 768) (b : Fin 4) (n : Fin 8192) (l : Fin 256) :
    lanes T q hq (ix3 b n l) = T (ix4 b n ⟨(q + l.val) / 128, by omega⟩ ⟨(q + l.val) % 128, by omega⟩) := by
  pointwise [lanes]

def res1 : FVec Ideal S4x1x8192x256 .bf16 :=
  truncf .bf16 (transpose S4x1x8192x256 [0, 2, 1, 3] (shapeCast _ (lanes T q hq) shapeCasts_S4x8192x256_S4x8192x1x256)
    transposes_S4x8192x1x256_S4x1x8192x256_0_2_1_3) bitsLt_bf16_f32

def res4 : FVec Ideal S4x4x2048x256 .bf16 :=
  truncf .bf16 (transpose S4x4x2048x256 [0, 2, 1, 3] (shapeCast _ (lanes T q hq) shapeCasts_S4x8192x256_S4x2048x4x256)
    transposes_S4x2048x4x256_S4x4x2048x256_0_2_1_3) bitsLt_bf16_f32

def res16 : FVec Ideal S4x16x512x256 .bf16 :=
  truncf .bf16 (transpose S4x16x512x256 [0, 2, 1, 3] (shapeCast _ (lanes T q hq) shapeCasts_S4x8192x256_S4x512x16x256)
    transposes_S4x512x16x256_S4x16x512x256_0_2_1_3) bitsLt_bf16_f32

end

theorem classes1_apply (U : FVec Ideal S4x8192x256 .f32) (b : Fin 4) (j : Fin 1) (i : Fin 8192) (l : Fin 256) :
    transpose S4x1x8192x256 [0, 2, 1, 3] (shapeCast _ U shapeCasts_S4x8192x256_S4x8192x1x256) transposes_S4x8192x1x256_S4x1x8192x256_0_2_1_3 (ix4 b j i l)
      = U (ix3 b i l) := by
  pointwise []

theorem classes4_apply (U : FVec Ideal S4x8192x256 .f32) (b : Fin 4) (j : Fin 4) (i : Fin 2048) (l : Fin 256) :
    transpose S4x4x2048x256 [0, 2, 1, 3] (shapeCast _ U shapeCasts_S4x8192x256_S4x2048x4x256) transposes_S4x2048x4x256_S4x4x2048x256_0_2_1_3 (ix4 b j i l)
      = U (ix3 b ⟨i.val * 4 + j.val, by omega⟩ l) := by
  pointwise []

theorem classes16_apply (U : FVec Ideal S4x8192x256 .f32) (b : Fin 4) (j : Fin 16) (i : Fin 512) (l : Fin 256) :
    transpose S4x16x512x256 [0, 2, 1, 3] (shapeCast _ U shapeCasts_S4x8192x256_S4x512x16x256) transposes_S4x512x16x256_S4x16x512x256_0_2_1_3 (ix4 b j i l)
      = U (ix3 b ⟨i.val * 16 + j.val, by omega⟩ l) := by
  pointwise []

/-- A change of width keeps the values. -/
theorem narrow {s : Shape} (A : FVec Ideal s .f32) : truncf .bf16 A bitsLt_bf16_f32 = A := rfl

section
variable (T : FVec Ideal S4x8192x6x128 .f32) (V : Fin 4 → Fin 8192 → Fin 2304 → EReal) (o q : Nat) (o1 : o + 768 ≤ 2304)
  (hT : ∀ b n g l, T (ix4 b n g l) = V b n ⟨o + (g.val * 128 + l.val), by omega⟩) (hq : S4x8192x768.Slices ![0, 0, q] S4x8192x256) (q1 : q + 256 ≤ 768)

include hT q1 in
theorem lanes_eq (b : Fin 4) (n : Fin 8192) (l : Fin 256) : lanes T q hq (ix3 b n l) = V b n ⟨o + q + l.val, by omega⟩ := by
  rw [lanes_apply T q hq q1, hT]
  refine congrArg (V b n) (Fin.ext ?_)
  show o + ((q + l.val) / 128 * 128 + (q + l.val) % 128) = o + q + l.val
  omega

include hT q1 in
theorem res1_whole : res1 T q hq = fun y : S4x1x8192x256.Idx => lay1 V (o + q) (by omega) (y 0) (y 2) (y 3) := by
  funext y
  rw [eq_ix4 y]
  unfold res1
  rw [narrow]
  refine (classes1_apply _ (y 0) (y 1) (y 2) (y 3)).trans ?_
  exact lanes_eq T V o q o1 hT hq q1 _ _ _

include hT q1 in
theorem res4_whole : res4 T q hq = fun y : S4x4x2048x256.Idx => lay4 V (o + q) (by omega) (y 0) (y 1) (y 2) (y 3) := by
  funext y
  rw [eq_ix4 y]
  unfold res4
  rw [narrow]
  refine (classes4_apply _ (y 0) (y 1) (y 2) (y 3)).trans ?_
  exact lanes_eq T V o q o1 hT hq q1 _ _ _

include hT q1 in
theorem res16_whole : res16 T q hq = fun y : S4x16x512x256.Idx => lay16 V (o + q) (by omega) (y 0) (y 1) (y 2) (y 3) := by
  funext y
  rw [eq_ix4 y]
  unfold res16
  rw [narrow]
  refine (classes16_apply _ (y 0) (y 1) (y 2) (y 3)).trans ?_
  exact lanes_eq T V o q o1 hT hq q1 _ _ _

end

section
variable (o q : Nat) (h : o % 128 = 0) (o1 : o + 768 ≤ 2304) (hs : S32768x2304.Slices ![0, o] S32768x768) (hq : S4x8192x768.Slices ![0, 0, q] S4x8192x256)
  (q1 : q + 256 ≤ 768) (x : FVec Ideal S32768x1024 .f32) (w : FVec Ideal S1024x2304 .bf16) (c s : FVec Ideal S8192x128 .f32)

include h q1 in
theorem res1_turned : res1 (turn (third o hs x w) c s) q hq = fun y : S4x1x8192x256.Idx => lay1 (turned x w c s) (o + q) (by omega) (y 0) (y 2) (y 3) :=
  res1_whole _ _ o q o1 (turn_third o h o1 hs x w c s) hq q1

include q1 in
theorem res1_plain : res1 (third o hs x w) q hq = fun y : S4x1x8192x256.Idx => lay1 (plain x w) (o + q) (by omega) (y 0) (y 2) (y 3) :=
  res1_whole _ _ o q o1 (third_apply o o1 hs x w) hq q1

include h q1 in
theorem res4_turned : res4 (turn (third o hs x w) c s) q hq = fun y : S4x4x2048x256.Idx => lay4 (turned x w c s) (o + q) (by omega) (y 0) (y 1) (y 2) (y 3) :=
  res4_whole _ _ o q o1 (turn_third o h o1 hs x w c s) hq q1

include q1 in
theorem res4_plain : res4 (third o hs x w) q hq = fun y : S4x4x2048x256.Idx => lay4 (plain x w) (o + q) (by omega) (y 0) (y 1) (y 2) (y 3) :=
  res4_whole _ _ o q o1 (third_apply o o1 hs x w) hq q1

include h q1 in
theorem res16_turned : res16 (turn (third o hs x w) c s) q hq = fun y : S4x16x512x256.Idx => lay16 (turned x w c s) (o + q) (by omega) (y 0) (y 1) (y 2) (y 3) :=
  res16_whole _ _ o q o1 (turn_third o h o1 hs x w c s) hq q1

include q1 in
theorem res16_plain : res16 (third o hs x w) q hq = fun y : S4x16x512x256.Idx => lay16 (plain x w) (o + q) (by omega) (y 0) (y 1) (y 2) (y 3) :=
  res16_whole _ _ o q o1 (third_apply o o1 hs x w) hq q1

end

/-- What the reference leaves. -/
theorem results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v64) = res1 (turn (third 0 slices_S32768x2304_S32768x768_0_0 (m ((c.tc : Thread nD τ).loc main_arg0)) (m ((c.tc : Thread nD τ).loc main_arg1))) (m ((c.tc : Thread nD τ).loc main_arg2)) (m ((c.tc : Thread nD τ).loc main_arg3))) 0 slices_S4x8192x768_S4x8192x256_0_0_0
      ∧ r.2.mem ((c.tc : Thread nD τ).loc main_v67) = res1 (turn (third 768 slices_S32768x2304_S32768x768_0_768 (m ((c.tc : Thread nD τ).loc main_arg0)) (m ((c.tc : Thread nD τ).loc main_arg1))) (m ((c.tc : Thread nD τ).loc main_arg4)) (m ((c.tc : Thread nD τ).loc main_arg5))) 0 slices_S4x8192x768_S4x8192x256_0_0_0
      ∧ r.2.mem ((c.tc : Thread nD τ).loc main_v70) = res1 (third 1536 slices_S32768x2304_S32768x768_0_1536 (m ((c.tc : Thread nD τ).loc main_arg0)) (m ((c.tc : Thread nD τ).loc main_arg1))) 0 slices_S4x8192x768_S4x8192x256_0_0_0
      ∧ r.2.mem ((c.tc : Thread nD τ).loc main_v73) = res4 (turn (third 0 slices_S32768x2304_S32768x768_0_0 (m ((c.tc : Thread nD τ).loc main_arg0)) (m ((c.tc : Thread nD τ).loc main_arg1))) (m ((c.tc : Thread nD τ).loc main_arg2)) (m ((c.tc : Thread nD τ).loc main_arg3))) 256 slices_S4x8192x768_S4x8192x256_0_0_256
      ∧ r.2.mem ((c.tc : Thread nD τ).loc main_v76) = res4 (turn (third 768 slices_S32768x2304_S32768x768_0_768 (m ((c.tc : Thread nD τ).loc main_arg0)) (m ((c.tc : Thread nD τ).loc main_arg1))) (m ((c.tc : Thread nD τ).loc main_arg4)) (m ((c.tc : Thread nD τ).loc main_arg5))) 256 slices_S4x8192x768_S4x8192x256_0_0_256
      ∧ r.2.mem ((c.tc : Thread nD τ).loc main_v79) = res4 (third 1536 slices_S32768x2304_S32768x768_0_1536 (m ((c.tc : Thread nD τ).loc main_arg0)) (m ((c.tc : Thread nD τ).loc main_arg1))) 256 slices_S4x8192x768_S4x8192x256_0_0_256
      ∧ r.2.mem ((c.tc : Thread nD τ).loc main_v82) = res16 (turn (third 0 slices_S32768x2304_S32768x768_0_0 (m ((c.tc : Thread nD τ).loc main_arg0)) (m ((c.tc : Thread nD τ).loc main_arg1))) (m ((c.tc : Thread nD τ).loc main_arg2)) (m ((c.tc : Thread nD τ).loc main_arg3))) 512 slices_S4x8192x768_S4x8192x256_0_0_512
      ∧ r.2.mem ((c.tc : Thread nD τ).loc main_v85) = res16 (turn (third 768 slices_S32768x2304_S32768x768_0_768 (m ((c.tc : Thread nD τ).loc main_arg0)) (m ((c.tc : Thread nD τ).loc main_arg1))) (m ((c.tc : Thread nD τ).loc main_arg4)) (m ((c.tc : Thread nD τ).loc main_arg5))) 512 slices_S4x8192x768_S4x8192x256_0_0_512
      ∧ r.2.mem ((c.tc : Thread nD τ).loc main_v88) = res16 (third 1536 slices_S32768x2304_S32768x768_0_1536 (m ((c.tc : Thread nD τ).loc main_arg0)) (m ((c.tc : Thread nD τ).loc main_arg1))) 512 slices_S4x8192x768_S4x8192x256_0_0_512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => h c) (Value.run (F := Ideal) m ρ)

/-- The same, class by class. -/
theorem values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v64) = (fun y : S4x1x8192x256.Idx => lay1 (turned (m ((c.tc : Thread nD τ).loc main_arg0)) (m ((c.tc : Thread nD τ).loc main_arg1)) (m ((c.tc : Thread nD τ).loc main_arg2)) (m ((c.tc : Thread nD τ).loc main_arg3))) 0 (by decide) (y 0) (y 2) (y 3))
      ∧ r.2.mem ((c.tc : Thread nD τ).loc main_v67) = (fun y : S4x1x8192x256.Idx => lay1 (turned (m ((c.tc : Thread nD τ).loc main_arg0)) (m ((c.tc : Thread nD τ).loc main_arg1)) (m ((c.tc : Thread nD τ).loc main_arg4)) (m ((c.tc : Thread nD τ).loc main_arg5))) 768 (by decide) (y 0) (y 2) (y 3))
      ∧ r.2.mem ((c.tc : Thread nD τ).loc main_v70) = (fun y : S4x1x8192x256.Idx => lay1 (plain (m ((c.tc : Thread nD τ).loc main_arg0)) (m ((c.tc : Thread nD τ).loc main_arg1))) 1536 (by decide) (y 0) (y 2) (y 3))
      ∧ r.2.mem ((c.tc : Thread nD τ).loc main_v73) = (fun y : S4x4x2048x256.Idx => lay4 (turned (m ((c.tc : Thread nD τ).loc main_arg0)) (m ((c.tc : Thread nD τ).loc main_arg1)) (m ((c.tc : Thread nD τ).loc main_arg2)) (m ((c.tc : Thread nD τ).loc main_arg3))) 256 (by decide) (y 0) (y 1) (y 2) (y 3))
      ∧ r.2.mem ((c.tc : Thread nD τ).loc main_v76) = (fun y : S4x4x2048x256.Idx => lay4 (turned (m ((c.tc : Thread nD τ).loc main_arg0)) (m ((c.tc : Thread nD τ).loc main_arg1)) (m ((c.tc : Thread nD τ).loc main_arg4)) (m ((c.tc : Thread nD τ).loc main_arg5))) 1024 (by decide) (y 0) (y 1) (y 2) (y 3))
      ∧ r.2.mem ((c.tc : Thread nD τ).loc main_v79) = (fun y : S4x4x2048x256.Idx => lay4 (plain (m ((c.tc : Thread nD τ).loc main_arg0)) (m ((c.tc : Thread nD τ).loc main_arg1))) 1792 (by decide) (y 0) (y 1) (y 2) (y 3))
      ∧ r.2.mem ((c.tc : Thread nD τ).loc main_v82) = (fun y : S4x16x512x256.Idx => lay16 (turned (m ((c.tc : Thread nD τ).loc main_arg0)) (m ((c.tc : Thread nD τ).loc main_arg1)) (m ((c.tc : Thread nD τ).loc main_arg2)) (m ((c.tc : Thread nD τ).loc main_arg3))) 512 (by decide) (y 0) (y 1) (y 2) (y 3))
      ∧ r.2.mem ((c.tc : Thread nD τ).loc main_v85) = (fun y : S4x16x512x256.Idx => lay16 (turned (m ((c.tc : Thread nD τ).loc main_arg0)) (m ((c.tc : Thread nD τ).loc main_arg1)) (m ((c.tc : Thread nD τ).loc main_arg4)) (m ((c.tc : Thread nD τ).loc main_arg5))) 1280 (by decide) (y 0) (y 1) (y 2) (y 3))
      ∧ r.2.mem ((c.tc : Thread nD τ).loc main_v88) = (fun y : S4x16x512x256.Idx => lay16 (plain (m ((c.tc : Thread nD τ).loc main_arg0)) (m ((c.tc : Thread nD τ).loc main_arg1))) 2048 (by decide) (y 0) (y 1) (y 2) (y 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (res1_turned 0 0 (by decide) (by decide) _ _ (by decide) _ _ _ _),
    (h c).2.1.trans (res1_turned 768 0 (by decide) (by decide) _ _ (by decide) _ _ _ _),
    (h c).2.2.1.trans (res1_plain 1536 0 (by decide) (by decide) _ _ (by decide) _ _),
    (h c).2.2.2.1.trans (res4_turned 0 256 (by decide) (by decide) _ _ (by decide) _ _ _ _),
    (h c).2.2.2.2.1.trans (res4_turned 768 256 (by decide) (by decide) _ _ (by decide) _ _ _ _),
    (h c).2.2.2.2.2.1.trans (res4_plain 1536 256 (by decide) (by decide) _ _ (by decide) _ _),
    (h c).2.2.2.2.2.2.1.trans (res16_turned 0 512 (by decide) (by decide) _ _ (by decide) _ _ _ _),
    (h c).2.2.2.2.2.2.2.1.trans (res16_turned 768 512 (by decide) (by decide) _ _ (by decide) _ _ _ _),
    (h c).2.2.2.2.2.2.2.2.1.trans (res16_plain 1536 512 (by decide) (by decide) _ _ (by decide) _ _),
    (h c).2.2.2.2.2.2.2.2.2⟩) (results m ρ)

end Cert.SplitRef

end
-- ==== Proof.FourBlock.lean ====
/-
  The second group's attention has the first group's block: its stores are read at an index by the same lemmas.
-/
module

public import proofs.«01_k».proof.Proof.Block
public import proofs.«01_k».proof.Proof.Gen.FourIdeal.Value

@[expose] public section

set_option maxRecDepth 16384

noncomputable section

namespace Cert.FourDil

open Idealize.ShloMosaic Cert.FourIdeal Cert.FourIdeal.Gen
open Cert.FourIdeal.Facts
open Cert.Dil hiding fstLanes keepLanes mask0

theorem pay2_eq : k0_pay2 (F := Ideal) = Cert.KernelIdeal.Gen.k0_pay2 := rfl
theorem pay3_eq : k0_pay3 (F := Ideal) = Cert.KernelIdeal.Gen.k0_pay3 := rfl
theorem pay4_eq : k0_pay4 (F := Ideal) = Cert.KernelIdeal.Gen.k0_pay4 := rfl
theorem pay9_eq : k0_pay9 = Cert.KernelIdeal.Gen.k0_pay9 := rfl

/-- The lanes a unit's first head is stored in. -/
abbrev fstLanes : IVec S128x128 1 := k0_pay8 (iota .tc S128x128 32 [1] iota_S128x128_d1_w32)

/-- The lanes a unit's first head is read from. -/
abbrev keepLanes : IVec S128x128 1 := k0_pay7 k0_pay5 k0_pay6

theorem fst_eq : fstLanes = Cert.Dil.fstLanes := rfl
theorem keep_eq : keepLanes = Cert.Dil.keepLanes := rfl

/-- The mask of the tile's first block. -/
def mask0 (w : BitVec 32) : IVec S128x256 1 :=
  andi k0_pay9 (ori (cmpi .sge (iota .tc S128x256 32 [1] iota_S128x256_d1_w32) (broadcast S128x256 128#32)) (broadcast S128x256 (Scalar.cmpi .sgt w 0#32)))

theorem mask0_eq (w : BitVec 32) : mask0 w = Cert.Dil.mask0 w := by
  unfold mask0 Cert.Dil.mask0
  rw [pay9_eq]

section
variable (o1 o2 : ℕ) (h1 : o1 % 128 = 0) (h2 : o2 % 128 = 0) (l1 : o1 ≤ 896) (l2 : o2 ≤ 128)
  (hq : S1024x256.Slices ![o1, o2] S128x128) (hk : S1152x256.Slices ![o1, o2] S256x128) (n : ℕ) (hn : n < 8)
  (x0 x1 x3 : Vec Ideal S1x1x1024x256 .bf16) (x2 x4 : Vec Ideal S1x1x128x256 .bf16)
  (inb : ∀ a, (![0, 0, o1, o2] : Fin 4 → ℕ) a + S1x1x128x128.size a ≤ S1x1x1024x256.size a) (x : S1x1x128x128.Idx)
include h1 h2 l1 l2

theorem laterO (l0 : 128 ≤ o1) :
    pieceO fstLanes keepLanes k0_pay9 (extractStridedSlice S128x128 ![o1, o2] (k0_pay2 (View.ld x0 r0_0)) hq)
      (extractStridedSlice S256x128 ![o1, o2] (k0_pay3 (View.ld x2 r0_1) (View.ld x1 r0_0)) hk)
      (extractStridedSlice S256x128 ![o1, o2] (k0_pay4 (View.ld x4 r0_1) (View.ld x3 r0_0)) hk) x
      = blkO n x0 x1 x2 x3 x4 (((Rect.unit (s := S1x1x1024x256) ![0, 0, o1, o2] S1x1x128x128.size inb).emb x) 2).val
          (((Rect.unit (s := S1x1x1024x256) ![0, 0, o1, o2] S1x1x128x128.size inb).emb x) 3).val := by
  rw [fst_eq, keep_eq, pay9_eq, pay2_eq, pay3_eq, pay4_eq]
  exact storeO o1 o2 h1 h2 l1 l2 hq hk n _ (mask9_apply n o1 h1 l0) x0 x1 x3 x2 x4 inb x

theorem laterL (l0 : 128 ≤ o1) :
    pieceL fstLanes keepLanes k0_pay9 (extractStridedSlice S128x128 ![o1, o2] (k0_pay2 (View.ld x0 r0_0)) hq)
      (extractStridedSlice S256x128 ![o1, o2] (k0_pay3 (View.ld x2 r0_1) (View.ld x1 r0_0)) hk) x
      = blkL n x0 x1 x2 (((Rect.unit (s := S1x1x1024x256) ![0, 0, o1, o2] S1x1x128x128.size inb).emb x) 2).val
          (((Rect.unit (s := S1x1x1024x256) ![0, 0, o1, o2] S1x1x128x128.size inb).emb x) 3).val := by
  rw [fst_eq, keep_eq, pay9_eq, pay2_eq, pay3_eq]
  exact storeL o1 o2 h1 h2 l1 l2 hq hk n _ (mask9_apply n o1 h1 l0) x0 x1 x2 inb x

end

section
variable (o2 : ℕ) (h2 : o2 % 128 = 0) (l2 : o2 ≤ 128)
  (hq : S1024x256.Slices ![0, o2] S128x128) (hk : S1152x256.Slices ![0, o2] S256x128) (n : ℕ) (hn : n < 8)
  (x0 x1 x3 : Vec Ideal S1x1x1024x256 .bf16) (x2 x4 : Vec Ideal S1x1x128x256 .bf16)
  (inb : ∀ a, (![0, 0, 0, o2] : Fin 4 → ℕ) a + S1x1x128x128.size a ≤ S1x1x1024x256.size a) (x : S1x1x128x128.Idx)
include h2 l2 hn

theorem firstO :
    pieceO fstLanes keepLanes (mask0 (BitVec.ofNat 32 n)) (extractStridedSlice S128x128 ![0, o2] (k0_pay2 (View.ld x0 r0_0)) hq)
      (extractStridedSlice S256x128 ![0, o2] (k0_pay3 (View.ld x2 r0_1) (View.ld x1 r0_0)) hk)
      (extractStridedSlice S256x128 ![0, o2] (k0_pay4 (View.ld x4 r0_1) (View.ld x3 r0_0)) hk) x
      = blkO n x0 x1 x2 x3 x4 (((Rect.unit (s := S1x1x1024x256) ![0, 0, 0, o2] S1x1x128x128.size inb).emb x) 2).val
          (((Rect.unit (s := S1x1x1024x256) ![0, 0, 0, o2] S1x1x128x128.size inb).emb x) 3).val := by
  rw [fst_eq, keep_eq, mask0_eq, pay2_eq, pay3_eq, pay4_eq]
  exact storeO 0 o2 rfl h2 (by decide) l2 hq hk n _ (mask0_apply n hn) x0 x1 x3 x2 x4 inb x

theorem firstL :
    pieceL fstLanes keepLanes (mask0 (BitVec.ofNat 32 n)) (extractStridedSlice S128x128 ![0, o2] (k0_pay2 (View.ld x0 r0_0)) hq)
      (extractStridedSlice S256x128 ![0, o2] (k0_pay3 (View.ld x2 r0_1) (View.ld x1 r0_0)) hk) x
      = blkL n x0 x1 x2 (((Rect.unit (s := S1x1x1024x256) ![0, 0, 0, o2] S1x1x128x128.size inb).emb x) 2).val
          (((Rect.unit (s := S1x1x1024x256) ![0, 0, 0, o2] S1x1x128x128.size inb).emb x) 3).val := by
  rw [fst_eq, keep_eq, mask0_eq, pay2_eq, pay3_eq]
  exact storeL 0 o2 rfl h2 (by decide) l2 hq hk n _ (mask0_apply n hn) x0 x1 x2 inb x

end

/-- The first output block at an index. -/
theorem out5_apply (i : grid0.Coords) (x0 x1 : Vec Ideal S1x1x1024x256 .bf16) (x2 : Vec Ideal S1x1x128x256 .bf16)
    (x3 : Vec Ideal S1x1x1024x256 .bf16) (x4 : Vec Ideal S1x1x128x256 .bf16) (y : S1x1x1024x256.Idx) :
    out0_5 i x0 x1 x2 x3 x4 y = blkO (i 2).val x0 x1 x2 x3 x4 (y 2).val (y 3).val := by
  have hn : (i 2).val < 8 := lt_trans (i 2).isLt (by decide)
  unfold out0_5
  refine View.canon_apply_of_pieces (Val := Elt Ideal) (e := .bf16) (fun y : S1x1x1024x256.Idx => blkO (i 2).val x0 x1 x2 x3 x4 (y 2).val (y 3).val) _ ?_ y
    (cover0_5 _ _ _ _ _ _ _ _ _ _ _ _ _ _ _ _ y)
  simp only [List.forall_mem_cons, List.not_mem_nil, false_imp_iff, implies_true, and_true]
  have first (o2 h2 l2 hq hk inb x) := firstO o2 h2 l2 hq hk (i 2).val hn x0 x1 x3 x2 x4 inb x
  have later (o1 o2 h1 h2 l0 l1 l2 hq hk inb x) := laterO o1 o2 h1 h2 l1 l2 hq hk (i 2).val x0 x1 x3 x2 x4 inb x l0
  exact ⟨later 896 128 rfl rfl (by decide) (by decide) (by decide) slices_S1024x256_o896_128_S128x128 slices_S1152x256_o896_128_S256x128 _,
    later 768 128 rfl rfl (by decide) (by decide) (by decide) slices_S1024x256_o768_128_S128x128 slices_S1152x256_o768_128_S256x128 _,
    later 640 128 rfl rfl (by decide) (by decide) (by decide) slices_S1024x256_o640_128_S128x128 slices_S1152x256_o640_128_S256x128 _,
    later 512 128 rfl rfl (by decide) (by decide) (by decide) slices_S1024x256_o512_128_S128x128 slices_S1152x256_o512_128_S256x128 _,
    later 384 128 rfl rfl (by decide) (by decide) (by decide) slices_S1024x256_o384_128_S128x128 slices_S1152x256_o384_128_S256x128 _,
    later 256 128 rfl rfl (by decide) (by decide) (by decide) slices_S1024x256_o256_128_S128x128 slices_S1152x256_o256_128_S256x128 _,
    later 128 128 rfl rfl (by decide) (by decide) (by decide) slices_S1024x256_o128_128_S128x128 slices_S1152x256_o128_128_S256x128 _,
    first 128 rfl (by decide) slices_S1024x256_o0_128_S128x128 slices_S1152x256_o0_128_S256x128 _,
    later 896 0 rfl rfl (by decide) (by decide) (by decide) slices_S1024x256_o896_0_S128x128 slices_S1152x256_o896_0_S256x128 _,
    later 768 0 rfl rfl (by decide) (by decide) (by decide) slices_S1024x256_o768_0_S128x128 slices_S1152x256_o768_0_S256x128 _,
    later 640 0 rfl rfl (by decide) (by decide) (by decide) slices_S1024x256_o640_0_S128x128 slices_S1152x256_o640_0_S256x128 _,
    later 512 0 rfl rfl (by decide) (by decide) (by decide) slices_S1024x256_o512_0_S128x128 slices_S1152x256_o512_0_S256x128 _,
    later 384 0 rfl rfl (by decide) (by decide) (by decide) slices_S1024x256_o384_0_S128x128 slices_S1152x256_o384_0_S256x128 _,
    later 256 0 rfl rfl (by decide) (by decide) (by decide) slices_S1024x256_o256_0_S128x128 slices_S1152x256_o256_0_S256x128 _,
    later 128 0 rfl rfl (by decide) (by decide) (by decide) slices_S1024x256_o128_0_S128x128 slices_S1152x256_o128_0_S256x128 _,
    first 0 rfl (by decide) slices_S1024x256_o0_0_S128x128 slices_S1152x256_o0_0_S256x128 _⟩

/-- The second output block at an index. -/
theorem out6_apply (i : grid0.Coords) (x0 x1 : Vec Ideal S1x1x1024x256 .bf16) (x2 : Vec Ideal S1x1x128x256 .bf16)
    (x3 : Vec Ideal S1x1x1024x256 .bf16) (x4 : Vec Ideal S1x1x128x256 .bf16) (y : S1x1x1024x256.Idx) :
    out0_6 i x0 x1 x2 x3 x4 y = blkL (i 2).val x0 x1 x2 (y 2).val (y 3).val := by
  have hn : (i 2).val < 8 := lt_trans (i 2).isLt (by decide)
  unfold out0_6
  refine View.canon_apply_of_pieces (Val := Elt Ideal) (e := .f32) (fun y : S1x1x1024x256.Idx => blkL (i 2).val x0 x1 x2 (y 2).val (y 3).val) _ ?_ y
    (cover0_6 _ _ _ _ _ _ _ _ _ _ _ _ _ _ _ _ y)
  simp only [List.forall_mem_cons, List.not_mem_nil, false_imp_iff, implies_true, and_true]
  have first (o2 h2 l2 hq hk inb x) := firstL o2 h2 l2 hq hk (i 2).val hn x0 x1 x2 inb x
  have later (o1 o2 h1 h2 l0 l1 l2 hq hk inb x) := laterL o1 o2 h1 h2 l1 l2 hq hk (i 2).val x0 x1 x2 inb x l0
  exact ⟨later 896 128 rfl rfl (by decide) (by decide) (by decide) slices_S1024x256_o896_128_S128x128 slices_S1152x256_o896_128_S256x128 _,
    later 768 128 rfl rfl (by decide) (by decide) (by decide) slices_S1024x256_o768_128_S128x128 slices_S1152x256_o768_128_S256x128 _,
    later 640 128 rfl rfl (by decide) (by decide) (by decide) slices_S1024x256_o640_128_S128x128 slices_S1152x256_o640_128_S256x128 _,
    later 512 128 rfl rfl (by decide) (by decide) (by decide) slices_S1024x256_o512_128_S128x128 slices_S1152x256_o512_128_S256x128 _,
    later 384 128 rfl rfl (by decide) (by decide) (by decide) slices_S1024x256_o384_128_S128x128 slices_S1152x256_o384_128_S256x128 _,
    later 256 128 rfl rfl (by decide) (by decide) (by decide) slices_S1024x256_o256_128_S128x128 slices_S1152x256_o256_128_S256x128 _,
    later 128 128 rfl rfl (by decide) (by decide) (by decide) slices_S1024x256_o128_128_S128x128 slices_S1152x256_o128_128_S256x128 _,
    first 128 rfl (by decide) slices_S1024x256_o0_128_S128x128 slices_S1152x256_o0_128_S256x128 _,
    later 896 0 rfl rfl (by decide) (by decide) (by decide) slices_S1024x256_o896_0_S128x128 slices_S1152x256_o896_0_S256x128 _,
    later 768 0 rfl rfl (by decide) (by decide) (by decide) slices_S1024x256_o768_0_S128x128 slices_S1152x256_o768_0_S256x128 _,
    later 640 0 rfl rfl (by decide) (by decide) (by decide) slices_S1024x256_o640_0_S128x128 slices_S1152x256_o640_0_S256x128 _,
    later 512 0 rfl rfl (by decide) (by decide) (by decide) slices_S1024x256_o512_0_S128x128 slices_S1152x256_o512_0_S256x128 _,
    later 384 0 rfl rfl (by decide) (by decide) (by decide) slices_S1024x256_o384_0_S128x128 slices_S1152x256_o384_0_S256x128 _,
    later 256 0 rfl rfl (by decide) (by decide) (by decide) slices_S1024x256_o256_0_S128x128 slices_S1152x256_o256_0_S256x128 _,
    later 128 0 rfl rfl (by decide) (by decide) (by decide) slices_S1024x256_o128_0_S128x128 slices_S1152x256_o128_0_S256x128 _,
    first 0 rfl (by decide) slices_S1024x256_o0_0_S128x128 slices_S1152x256_o0_0_S256x128 _⟩

end Cert.FourDil
-- ==== Proof.FourWhole.lean ====
/-
  The second group's two result arrays: residue class by residue class, what the first group's are.
-/
module

public import proofs.«01_k».proof.Proof.FourBlock
public import proofs.«01_k».proof.Proof.Whole

@[expose] public section

set_option maxRecDepth 16384

noncomputable section

namespace Cert.FourDil

open Idealize.ShloMosaic Idealize.ShloMosaic.TcCoe Cert.FourIdeal Cert.FourIdeal.Gen
open Cert.Words Cert.Dil

/-- The array type of the group's queries, keys and values. -/
abbrev Arr4 := S4x4x2048x256.Idx → EReal

/-- Residue class `r` of an array, as an array of one class. -/
def cls (A : Arr4) (r : ℕ) : Arr := fun y => at4 A (y 0).val r (y 2).val (y 3).val

theorem at4_cls (A : Arr4) (b r t w : ℕ) : at4 (cls A r) b 0 t w = at4 A b r t w := by
  by_cases h : (b < 4 ∧ 0 < 1) ∧ t < 8192 ∧ w < 256
  · exact (dif_pos h : at4 (cls A r) b 0 t w = _)
  · refine (dif_neg h : at4 (cls A r) b 0 t w = _).trans (dif_neg ?_ : at4 A b r t w = _).symm
    omega

section
variable (m : (ℓ : Loc nD τ sig) → Buf (Elt Ideal) ℓ) (c : Dev nD) (t : Fin cfg0.N)

/-- The point's batch, class and tile. -/
abbrev bt : ℕ := (grid0.coords t 0).val
abbrev rt : ℕ := (grid0.coords t 1).val
abbrev nt : ℕ := (grid0.coords t 2).val

theorem idx_tile : win0_0.index t = ![bt t, rt t, nt t, 0] ∧ win0_1.index t = ![bt t, rt t, nt t, 0] ∧ win0_3.index t = ![bt t, rt t, nt t, 0]
    ∧ win0_5.index t = ![bt t, rt t, nt t, 0] ∧ win0_6.index t = ![bt t, rt t, nt t, 0] :=
  (by decide +kernel : ∀ t : Fin grid0.N, win0_0.index t = ![bt t, rt t, nt t, 0] ∧ win0_1.index t = ![bt t, rt t, nt t, 0]
    ∧ win0_3.index t = ![bt t, rt t, nt t, 0] ∧ win0_5.index t = ![bt t, rt t, nt t, 0] ∧ win0_6.index t = ![bt t, rt t, nt t, 0]) t

theorem idx_halo : win0_2.index t = ![bt t, rt t, nt t * 8 - 1, 0] ∧ win0_4.index t = ![bt t, rt t, nt t * 8 - 1, 0] :=
  (by decide +kernel : ∀ t : Fin grid0.N, win0_2.index t = ![bt t, rt t, nt t * 8 - 1, 0] ∧ win0_4.index t = ![bt t, rt t, nt t * 8 - 1, 0]) t

/-- The argument arrays. -/
abbrev Qa : Arr4 := m ((c : Thread nD τ).loc main_arg0)
abbrev Ka : Arr4 := m ((c : Thread nD τ).loc main_arg1)
abbrev Va : Arr4 := m ((c : Thread nD τ).loc main_arg2)

theorem nt_lt : nt t < 2 := (grid0.coords t 2).isLt

/-- A block whose elements are an array's is that array's class read at the block's place. -/
theorem place {n : ℕ} (x : (⟨4, ![1, 1, n, 256]⟩ : Shape).Idx → EReal) (A : Arr4) (o : ℕ) (ho : o + n ≤ 2048)
    (h : ∀ (R : Fin n) (w : Fin 256), x (ix4 0 0 R w) = A (ix4 (grid0.coords t 0) (grid0.coords t 1) ⟨o + R.val, by omega⟩ w)) (R w : ℕ) (hR : R < n) :
    at4 x 0 0 R w = at4 (cls A (rt t)) (bt t) 0 (o + R) w :=
  (at4_blk x A (grid0.coords t 0) (grid0.coords t 1) o ho h R w hR).trans (at4_cls A _ _ _ _).symm

variable (R w : ℕ)

theorem blk0 (hR : R < 1024) : at4 (iblk m c 0 t : S1x1x1024x256.Idx → EReal) 0 0 R w
    = at4 (cls (Qa m c) (rt t)) (bt t) 0 (nt t * 1024 + R) w := by
  have e := (idx_tile t).1
  have hn := nt_lt t
  exact place t (n := 1024) (iblk m c 0 t) (Qa m c) (nt t * 1024) (by omega) (fun R w => by blk_ext [iblk, V, e] <;> rfl) R w hR

theorem blk1 (hR : R < 1024) : at4 (iblk m c 1 t : S1x1x1024x256.Idx → EReal) 0 0 R w
    = at4 (cls (Ka m c) (rt t)) (bt t) 0 (nt t * 1024 + R) w := by
  have e := (idx_tile t).2.1
  have hn := nt_lt t
  exact place t (n := 1024) (iblk m c 1 t) (Ka m c) (nt t * 1024) (by omega) (fun R w => by blk_ext [iblk, V, e] <;> rfl) R w hR

theorem blk3 (hR : R < 1024) : at4 (iblk m c 3 t : S1x1x1024x256.Idx → EReal) 0 0 R w
    = at4 (cls (Va m c) (rt t)) (bt t) 0 (nt t * 1024 + R) w := by
  have e := (idx_tile t).2.2.1
  have hn := nt_lt t
  exact place t (n := 1024) (iblk m c 3 t) (Va m c) (nt t * 1024) (by omega) (fun R w => by blk_ext [iblk, V, e] <;> rfl) R w hR

theorem blk2 (hR : R < 128) : at4 (iblk m c 2 t : S1x1x128x256.Idx → EReal) 0 0 R w
    = at4 (cls (Ka m c) (rt t)) (bt t) 0 ((nt t * 8 - 1) * 128 + R) w := by
  have e := (idx_halo t).1
  have hn := nt_lt t
  exact place t (n := 128) (iblk m c 2 t) (Ka m c) ((nt t * 8 - 1) * 128) (by omega) (fun R w => by blk_ext [iblk, V, e] <;> rfl) R w hR

theorem blk4 (hR : R < 128) : at4 (iblk m c 4 t : S1x1x128x256.Idx → EReal) 0 0 R w
    = at4 (cls (Va m c) (rt t)) (bt t) 0 ((nt t * 8 - 1) * 128 + R) w := by
  have e := (idx_halo t).2
  have hn := nt_lt t
  exact place t (n := 128) (iblk m c 4 t) (Va m c) ((nt t * 8 - 1) * 128) (by omega) (fun R w => by blk_ext [iblk, V, e] <;> rfl) R w hR

end

section
variable (m : (ℓ : Loc nD τ sig) → Buf (Elt Ideal) ℓ) (c : Dev nD)

/-- The first result array. -/
theorem arr5 : (dats m 0 c).arrAt 5 cfg0.N = fun y : S4x4x2048x256.Idx =>
    resO (cls (Qa m c) (y 1).val) (cls (Ka m c) (y 1).val) (cls (Va m c) (y 1).val) (y 0).val (y 2).val (y 3).val := by
  refine (dats m 0 c).arrAt_eq_of_covers 5 _ (by decide +kernel) fun t hf y => ?_
  blk_simp
  rw [after0_5]
  have e := (idx_tile t).2.2.2.1
  refine (out5_apply _ _ _ _ _ _ y).trans ((blkO_res (blk0 m c t) (blk1 m c t) (blk2 m c t) (blk3 m c t) (blk4 m c t) (y 2).val (y 3).val (y 2).isLt).trans ?_)
  blk_simp [e]

/-- The second result array. -/
theorem arr6 : (dats m 0 c).arrAt 6 cfg0.N = fun y : S4x4x2048x256.Idx =>
    resL (cls (Qa m c) (y 1).val) (cls (Ka m c) (y 1).val) (y 0).val (y 2).val (y 3).val := by
  refine (dats m 0 c).arrAt_eq_of_covers 6 _ (by decide +kernel) fun t hf y => ?_
  blk_simp
  rw [after0_6]
  have e := (idx_tile t).2.2.2.2
  refine (out6_apply _ _ _ _ _ _ y).trans ((blkL_res (blk0 m c t) (blk1 m c t) (blk2 m c t) (y 2).val (y 3).val (y 2).isLt).trans ?_)
  blk_simp [e]

end

end Cert.FourDil
-- ==== Proof.FourRef.lean ====
/-
  The second group's reference read at an index: its rows are batch and residue class counted together, and each is the same masked
  softmax over its window of 256 keys.
-/
module

public import proofs.«01_k».proof.Proof.Bridge
public import proofs.«01_k».proof.Proof.FourWhole
public import proofs.«01_k».proof.Proof.Gen.FourRefIdeal.Run

@[expose] public section

set_option maxRecDepth 16384

noncomputable section

namespace Cert.FourRef

open Idealize.ShloMosaic Idealize.ShloMosaic.TcCoe Cert.FourRefIdeal
open Cert.FourRefIdeal.Gen Cert.Words Cert.FourDil
open Cert.Ref (ln2 ln2_apply lane rowR dotR zero_word add_log)

/-- Key `c` of block `n`'s window is seen by the block's query `r`: the reference's mask. -/
def seenBits : IVec S16x128x256 1 :=
  let qi := addi (broadcastInDim S16x128x1 ![0, 1, 2] bcast_S16x1x1_S16x128x1_0_1_2 (muli (broadcastInDim S16x1x1 ![0] bcast_S16_S16x1x1_0 (iotaInDim S16 32 0)) (broadcastInDim S16x1x1 ![] bcast_S_S16x1x1 (constantI S_ 32 128#32))))
    (broadcastInDim S16x128x1 ![0, 1, 2] bcast_S1x128x1_S16x128x1_0_1_2 (broadcastInDim S1x128x1 ![1] bcast_S128_S1x128x1_1 (iotaInDim S128 32 0)))
  let ki := addi (broadcastInDim S16x1x256 ![0, 1, 2] bcast_S16x1x1_S16x1x256_0_1_2 (subi (muli (broadcastInDim S16x1x1 ![0] bcast_S16_S16x1x1_0 (iotaInDim S16 32 0)) (broadcastInDim S16x1x1 ![] bcast_S_S16x1x1 (constantI S_ 32 128#32))) (broadcastInDim S16x1x1 ![] bcast_S_S16x1x1 (constantI S_ 32 128#32))))
    (broadcastInDim S16x1x256 ![0, 1, 2] bcast_S1x1x256_S16x1x256_0_1_2 (broadcastInDim S1x1x256 ![2] bcast_S256_S1x1x256_2 (iotaInDim S256 32 0)))
  let dist := subi (broadcastInDim S16x128x256 ![0, 1, 2] bcast_S16x128x1_S16x128x256_0_1_2 qi) (broadcastInDim S16x128x256 ![0, 1, 2] bcast_S16x1x256_S16x128x256_0_1_2 ki)
  andi (andi (cmpi .sge dist (broadcastInDim S16x128x256 ![] bcast_S_S16x128x256 (constantI S_ 32 0#32))) (cmpi .sle dist (broadcastInDim S16x128x256 ![] bcast_S_S16x128x256 (constantI S_ 32 128#32))))
    (broadcastInDim S16x128x256 ![0, 1, 2] bcast_S16x1x256_S16x128x256_0_1_2 (cmpi .sge ki (broadcastInDim S16x1x256 ![] bcast_S_S16x1x256 (constantI S_ 32 0#32))))

/-- The heads of a query or key array, each head's two halves beside one another. -/
def heads (x : FVec Ideal S4x4x2048x256 .bf16) : FVec Ideal S16x16x4x128x64 .f32 :=
  shapeCast _ (transpose S16x16x2x2x128x2x32 [0, 1, 3, 5, 2, 4, 6] (shapeCast _ (extf .f32 x bitsLt_bf16_f32) shapeCasts_S4x4x2048x256_S16x16x128x2x2x2x32) transposes_S16x16x128x2x2x2x32_S16x16x2x2x128x2x32_0_1_3_5_2_4_6) shapeCasts_S16x16x2x2x128x2x32_S16x16x4x128x64

/-- The heads of the value array. -/
def headsV (x : FVec Ideal S4x4x2048x256 .bf16) : FVec Ideal S16x16x4x128x64 .f32 :=
  transpose S16x16x4x128x64 [0, 1, 3, 2, 4] (shapeCast _ (extf .f32 x bitsLt_bf16_f32) shapeCasts_S4x4x2048x256_S16x16x128x4x64) transposes_S16x16x128x4x64_S16x16x4x128x64_0_1_3_2_4

/-- Each block with the block before it in front, zeros before the first. -/
def withPrev (x : FVec Ideal S16x16x4x128x64 .f32) : FVec Ideal S16x16x4x256x64 .f32 :=
  concatenate S16x16x4x256x64 3 [⟨S16x16x4x128x64, (extractStridedSlice S16x16x4x128x64 ![0, 0, 0, 0, 0] (pad S16x17x4x128x64 ![0, 1, 0, 0, 0] ![0, 0, 0, 0, 0] ![0, 0, 0, 0, 0] x (sitofp .f32 (constantI S_ 32 0#32)) pads_S16x16x4x128x64_S16x17x4x128x64_000_100_000_000_000 h_S_) slices_S16x17x4x128x64_S16x16x4x128x64_0_0_0_0_0)⟩, ⟨S16x16x4x128x64, x⟩] concatenates_S16x16x4x128x64_S16x16x4x128x64_S16x16x4x256x64_d3

/-- The masked scores. -/
def scores (q k : FVec Ideal S4x4x2048x256 .bf16) : FVec Ideal S16x16x4x128x256 .f32 :=
  select (broadcastInDim S16x16x4x128x256 ![0, 1, 2, 3, 4] bcast_S1x16x1x128x256_S16x16x4x128x256_0_1_2_3_4 (broadcastInDim S1x16x1x128x256 ![1, 3, 4] bcast_S16x128x256_S1x16x1x128x256_1_3_4 seenBits))
    (mulf (Host.dotGeneral dot_S16x16x4x128x64_S16x16x4x256x64_S16x16x4x128x256_4_4_3_3_012_012 none (heads q) (withPrev (heads k))) (broadcastInDim S16x16x4x128x256 ![] bcast_S_S16x16x4x128x256 ln2))
    (broadcastInDim S16x16x4x128x256 ![] bcast_S_S16x16x4x128x256 (id (constant S_ .f32 0xFF800000#32)))

/-- The rows' maxima. -/
def mx (s : FVec Ideal S16x16x4x128x256 .f32) : FVec Ideal S16x16x4x128x1 .f32 :=
  broadcastInDim S16x16x4x128x1 ![0, 1, 2, 3] bcast_S16x16x4x128_S16x16x4x128x1_0_1_2_3 (Host.reduce FloatOps.maximumf s (constant S_ .f32 0xFF800000#32) reducesTo_S16x16x4x128x256_S16x16x4x128_d4 h_S_)

/-- The rows' sums of exponentials. -/
def tot (s : FVec Ideal S16x16x4x128x256 .f32) : FVec Ideal S16x16x4x128 .f32 :=
  Host.reduceAdd (Host.exp (subf s (broadcastInDim S16x16x4x128x256 ![0, 1, 2, 3, 4] bcast_S16x16x4x128x1_S16x16x4x128x256_0_1_2_3_4 (mx s)))) (constant S_ .f32 0x00000000#32) reducesTo_S16x16x4x128x256_S16x16x4x128_d4 h_S_

/-- The rows' logarithms of the sum of exponentials. -/
def lse (s : FVec Ideal S16x16x4x128x256 .f32) : FVec Ideal S16x16x4x128 .f32 :=
  addf (shapeCast _ (mx s) shapeCasts_S16x16x4x128x1_S16x16x4x128) (Host.log (tot s))

/-- The weights. -/
def prob (s : FVec Ideal S16x16x4x128x256 .f32) : FVec Ideal S16x16x4x128x256 .f32 :=
  Host.exp (subf s (broadcastInDim S16x16x4x128x256 ![0, 1, 2, 3, 4] bcast_S16x16x4x128x1_S16x16x4x128x256_0_1_2_3_4 (broadcastInDim S16x16x4x128x1 ![0, 1, 2, 3] bcast_S16x16x4x128_S16x16x4x128x1_0_1_2_3 (lse s))))

/-- The first result. -/
def outR (s : FVec Ideal S16x16x4x128x256 .f32) (v : FVec Ideal S4x4x2048x256 .bf16) : FVec Ideal S4x4x2048x256 .bf16 :=
  truncf .bf16 (shapeCast _ (transpose S16x16x128x4x64 [0, 1, 4, 2, 3] (Host.dotGeneral dot_S16x16x4x256x64_S16x16x4x128x256_S16x16x4x64x128_3_4_4_3_012_012 none (withPrev (headsV v)) (prob s)) transposes_S16x16x4x64x128_S16x16x128x4x64_0_1_4_2_3) shapeCasts_S16x16x128x4x64_S4x4x2048x256) bitsLt_bf16_f32

/-- The second result. -/
def lseR (s : FVec Ideal S16x16x4x128x256 .f32) : FVec Ideal S4x4x2048x256 .f32 :=
  shapeCast _ (broadcastInDim S4x4x2048x4x64 ![0, 1, 2, 3] bcast_S4x4x2048x4_S4x4x2048x4x64_0_1_2_3 (shapeCast _ (transpose S16x16x128x4 [0, 1, 3, 2] (Host.divf (lse s) (broadcastInDim S16x16x4x128 ![] bcast_S_S16x16x4x128 ln2)) transposes_S16x16x4x128_S16x16x128x4_0_1_3_2) shapeCasts_S16x16x128x4_S4x4x2048x4)) shapeCasts_S4x4x2048x4x64_S4x4x2048x256

section
variable (m : (ℓ : Loc nD τ sig) → Buf (Elt Ideal) ℓ) (c : Dev nD)

theorem res0_eq : Value.res_out0 m c = outR (scores (m ((c.tc : Thread nD τ).loc main_arg0)) (m ((c.tc : Thread nD τ).loc main_arg1))) (m ((c.tc : Thread nD τ).loc main_arg2)) := by
  unfold Value.res_out0 Value.res_main_v75 outR prob lse tot mx scores withPrev headsV heads seenBits
  rfl

theorem res1_eq : Value.res_out1 m c = lseR (scores (m ((c.tc : Thread nD τ).loc main_arg0)) (m ((c.tc : Thread nD τ).loc main_arg1))) := by
  unfold Value.res_out1 Value.res_main_v77 lseR lse tot mx scores withPrev heads seenBits
  rfl

end

/-! ## At an index -/

theorem seenBits_apply (n : Fin 16) (r : Fin 128) (k : Fin 256) : seenBits (ix3 n r k) = 1#1 ↔ Cert.Dil.sees (n.val * 128 + r.val) k.val := by
  pointwise [seenBits]
  have hn := n.isLt
  have hr := r.isLt
  have hc := k.isLt
  have h0 : Is (0#32) 0 := is_nat (n := 0) (by omega)
  have h128 : Is (128#32) 128 := is_nat (n := 128) (by omega)
  have hb : Is (IntOp.muli (BitVec.ofNat 32 n.val) 128#32) ((n.val : ℤ) * 128) := is_mul (is_nat (by omega)) h128 (by omega) (by omega)
  have hq := is_add hb (is_nat (n := r.val) (by omega)) (by omega) (by omega)
  have hk := is_add (is_sub hb h128 (by omega) (by omega)) (is_nat (n := k.val) (by omega)) (by omega) (by omega)
  have hd := is_sub hq hk (by omega) (by omega)
  rw [and_iff, and_iff, sge_iff hd h0, sle_iff hd h128, sge_iff hk h0]
  unfold Dil.sees
  omega

theorem heads_apply (x : FVec Ideal S4x4x2048x256 .bf16) (b : Fin 16) (n : Fin 16) (g : Fin 4) (r : Fin 128) (d : Fin 64) :
    heads x (ix5 b n g r d) = at4 (cls x (b.val % 4)) (b.val / 4) 0 (n.val * 128 + r.val) (g.val / 2 * 128 + d.val / 32 * 64 + g.val % 2 * 32 + d.val % 32) := by
  rw [at4_cls]
  pointwise [heads]
  exact at4_eq x _ _ _ _ rfl rfl rfl rfl

theorem headsV_apply (x : FVec Ideal S4x4x2048x256 .bf16) (b : Fin 16) (n : Fin 16) (g : Fin 4) (r : Fin 128) (d : Fin 64) :
    headsV x (ix5 b n g r d) = at4 (cls x (b.val % 4)) (b.val / 4) 0 (n.val * 128 + r.val) (g.val * 64 + d.val) := by
  rw [at4_cls]
  pointwise [headsV]
  exact at4_eq x _ _ _ _ rfl rfl rfl rfl

/-- A block with the block before it in front, read at a key, when the block array is read by position `f`. -/
theorem withPrev_apply (x : FVec Ideal S16x16x4x128x64 .f32) (f : ℕ → EReal) (b : Fin 16) (n : Fin 16) (g : Fin 4) (k : Fin 256) (d : Fin 64)
    (h : ∀ (n : Fin 16) (r : Fin 128), x (ix5 b n g r d) = f (n.val * 128 + r.val)) :
    withPrev x (ix5 b n g k d) = if n.val * 128 + k.val < 128 then 0 else f (n.val * 128 + k.val - 128) := by
  pointwise [withPrev]
  rw [zero_word]
  have hn := n.isLt
  have hk := k.isLt
  by_cases h0 : k.val < 128
  · rw [dif_pos h0]
    by_cases h1 : 1 ≤ n.val
    · rw [dif_pos ⟨⟨h1, by omega⟩, h0⟩, h, if_neg (by omega)]
      congr 1
      show (n.val - 1) * 128 + k.val = _
      omega
    · rw [dif_neg (fun h => h1 h.1.1), if_pos (by omega)]
  · rw [dif_neg h0]
    refine ((h n ⟨k.val - 128, by omega⟩).trans (congrArg f ?_)).trans (if_neg (by omega)).symm
    show n.val * 128 + (k.val - 128) = _
    omega

theorem scores_apply (q k : FVec Ideal S4x4x2048x256 .bf16) (b : Fin 16) (n : Fin 16) (g : Fin 4) (r : Fin 128) (c : Fin 256) :
    scores q k (ix5 b n g r c) = rowR (cls q (b.val % 4)) (cls k (b.val % 4)) (b.val / 4) (n.val * 128 + r.val) g.val c := by
  have e : scores q k (ix5 b n g r c) = if seenBits (ix3 n r c) = 1#1 then
      (∑ d : Fin 64, heads q (ix5 b n g r d) * withPrev (heads k) (ix5 b n g c d)) * ln2 ix0 else Ideal.ofBits .f32 0xFF800000#32 := by
    pointwise [scores]
    rfl
  rw [e, Dil.ofBits_bot, ln2_apply]
  unfold rowR dotR
  have hr := r.isLt
  refine if_congr (seenBits_apply n r c) (congrArg (· * _) (Finset.sum_congr rfl fun d _ => ?_)) rfl
  rw [heads_apply, withPrev_apply (heads k) (fun i => at4 (cls k (b.val % 4)) (b.val / 4) 0 i (lane g.val d.val)) b n g c d (fun n r => heads_apply k b n g r d)]
  unfold Dil.padded
  rw [show (n.val * 128 + r.val) / 128 * 128 = n.val * 128 by omega]
  rfl

theorem mx_apply (s : FVec Ideal S16x16x4x128x256 .f32) (b : Fin 16) (n : Fin 16) (g : Fin 4) (r : Fin 128) :
    mx s (ix5 b n g r 0) = Soft.top fun c : Fin 256 => s (ix5 b n g r c) := by
  pointwise [mx]
  rw [Dil.ofBits_bot]

theorem tot_apply (s : FVec Ideal S16x16x4x128x256 .f32) (b : Fin 16) (n : Fin 16) (g : Fin 4) (r : Fin 128) :
    tot s (ix4 b n g r) = ∑ c : Fin 256, Ideal.exp (s (ix5 b n g r c) - mx s (ix5 b n g r 0)) := by
  pointwise [tot]

theorem last_unit (x : FVec Ideal S16x16x4x128x1 .f32) (b : Fin 16) (n : Fin 16) (g : Fin 4) (r : Fin 128) :
    shapeCast S16x16x4x128 x shapeCasts_S16x16x4x128x1_S16x16x4x128 (ix4 b n g r) = x (ix5 b n g r 0) := by
  pointwise

theorem lse_apply (s : FVec Ideal S16x16x4x128x256 .f32) (b : Fin 16) (n : Fin 16) (g : Fin 4) (r : Fin 128) :
    lse s (ix4 b n g r) = Soft.lseE fun c : Fin 256 => s (ix5 b n g r c) := by
  unfold lse
  rw [add_log, last_unit, tot_apply, mx_apply]
  unfold Soft.lseE
  with_reducible rfl

/-- Batch and class counted together, and taken apart. -/
abbrev row (b r : Fin 4) : Fin 16 := ⟨b.val * 4 + r.val, by omega⟩

theorem row_cls (b r : Fin 4) : (row b r).val % 4 = r.val := by
  show (b.val * 4 + r.val) % 4 = r.val
  omega

theorem row_batch (b r : Fin 4) : (row b r).val / 4 = b.val := by
  show (b.val * 4 + r.val) / 4 = b.val
  omega

theorem outR_apply (q k v : FVec Ideal S4x4x2048x256 .bf16) (b r : Fin 4) (t : Fin 2048) (w : Fin 256) :
    outR (scores q k) v (ix4 b r t w) = Soft.outE (rowR (cls q r.val) (cls k r.val) b.val t.val (w.val / 64))
      fun c => Cert.Dil.padded (cls v r.val) b.val (t.val / 128 * 128 + c.val) w.val := by
  have ht := t.isLt
  have hw := w.isLt
  have e (s : FVec Ideal S16x16x4x128x256 .f32) : outR s v (ix4 b r t w)
      = ∑ c : Fin 256, withPrev (headsV v) (ix5 (row b r) ⟨t.val / 128, by omega⟩ ⟨w.val / 64, by omega⟩ c ⟨w.val % 64, by omega⟩)
      * Ideal.exp (s (ix5 (row b r) ⟨t.val / 128, by omega⟩ ⟨w.val / 64, by omega⟩ ⟨t.val % 128, by omega⟩ c)
        - lse s (ix4 (row b r) ⟨t.val / 128, by omega⟩ ⟨w.val / 64, by omega⟩ ⟨t.val % 128, by omega⟩)) := by
    pointwise [outR, prob]
  have et : t.val / 128 * 128 + t.val % 128 = t.val := by omega
  rw [e, lse_apply]
  have ec : (b.val * 4 + r.val) % 4 = r.val := by omega
  have eb : (b.val * 4 + r.val) / 4 = b.val := by omega
  simp only [scores_apply, et, ec, eb]
  unfold Soft.outE
  refine Finset.sum_congr rfl fun c _ => congrArg (· * _) ?_
  rw [withPrev_apply (headsV v) (fun i => at4 (cls v r.val) b.val 0 i w.val) (row b r) _ _ c _ (fun n i => (headsV_apply v (row b r) n _ i _).trans ?_)]
  · rfl
  · rw [row_cls, row_batch]
    congr 1
    show w.val / 64 * 64 + w.val % 64 = w.val
    omega

theorem lseR_apply (q k : FVec Ideal S4x4x2048x256 .bf16) (b r : Fin 4) (t : Fin 2048) (w : Fin 256) :
    lseR (scores q k) (ix4 b r t w) = Ideal.div (Soft.lseE (rowR (cls q r.val) (cls k r.val) b.val t.val (w.val / 64))) ((Real.log 2 : ℝ) : EReal) := by
  have ht := t.isLt
  have hw := w.isLt
  have e (s : FVec Ideal S16x16x4x128x256 .f32) : lseR s (ix4 b r t w)
      = Ideal.div (lse s (ix4 (row b r) ⟨t.val / 128, by omega⟩ ⟨w.val / 64, by omega⟩ ⟨t.val % 128, by omega⟩)) (ln2 ix0) := by
    pointwise [lseR]
  have et : t.val / 128 * 128 + t.val % 128 = t.val := by omega
  rw [e, ln2_apply, lse_apply]
  have ec : (b.val * 4 + r.val) % 4 = r.val := by omega
  have eb : (b.val * 4 + r.val) / 4 = b.val := by omega
  simp only [scores_apply, et, ec, eb]

/-! ## The two results, from memories that agree on the arguments -/

theorem cls_real {x : Arr4} (hx : Bridge.Real' x) (r : ℕ) : Bridge.Real' (cls x r) := fun _ => Bridge.at4_real hx _ _ _ _

theorem finite_real [Cert.Pre_finite_four.Facts] (q k v : Arr4) (h : Cert.Pre_finite_four.fn (F := Ideal) q k v = fun _ => 1#1) :
    Bridge.Real' q ∧ Bridge.Real' k := by
  have h0 := congrFun h (fun a => a.elim0)
  dsimp only [Cert.Pre_finite_four.fn] at h0
  obtain ⟨h1, h2⟩ := IntOp.andi_eq_one.1 h0
  have hz : (Ideal.ofBits .f32 0x7F800000#32 : EReal) = ⊤ := by simp [Ideal.ofBits, Ideal.ieee]
  exact ⟨fun i => Bridge.below_inf q _ i hz (Host.reduce_andi_all _ _ _ _ _ h1 i), fun i => Bridge.below_inf k _ i hz (Host.reduce_andi_all _ _ _ _ _ h2 i)⟩

section
variable [Cert.Pre_finite_four.Facts] (m : (ℓ : Loc Cert.FourIdeal.nD Cert.FourIdeal.τ Cert.FourIdeal.sig) → Buf (Elt Ideal) ℓ)
  (m' : (ℓ : Loc nD τ sig) → Buf (Elt Ideal) ℓ) (c : Dev Cert.FourIdeal.nD)
  (hagree : m' ((c.tc : Thread nD τ).loc main_arg0) = Qa m c
    ∧ m' ((c.tc : Thread nD τ).loc main_arg1) = Ka m c
    ∧ m' ((c.tc : Thread nD τ).loc main_arg2) = Va m c)
  (hpre : Cert.Pre_finite_four.fn (F := Ideal) (Qa m c) (Ka m c) (Va m c) = fun _ => 1#1)
include hagree hpre

theorem first : Value.res_out0 m' c = (Cert.FourIdeal.Gen.dats m 0 c).arrAt 5 Cert.FourIdeal.cfg0.N := by
  have hr := finite_real _ _ _ hpre
  rw [arr5, res0_eq, hagree.1, hagree.2.1, hagree.2.2]
  funext y
  exact (congrArg _ (eq_ix4 y)).trans ((outR_apply _ _ _ (y 0) (y 1) (y 2) (y 3)).trans
    (Bridge.out_row (cls_real hr.1 _) (cls_real hr.2 _) _ _ _ _).symm)

theorem second : Value.res_out1 m' c = (Cert.FourIdeal.Gen.dats m 0 c).arrAt 6 Cert.FourIdeal.cfg0.N := by
  have hr := finite_real _ _ _ hpre
  rw [arr6, res1_eq, hagree.1, hagree.2.1]
  funext y
  exact (congrArg _ (eq_ix4 y)).trans ((lseR_apply _ _ (y 0) (y 1) (y 2) (y 3)).trans
    (Bridge.lse_row (cls_real hr.1 _) (cls_real hr.2 _) _ _ _).symm)

end

end Cert.FourRef
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailIdeal.Value
public import proofs.«01_k».proof.Proof.Gen.TailRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Pre_finite_lse
public import proofs.«01_k».proof.Proof.Gen.MergeIdeal.Value
public import proofs.«01_k».proof.Proof.Gen.MergeRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.Split
public import proofs.«01_k».proof.Proof.Gen.Split.Skeleton
public import proofs.«01_k».proof.Proof.Gen.Split.Launch
public import proofs.«01_k».proof.Proof.Gen.Split.Points
public import proofs.«01_k».proof.Proof.Gen.Split.Frame
public import proofs.«01_k».proof.Proof.Gen.SplitIdeal
public import proofs.«01_k».proof.Proof.Gen.SplitIdeal.Skeleton
public import proofs.«01_k».proof.Proof.Gen.SplitIdeal.Launch
public import proofs.«01_k».proof.Proof.Gen.SplitIdeal.Points
public import proofs.«01_k».proof.Proof.Gen.SplitIdeal.Frame
public import proofs.«01_k».proof.Proof.Gen.SplitRefIdeal
public import proofs.«01_k».proof.Proof.Gen.SplitIdeal.Value
public import proofs.«01_k».proof.Proof.Gen.SplitRefIdeal.Run
public import proofs.«01_k».proof.Proof.Gen.Four
public import proofs.«01_k».proof.Proof.Gen.Four.Skeleton
public import proofs.«01_k».proof.Proof.Gen.Four.Launch
public import proofs.«01_k».proof.Proof.Gen.Four.Points
public import proofs.«01_k».proof.Proof.Gen.Four.Frame
public import proofs.«01_k».proof.Proof.Gen.FourIdeal
public import proofs.«01_k».proof.Proof.Gen.FourIdeal.Skeleton
public import proofs.«01_k».proof.Proof.Gen.FourIdeal.Launch
public import proofs.«01_k».proof.Proof.Gen.FourIdeal.Points
public import proofs.«01_k».proof.Proof.Gen.FourIdeal.Frame
public import proofs.«01_k».proof.Proof.Gen.FourRefIdeal
public import proofs.«01_k».proof.Proof.Gen.FourIdeal.Value
public import proofs.«01_k».proof.Proof.Gen.FourRefIdeal.Run
public import proofs.«01_k».proof.Proof.Gen.Pre_finite_four
public import proofs.«01_k».proof.Proof.Bridge
public import proofs.«01_k».proof.Proof.TailRef
public import proofs.«01_k».proof.Proof.MergeRef
public import proofs.«01_k».proof.Proof.ProjRef
public import proofs.«01_k».proof.Proof.SplitRef
public import proofs.«01_k».proof.Proof.FourRef
public import Idealize.ShloMosaic.Adequacy
public import Idealize.ShloMosaic.Init

@[expose] public section

noncomputable section

namespace Cert.Proof

open Idealize.ShloMosaic Idealize.ShloMosaic.TcCoe Idealize.SL.Sem

/-- The reference runs, ends with every counter at zero and keeps its arguments. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

theorem algebraic : Cert.algebraic_KernelIdeal_ReferenceIdeal_pre_finite := by
  intro m ρ m' ρ' hpre hagree
  refine ⟨fun c => (Cert.KernelIdeal.Gen.dats m 0 c).arrAt 5 Cert.KernelIdeal.cfg0.N, fun c => (Cert.KernelIdeal.Gen.dats m 0 c).arrAt 6 Cert.KernelIdeal.cfg0.N, ?_, ?_⟩
  · exact Cert.KernelIdeal.Value.run_blocks (F := Ideal) m ρ
  · refine (θ_run Cert.ReferenceIdeal.defs _ _).mono (fun _ h c => ⟨(h c).1.trans ?_, (h c).2.1.trans ?_, (h c).2.2⟩)
      (Cert.ReferenceIdeal.Value.run (F := Ideal) m' ρ')
    · exact Cert.Bridge.first m m' c (hagree c) (hpre c)
    · exact Cert.Bridge.second m m' c (hagree c) (hpre c)

theorem tail_reference_frame : Cert.quiescent_TailRefIdeal := fun m ρ _ =>
  (θ_run Cert.TailRefIdeal.defs _ _).mono
    (fun r h => ⟨fun c => (h c).2, Idealize.ShloMosaic.sem_eq_zero_of_no_sems (by decide) r.2⟩)
    (Cert.TailRefIdeal.Value.run (F := Ideal) m ρ)

theorem tail_algebraic : Cert.algebraic_TailIdeal_TailRefIdeal := by
  intro m ρ m' ρ' _ hagree
  refine ⟨fun c => (Cert.TailIdeal.Gen.dats m 0 c).arrAt 9 Cert.TailIdeal.cfg0.N, ?_, ?_⟩
  · exact Cert.TailIdeal.Value.run_blocks (F := Ideal) m ρ
  · refine (θ_run Cert.TailRefIdeal.defs _ _).mono (fun _ h c => ⟨(h c).1.trans ?_, (h c).2⟩)
      (Cert.TailRefIdeal.Value.run (F := Ideal) m' ρ')
    obtain ⟨h0, h1, h2, h3, h4, h5, h6, h7, h8⟩ := hagree c
    refine (Cert.TailRef.res0_whole m' c).trans ?_
    rw [h0, h1, h2, h3, h4, h5, h6, h7, h8]
    exact (Cert.TailWhole.arr9 m c).symm

theorem merge_reference_frame : Cert.quiescent_MergeRefIdeal := fun m ρ _ =>
  (θ_run Cert.MergeRefIdeal.defs _ _).mono
    (fun r h => ⟨fun c => (h c).2, Idealize.ShloMosaic.sem_eq_zero_of_no_sems (by decide) r.2⟩)
    (Cert.MergeRefIdeal.Value.run (F := Ideal) m ρ)

theorem merge_algebraic : Cert.algebraic_MergeIdeal_MergeRefIdeal_pre_finite_lse := by
  intro m ρ m' ρ' hpre hagree
  refine ⟨fun c => (Cert.MergeIdeal.Gen.dats m 0 c).arrAt 14 Cert.MergeIdeal.cfg0.N, ?_, ?_⟩
  · exact Cert.MergeIdeal.Value.run_blocks (F := Ideal) m ρ
  · refine (θ_run Cert.MergeRefIdeal.defs _ _).mono (fun _ h c => ⟨(h c).1.trans ?_, (h c).2⟩)
      (Cert.MergeRefIdeal.Value.run (F := Ideal) m' ρ')
    obtain ⟨h0, h1, h2, h3, h4, h5, h6, h7, h8, h9, h10, h11, h12, h13⟩ := hagree c
    obtain ⟨r0, r1, r2⟩ := Cert.MergeRef.reals (hpre c)
    refine (Cert.MergeRef.res_layer m' c).trans ?_
    rw [h0, h1, h2, h3, h4, h5, h6, h7, h8, h9, h10, h11, h12, h13]
    exact (Cert.MergeRef.layer_whole _ _ _ r0 r1 r2 _ _ _ _ _ _ _ _).trans (Cert.MergeWhole.arr14 m c).symm

theorem proj_reference_frame : Cert.quiescent_ProjRefIdeal := fun m ρ _ =>
  (θ_run Cert.ProjRefIdeal.defs _ _).mono
    (fun r h => ⟨fun c => (h c).2.2.2.2, Idealize.ShloMosaic.sem_eq_zero_of_no_sems (by decide) r.2⟩)
    (Cert.ProjRefIdeal.Value.run (F := Ideal) m ρ)

theorem proj_algebraic : Cert.algebraic_ProjIdeal_ProjRefIdeal := by
  intro m ρ m' ρ' _ hagree
  refine ⟨fun c => (Cert.ProjIdeal.Gen.dats m 0 c).arrAt 8 Cert.ProjIdeal.cfg0.N, fun c => (Cert.ProjIdeal.Gen.dats m 0 c).arrAt 9 Cert.ProjIdeal.cfg0.N,
    fun c => (Cert.ProjIdeal.Gen.dats m 0 c).arrAt 10 Cert.ProjIdeal.cfg0.N, fun c => (Cert.ProjIdeal.Gen.dats m 0 c).arrAt 11 Cert.ProjIdeal.cfg0.N, ?_, ?_⟩
  · exact Cert.ProjIdeal.Value.run_blocks (F := Ideal) m ρ
  · refine (θ_run Cert.ProjRefIdeal.defs _ _).mono (fun _ h c => ⟨(h c).1.trans ?_, (h c).2.1.trans ?_, (h c).2.2.1.trans ?_, (h c).2.2.2.1.trans ?_, (h c).2.2.2.2⟩)
      (Cert.ProjRef.results m' ρ')
    all_goals obtain ⟨h0, h1, h2, h3, h4, h5, h6, h7⟩ := hagree c
    · rw [h0, h1, h4, h5]
      exact (Cert.ProjRef.resK_whole _ _ _ _).trans (Cert.ProjWhole.arr8 m c).symm
    · rw [h0, h2, h6, h7]
      exact (Cert.ProjRef.resQ_whole _ _ _ _).trans (Cert.ProjWhole.arr9 m c).symm
    · rw [h0, h3]
      exact (Cert.ProjRef.resV_whole _ _).trans (Cert.ProjWhole.arr10 m c).symm
    · rw [h0, h1, h4, h5]
      exact (Cert.ProjRef.resM_whole _ _ _ _).trans (Cert.ProjWhole.arr11 m c).symm

theorem split_reference_frame : Cert.quiescent_SplitRefIdeal := fun m ρ _ =>
  (θ_run Cert.SplitRefIdeal.defs _ _).mono
    (fun r h => ⟨fun c => (h c).2.2.2.2.2.2.2.2.2, Idealize.ShloMosaic.sem_eq_zero_of_no_sems (by decide) r.2⟩)
    (Cert.SplitRefIdeal.Value.run (F := Ideal) m ρ)

theorem split_algebraic : Cert.algebraic_SplitIdeal_SplitRefIdeal := by
  intro m ρ m' ρ' _ hagree
  refine ⟨fun c => (Cert.SplitIdeal.Gen.dats m 0 c).arrAt 6 Cert.SplitIdeal.cfg0.N, fun c => (Cert.SplitIdeal.Gen.dats m 0 c).arrAt 7 Cert.SplitIdeal.cfg0.N,
    fun c => (Cert.SplitIdeal.Gen.dats m 0 c).arrAt 8 Cert.SplitIdeal.cfg0.N, fun c => (Cert.SplitIdeal.Gen.dats m 0 c).arrAt 9 Cert.SplitIdeal.cfg0.N,
    fun c => (Cert.SplitIdeal.Gen.dats m 0 c).arrAt 10 Cert.SplitIdeal.cfg0.N, fun c => (Cert.SplitIdeal.Gen.dats m 0 c).arrAt 11 Cert.SplitIdeal.cfg0.N,
    fun c => (Cert.SplitIdeal.Gen.dats m 0 c).arrAt 12 Cert.SplitIdeal.cfg0.N, fun c => (Cert.SplitIdeal.Gen.dats m 0 c).arrAt 13 Cert.SplitIdeal.cfg0.N,
    fun c => (Cert.SplitIdeal.Gen.dats m 0 c).arrAt 14 Cert.SplitIdeal.cfg0.N, ?_, ?_⟩
  · exact Cert.SplitIdeal.Value.run_blocks (F := Ideal) m ρ
  · refine (θ_run Cert.SplitRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (Cert.SplitRef.values m' ρ')
    all_goals obtain ⟨h0, h1, h2, h3, h4, h5⟩ := hagree c
    · exact (congrArg (fun T => fun y : Cert.SplitIdeal.S4x1x8192x256.Idx => Cert.SplitWhole.lay1 T 0 (by decide) (y 0) (y 2) (y 3))
        (Cert.SplitWhole.turned_congr h0 h1 h2 h3)).trans (Cert.SplitWhole.arr6 m c).symm
    · exact (congrArg (fun T => fun y : Cert.SplitIdeal.S4x1x8192x256.Idx => Cert.SplitWhole.lay1 T 768 (by decide) (y 0) (y 2) (y 3))
        (Cert.SplitWhole.turned_congr h0 h1 h4 h5)).trans (Cert.SplitWhole.arr7 m c).symm
    · exact (congrArg (fun T => fun y : Cert.SplitIdeal.S4x1x8192x256.Idx => Cert.SplitWhole.lay1 T 1536 (by decide) (y 0) (y 2) (y 3))
        (Cert.SplitWhole.plain_congr h0 h1)).trans (Cert.SplitWhole.arr8 m c).symm
    · exact (congrArg (fun T => fun y : Cert.SplitIdeal.S4x4x2048x256.Idx => Cert.SplitWhole.lay4 T 256 (by decide) (y 0) (y 1) (y 2) (y 3))
        (Cert.SplitWhole.turned_congr h0 h1 h2 h3)).trans (Cert.SplitWhole.arr9 m c).symm
    · exact (congrArg (fun T => fun y : Cert.SplitIdeal.S4x4x2048x256.Idx => Cert.SplitWhole.lay4 T 1024 (by decide) (y 0) (y 1) (y 2) (y 3))
        (Cert.SplitWhole.turned_congr h0 h1 h4 h5)).trans (Cert.SplitWhole.arr10 m c).symm
    · exact (congrArg (fun T => fun y : Cert.SplitIdeal.S4x4x2048x256.Idx => Cert.SplitWhole.lay4 T 1792 (by decide) (y 0) (y 1) (y 2) (y 3))
        (Cert.SplitWhole.plain_congr h0 h1)).trans (Cert.SplitWhole.arr11 m c).symm
    · exact (congrArg (fun T => fun y : Cert.SplitIdeal.S4x16x512x256.Idx => Cert.SplitWhole.lay16 T 512 (by decide) (y 0) (y 1) (y 2) (y 3))
        (Cert.SplitWhole.turned_congr h0 h1 h2 h3)).trans (Cert.SplitWhole.arr12 m c).symm
    · exact (congrArg (fun T => fun y : Cert.SplitIdeal.S4x16x512x256.Idx => Cert.SplitWhole.lay16 T 1280 (by decide) (y 0) (y 1) (y 2) (y 3))
        (Cert.SplitWhole.turned_congr h0 h1 h4 h5)).trans (Cert.SplitWhole.arr13 m c).symm
    · exact (congrArg (fun T => fun y : Cert.SplitIdeal.S4x16x512x256.Idx => Cert.SplitWhole.lay16 T 2048 (by decide) (y 0) (y 1) (y 2) (y 3))
        (Cert.SplitWhole.plain_congr h0 h1)).trans (Cert.SplitWhole.arr14 m c).symm

theorem four_reference_frame : Cert.quiescent_FourRefIdeal := fun m ρ _ =>
  (θ_run Cert.FourRefIdeal.defs _ _).mono
    (fun r h => ⟨fun c => (h c).2.2, Idealize.ShloMosaic.sem_eq_zero_of_no_sems (by decide) r.2⟩)
    (Cert.FourRefIdeal.Value.run (F := Ideal) m ρ)

theorem four_algebraic : Cert.algebraic_FourIdeal_FourRefIdeal_pre_finite_four := by
  intro m ρ m' ρ' hpre hagree
  refine ⟨fun c => (Cert.FourIdeal.Gen.dats m 0 c).arrAt 5 Cert.FourIdeal.cfg0.N, fun c => (Cert.FourIdeal.Gen.dats m 0 c).arrAt 6 Cert.FourIdeal.cfg0.N, ?_, ?_⟩
  · exact Cert.FourIdeal.Value.run_blocks (F := Ideal) m ρ
  · refine (θ_run Cert.FourRefIdeal.defs _ _).mono (fun _ h c => ⟨(h c).1.trans ?_, (h c).2.1.trans ?_, (h c).2.2⟩)
      (Cert.FourRefIdeal.Value.run (F := Ideal) m' ρ')
    · exact Cert.FourRef.first m m' c (hagree c) (hpre c)
    · exact Cert.FourRef.second m m' c (hagree c) (hpre c)

theorem claim : Cert.Claim := ⟨Cert.Kernel.Gen.facts, Cert.KernelIdeal.Gen.facts, Cert.ReferenceIdeal.Gen.facts,
  Cert.Tail.Gen.facts, Cert.TailIdeal.Gen.facts, Cert.TailRefIdeal.Gen.facts,
  Cert.Merge.Gen.facts, Cert.MergeIdeal.Gen.facts, Cert.MergeRefIdeal.Gen.facts, Cert.Proj.Gen.facts, Cert.ProjIdeal.Gen.facts, Cert.ProjRefIdeal.Gen.facts,
  Cert.Split.Gen.facts, Cert.SplitIdeal.Gen.facts, Cert.SplitRefIdeal.Gen.facts,
  Cert.Four.Gen.facts, Cert.FourIdeal.Gen.facts, Cert.FourRefIdeal.Gen.facts,
  Cert.Pre_finite.Gen.facts, Cert.Pre_finite_lse.Gen.facts, Cert.Pre_finite_four.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Tail.Gen.frame m ρ, fun m ρ _ => Cert.TailIdeal.Gen.frame m ρ, tail_reference_frame,
  fun m ρ _ => Cert.Merge.Gen.frame m ρ, fun m ρ _ => Cert.MergeIdeal.Gen.frame m ρ, fun m ρ _ => Cert.MergeIdeal.Gen.frame m ρ,
  merge_reference_frame, fun m ρ _ => merge_reference_frame m ρ trivial,
  fun m ρ _ => Cert.Proj.Gen.frame m ρ, fun m ρ _ => Cert.ProjIdeal.Gen.frame m ρ, proj_reference_frame,
  fun m ρ _ => Cert.Split.Gen.frame m ρ, fun m ρ _ => Cert.SplitIdeal.Gen.frame m ρ, split_reference_frame,
  fun m ρ _ => Cert.Four.Gen.frame m ρ, fun m ρ _ => Cert.FourIdeal.Gen.frame m ρ, fun m ρ _ => Cert.FourIdeal.Gen.frame m ρ,
  four_reference_frame, fun m ρ _ => four_reference_frame m ρ trivial,
  IdealRules.named_const.statement Cert.KernelIdeal.κ "inv_ln2" .f32 0x3FB8AA3B#32 (((Real.log 2)⁻¹ : ℝ) : EReal) rfl,
  algebraic, trivial, tail_algebraic, trivial, merge_algebraic, trivial, proj_algebraic, trivial, split_algebraic,
  IdealRules.named_const.statement Cert.FourIdeal.κ "inv_ln2" .f32 0x3FB8AA3B#32 (((Real.log 2)⁻¹ : ℝ) : EReal) rfl, four_algebraic⟩

end Cert.Proof

end
